-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Gelu (m : (ℓ : Loc Cert.Gelu.nD Cert.Gelu.τ Cert.Gelu.sig) → Buf (Elt Bits) ℓ) : Prop :=
  True

def Pre_GeluIdeal (m : (ℓ : Loc Cert.GeluIdeal.nD Cert.GeluIdeal.τ Cert.GeluIdeal.sig) → Buf (Elt Ideal) ℓ) : Prop :=
  True

def Pre_GeluRefIdeal (m : (ℓ : Loc Cert.GeluRefIdeal.nD Cert.GeluRefIdeal.τ Cert.GeluRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_MergeA (m : (ℓ : Loc Cert.MergeA.nD Cert.MergeA.τ Cert.MergeA.sig) → Buf (Elt Bits) ℓ) : Prop :=
  True

def Pre_MergeAIdeal (m : (ℓ : Loc Cert.MergeAIdeal.nD Cert.MergeAIdeal.τ Cert.MergeAIdeal.sig) → Buf (Elt Ideal) ℓ) : Prop :=
  True

def Pre_MergeARefIdeal (m : (ℓ : Loc Cert.MergeARefIdeal.nD Cert.MergeARefIdeal.τ Cert.MergeARefIdeal.sig) → Buf (Elt Ideal) ℓ) : Prop :=
  True

def Pre_MergeB (m : (ℓ : Loc Cert.MergeB.nD Cert.MergeB.τ Cert.MergeB.sig) → Buf (Elt Bits) ℓ) : Prop :=
  True

def Pre_MergeBIdeal (m : (ℓ : Loc Cert.MergeBIdeal.nD Cert.MergeBIdeal.τ Cert.MergeBIdeal.sig) → Buf (Elt Ideal) ℓ) : Prop :=
  True

def Pre_MergeBRefIdeal (m : (ℓ : Loc Cert.MergeBRefIdeal.nD Cert.MergeBRefIdeal.τ Cert.MergeBRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Gelu [hGelu : Cert.Gelu.Facts] : Prop :=
  ∀ (m : (ℓ : Loc Cert.Gelu.nD Cert.Gelu.τ Cert.Gelu.sig) → Buf (Elt Bits) ℓ) (g : Dev Cert.Gelu.nD → PrngReg), Pre_Gelu m →
    θ_run (Cert.Gelu.defs (F := Bits)) (onTc (τ := Cert.Gelu.τ) (Cert.Gelu.main (F := Bits))) ⟨m, fun _ => 0, g⟩ (fun r => (∀ c : Dev Cert.Gelu.nD,
      r.2.mem ((c.tc : Thread Cert.Gelu.nD Cert.Gelu.τ).loc Cert.Gelu.main_arg0) = m ((c.tc : Thread Cert.Gelu.nD Cert.Gelu.τ).loc Cert.Gelu.main_arg0)
      ∧ r.2.mem ((c.tc : Thread Cert.Gelu.nD Cert.Gelu.τ).loc Cert.Gelu.main_arg1) = m ((c.tc : Thread Cert.Gelu.nD Cert.Gelu.τ).loc Cert.Gelu.main_arg1))
      ∧ r.2.sem = fun _ => 0)

def quiescent_GeluIdeal [hGeluIdeal : Cert.GeluIdeal.Facts] : Prop :=
  ∀ (m : (ℓ : Loc Cert.GeluIdeal.nD Cert.GeluIdeal.τ Cert.GeluIdeal.sig) → Buf (Elt Ideal) ℓ) (g : Dev Cert.GeluIdeal.nD → PrngReg), Pre_GeluIdeal m →
    θ_run (Cert.GeluIdeal.defs (F := Ideal)) (onTc (τ := Cert.GeluIdeal.τ) (Cert.GeluIdeal.main (F := Ideal))) ⟨m, fun _ => 0, g⟩ (fun r => (∀ c : Dev Cert.GeluIdeal.nD,
      r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
      ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1))
      ∧ r.2.sem = fun _ => 0)

def quiescent_GeluRefIdeal [hGeluRefIdeal : Cert.GeluRefIdeal.Facts] : Prop :=
  ∀ (m : (ℓ : Loc Cert.GeluRefIdeal.nD Cert.GeluRefIdeal.τ Cert.GeluRefIdeal.sig) → Buf (Elt Ideal) ℓ) (g : Dev Cert.GeluRefIdeal.nD → PrngReg), Pre_GeluRefIdeal m →
    θ_run (Cert.GeluRefIdeal.defs (F := Ideal)) (onTc (τ := Cert.GeluRefIdeal.τ) (Cert.GeluRefIdeal.main (F := Ideal))) ⟨m, fun _ => 0, g⟩ (fun r => (∀ c : Dev Cert.GeluRefIdeal.nD,
      r.2.mem ((c.tc : Thread Cert.GeluRefIdeal.nD Cert.GeluRefIdeal.τ).loc Cert.GeluRefIdeal.main_arg0) = m ((c.tc : Thread Cert.GeluRefIdeal.nD Cert.GeluRefIdeal.τ).loc Cert.GeluRefIdeal.main_arg0)
      ∧ r.2.mem ((c.tc : Thread Cert.GeluRefIdeal.nD Cert.GeluRefIdeal.τ).loc Cert.GeluRefIdeal.main_arg1) = m ((c.tc : Thread Cert.GeluRefIdeal.nD Cert.GeluRefIdeal.τ).loc Cert.GeluRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_MergeA [hMergeA : Cert.MergeA.Facts] : Prop :=
  ∀ (m : (ℓ : Loc Cert.MergeA.nD Cert.MergeA.τ Cert.MergeA.sig) → Buf (Elt Bits) ℓ) (g : Dev Cert.MergeA.nD → PrngReg), Pre_MergeA m →
    θ_run (Cert.MergeA.defs (F := Bits)) (onTc (τ := Cert.MergeA.τ) (Cert.MergeA.main (F := Bits))) ⟨m, fun _ => 0, g⟩ (fun r => (∀ c : Dev Cert.MergeA.nD,
      r.2.mem ((c.tc : Thread Cert.MergeA.nD Cert.MergeA.τ).loc Cert.MergeA.main_arg0) = m ((c.tc : Thread Cert.MergeA.nD Cert.MergeA.τ).loc Cert.MergeA.main_arg0)
      ∧ r.2.mem ((c.tc : Thread Cert.MergeA.nD Cert.MergeA.τ).loc Cert.MergeA.main_arg1) = m ((c.tc : Thread Cert.MergeA.nD Cert.MergeA.τ).loc Cert.MergeA.main_arg1)
      ∧ r.2.mem ((c.tc : Thread Cert.MergeA.nD Cert.MergeA.τ).loc Cert.MergeA.main_arg2) = m ((c.tc : Thread Cert.MergeA.nD Cert.MergeA.τ).loc Cert.MergeA.main_arg2))
      ∧ r.2.sem = fun _ => 0)

def quiescent_MergeAIdeal [hMergeAIdeal : Cert.MergeAIdeal.Facts] : Prop :=
  ∀ (m : (ℓ : Loc Cert.MergeAIdeal.nD Cert.MergeAIdeal.τ Cert.MergeAIdeal.sig) → Buf (Elt Ideal) ℓ) (g : Dev Cert.MergeAIdeal.nD → PrngReg), Pre_MergeAIdeal m →
    θ_run (Cert.MergeAIdeal.defs (F := Ideal)) (onTc (τ := Cert.MergeAIdeal.τ) (Cert.MergeAIdeal.main (F := Ideal))) ⟨m, fun _ => 0, g⟩ (fun r => (∀ c : Dev Cert.MergeAIdeal.nD,
      r.2.mem ((c.tc : Thread Cert.MergeAIdeal.nD Cert.MergeAIdeal.τ).loc Cert.MergeAIdeal.main_arg0) = m ((c.tc : Thread Cert.MergeAIdeal.nD Cert.MergeAIdeal.τ).loc Cert.MergeAIdeal.main_arg0)
      ∧ r.2.mem ((c.tc : Thread Cert.MergeAIdeal.nD Cert.MergeAIdeal.τ).loc Cert.MergeAIdeal.main_arg1) = m ((c.tc : Thread Cert.MergeAIdeal.nD Cert.MergeAIdeal.τ).loc Cert.MergeAIdeal.main_arg1)
      ∧ r.2.mem ((c.tc : Thread Cert.MergeAIdeal.nD Cert.MergeAIdeal.τ).loc Cert.MergeAIdeal.main_arg2) = m ((c.tc : Thread Cert.MergeAIdeal.nD Cert.MergeAIdeal.τ).loc Cert.MergeAIdeal.main_arg2))
      ∧ r.2.sem = fun _ => 0)

def quiescent_MergeARefIdeal [hMergeARefIdeal : Cert.MergeARefIdeal.Facts] : Prop :=
  ∀ (m : (ℓ : Loc Cert.MergeARefIdeal.nD Cert.MergeARefIdeal.τ Cert.MergeARefIdeal.sig) → Buf (Elt Ideal) ℓ) (g : Dev Cert.MergeARefIdeal.nD → PrngReg), Pre_MergeARefIdeal m →
    θ_run (Cert.MergeARefIdeal.defs (F := Ideal)) (onTc (τ := Cert.MergeARefIdeal.τ) (Cert.MergeARefIdeal.main (F := Ideal))) ⟨m, fun _ => 0, g⟩ (fun r => (∀ c : Dev Cert.MergeARefIdeal.nD,
      r.2.mem ((c.tc : Thread Cert.MergeARefIdeal.nD Cert.MergeARefIdeal.τ).loc Cert.MergeARefIdeal.main_arg0) = m ((c.tc : Thread Cert.MergeARefIdeal.nD Cert.MergeARefIdeal.τ).loc Cert.MergeARefIdeal.main_arg0)
      ∧ r.2.mem ((c.tc : Thread Cert.MergeARefIdeal.nD Cert.MergeARefIdeal.τ).loc Cert.MergeARefIdeal.main_arg1) = m ((c.tc : Thread Cert.MergeARefIdeal.nD Cert.MergeARefIdeal.τ).loc Cert.MergeARefIdeal.main_arg1)
      ∧ r.2.mem ((c.tc : Thread Cert.MergeARefIdeal.nD Cert.MergeARefIdeal.τ).loc Cert.MergeARefIdeal.main_arg2) = m ((c.tc : Thread Cert.MergeARefIdeal.nD Cert.MergeARefIdeal.τ).loc Cert.MergeARefIdeal.main_arg2))
      ∧ r.2.sem = fun _ => 0)

def quiescent_MergeB [hMergeB : Cert.MergeB.Facts] : Prop :=
  ∀ (m : (ℓ : Loc Cert.MergeB.nD Cert.MergeB.τ Cert.MergeB.sig) → Buf (Elt Bits) ℓ) (g : Dev Cert.MergeB.nD → PrngReg), Pre_MergeB m →
    θ_run (Cert.MergeB.defs (F := Bits)) (onTc (τ := Cert.MergeB.τ) (Cert.MergeB.main (F := Bits))) ⟨m, fun _ => 0, g⟩ (fun r => (∀ c : Dev Cert.MergeB.nD,
      r.2.mem ((c.tc : Thread Cert.MergeB.nD Cert.MergeB.τ).loc Cert.MergeB.main_arg0) = m ((c.tc : Thread Cert.MergeB.nD Cert.MergeB.τ).loc Cert.MergeB.main_arg0)
      ∧ r.2.mem ((c.tc : Thread Cert.MergeB.nD Cert.MergeB.τ).loc Cert.MergeB.main_arg1) = m ((c.tc : Thread Cert.MergeB.nD Cert.MergeB.τ).loc Cert.MergeB.main_arg1)
      ∧ r.2.mem ((c.tc : Thread Cert.MergeB.nD Cert.MergeB.τ).loc Cert.MergeB.main_arg2) = m ((c.tc : Thread Cert.MergeB.nD Cert.MergeB.τ).loc Cert.MergeB.main_arg2)
      ∧ r.2.mem ((c.tc : Thread Cert.MergeB.nD Cert.MergeB.τ).loc Cert.MergeB.main_arg3) = m ((c.tc : Thread Cert.MergeB.nD Cert.MergeB.τ).loc Cert.MergeB.main_arg3))
      ∧ r.2.sem = fun _ => 0)

def quiescent_MergeBIdeal [hMergeBIdeal : Cert.MergeBIdeal.Facts] : Prop :=
  ∀ (m : (ℓ : Loc Cert.MergeBIdeal.nD Cert.MergeBIdeal.τ Cert.MergeBIdeal.sig) → Buf (Elt Ideal) ℓ) (g : Dev Cert.MergeBIdeal.nD → PrngReg), Pre_MergeBIdeal m →
    θ_run (Cert.MergeBIdeal.defs (F := Ideal)) (onTc (τ := Cert.MergeBIdeal.τ) (Cert.MergeBIdeal.main (F := Ideal))) ⟨m, fun _ => 0, g⟩ (fun r => (∀ c : Dev Cert.MergeBIdeal.nD,
      r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
      ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
      ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
      ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3))
      ∧ r.2.sem = fun _ => 0)

def quiescent_MergeBRefIdeal [hMergeBRefIdeal : Cert.MergeBRefIdeal.Facts] : Prop :=
  ∀ (m : (ℓ : Loc Cert.MergeBRefIdeal.nD Cert.MergeBRefIdeal.τ Cert.MergeBRefIdeal.sig) → Buf (Elt Ideal) ℓ) (g : Dev Cert.MergeBRefIdeal.nD → PrngReg), Pre_MergeBRefIdeal m →
    θ_run (Cert.MergeBRefIdeal.defs (F := Ideal)) (onTc (τ := Cert.MergeBRefIdeal.τ) (Cert.MergeBRefIdeal.main (F := Ideal))) ⟨m, fun _ => 0, g⟩ (fun r => (∀ c : Dev Cert.MergeBRefIdeal.nD,
      r.2.mem ((c.tc : Thread Cert.MergeBRefIdeal.nD Cert.MergeBRefIdeal.τ).loc Cert.MergeBRefIdeal.main_arg0) = m ((c.tc : Thread Cert.MergeBRefIdeal.nD Cert.MergeBRefIdeal.τ).loc Cert.MergeBRefIdeal.main_arg0)
      ∧ r.2.mem ((c.tc : Thread Cert.MergeBRefIdeal.nD Cert.MergeBRefIdeal.τ).loc Cert.MergeBRefIdeal.main_arg1) = m ((c.tc : Thread Cert.MergeBRefIdeal.nD Cert.MergeBRefIdeal.τ).loc Cert.MergeBRefIdeal.main_arg1)
      ∧ r.2.mem ((c.tc : Thread Cert.MergeBRefIdeal.nD Cert.MergeBRefIdeal.τ).loc Cert.MergeBRefIdeal.main_arg2) = m ((c.tc : Thread Cert.MergeBRefIdeal.nD Cert.MergeBRefIdeal.τ).loc Cert.MergeBRefIdeal.main_arg2)
      ∧ r.2.mem ((c.tc : Thread Cert.MergeBRefIdeal.nD Cert.MergeBRefIdeal.τ).loc Cert.MergeBRefIdeal.main_arg3) = m ((c.tc : Thread Cert.MergeBRefIdeal.nD Cert.MergeBRefIdeal.τ).loc Cert.MergeBRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Gelu_GeluIdeal : Prop :=
  True

def algebraic_GeluIdeal_GeluRefIdeal [hGeluIdeal : Cert.GeluIdeal.Facts] [hGeluRefIdeal : Cert.GeluRefIdeal.Facts] : Prop :=
  ∀ (m : (ℓ : Loc Cert.GeluIdeal.nD Cert.GeluIdeal.τ Cert.GeluIdeal.sig) → Buf (Elt Ideal) ℓ) (g : Dev Cert.GeluIdeal.nD → PrngReg)
    (m' : (ℓ : Loc Cert.GeluRefIdeal.nD Cert.GeluRefIdeal.τ Cert.GeluRefIdeal.sig) → Buf (Elt Ideal) ℓ) (g' : Dev Cert.GeluRefIdeal.nD → PrngReg), Pre_GeluIdeal m →
    (∀ c : Dev Cert.GeluIdeal.nD,
      m' ((c.tc : Thread Cert.GeluRefIdeal.nD Cert.GeluRefIdeal.τ).loc Cert.GeluRefIdeal.main_arg0) = m ((c.tc : Thread Cert.GeluIdeal.nD Cert.GeluIdeal.τ).loc Cert.GeluIdeal.main_arg0)
      ∧ m' ((c.tc : Thread Cert.GeluRefIdeal.nD Cert.GeluRefIdeal.τ).loc Cert.GeluRefIdeal.main_arg1) = m ((c.tc : Thread Cert.GeluIdeal.nD Cert.GeluIdeal.τ).loc Cert.GeluIdeal.main_arg1)) →
    ∃ (v0 : (c : Dev Cert.GeluIdeal.nD) → Buf (Elt Ideal) ((c.tc : Thread Cert.GeluIdeal.nD Cert.GeluIdeal.τ).loc Cert.GeluIdeal.main_v4)),
      θ_run (Cert.GeluIdeal.defs (F := Ideal)) (onTc (τ := Cert.GeluIdeal.τ) (Cert.GeluIdeal.main (F := Ideal))) ⟨m, fun _ => 0, g⟩ (fun r => ∀ c : Dev Cert.GeluIdeal.nD,
          r.2.mem ((c.tc : Thread Cert.GeluIdeal.nD Cert.GeluIdeal.τ).loc Cert.GeluIdeal.main_v4) = v0 c
          ∧ r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
          ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1))
      ∧ θ_run (Cert.GeluRefIdeal.defs (F := Ideal)) (onTc (τ := Cert.GeluRefIdeal.τ) (Cert.GeluRefIdeal.main (F := Ideal))) ⟨m', fun _ => 0, g'⟩ (fun r => ∀ c : Dev Cert.GeluRefIdeal.nD,
          r.2.mem ((c.tc : Thread Cert.GeluRefIdeal.nD Cert.GeluRefIdeal.τ).loc Cert.GeluRefIdeal.main_v11) = v0 c
          ∧ r.2.mem ((c.tc : Thread Cert.GeluRefIdeal.nD Cert.GeluRefIdeal.τ).loc Cert.GeluRefIdeal.main_arg0) = m' ((c.tc : Thread Cert.GeluRefIdeal.nD Cert.GeluRefIdeal.τ).loc Cert.GeluRefIdeal.main_arg0)
          ∧ r.2.mem ((c.tc : Thread Cert.GeluRefIdeal.nD Cert.GeluRefIdeal.τ).loc Cert.GeluRefIdeal.main_arg1) = m' ((c.tc : Thread Cert.GeluRefIdeal.nD Cert.GeluRefIdeal.τ).loc Cert.GeluRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v8)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v8) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v10) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v6)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v6) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v15) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)) →
    ∃ (v0 : (c : Dev Cert.GmlpIdeal.nD) → Buf (Elt Ideal) ((c.tc : Thread Cert.GmlpIdeal.nD Cert.GmlpIdeal.τ).loc Cert.GmlpIdeal.main_v9)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v9) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v44) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4))

def preserves_MergeA_MergeAIdeal : Prop :=
  True

def algebraic_MergeAIdeal_MergeARefIdeal [hMergeAIdeal : Cert.MergeAIdeal.Facts] [hMergeARefIdeal : Cert.MergeARefIdeal.Facts] : Prop :=
  ∀ (m : (ℓ : Loc Cert.MergeAIdeal.nD Cert.MergeAIdeal.τ Cert.MergeAIdeal.sig) → Buf (Elt Ideal) ℓ) (g : Dev Cert.MergeAIdeal.nD → PrngReg)
    (m' : (ℓ : Loc Cert.MergeARefIdeal.nD Cert.MergeARefIdeal.τ Cert.MergeARefIdeal.sig) → Buf (Elt Ideal) ℓ) (g' : Dev Cert.MergeARefIdeal.nD → PrngReg), Pre_MergeAIdeal m →
    (∀ c : Dev Cert.MergeAIdeal.nD,
      m' ((c.tc : Thread Cert.MergeARefIdeal.nD Cert.MergeARefIdeal.τ).loc Cert.MergeARefIdeal.main_arg0) = m ((c.tc : Thread Cert.MergeAIdeal.nD Cert.MergeAIdeal.τ).loc Cert.MergeAIdeal.main_arg0)
      ∧ m' ((c.tc : Thread Cert.MergeARefIdeal.nD Cert.MergeARefIdeal.τ).loc Cert.MergeARefIdeal.main_arg1) = m ((c.tc : Thread Cert.MergeAIdeal.nD Cert.MergeAIdeal.τ).loc Cert.MergeAIdeal.main_arg1)
      ∧ m' ((c.tc : Thread Cert.MergeARefIdeal.nD Cert.MergeARefIdeal.τ).loc Cert.MergeARefIdeal.main_arg2) = m ((c.tc : Thread Cert.MergeAIdeal.nD Cert.MergeAIdeal.τ).loc Cert.MergeAIdeal.main_arg2)) →
    ∃ (v0 : (c : Dev Cert.MergeAIdeal.nD) → Buf (Elt Ideal) ((c.tc : Thread Cert.MergeAIdeal.nD Cert.MergeAIdeal.τ).loc Cert.MergeAIdeal.main_v6)),
      θ_run (Cert.MergeAIdeal.defs (F := Ideal)) (onTc (τ := Cert.MergeAIdeal.τ) (Cert.MergeAIdeal.main (F := Ideal))) ⟨m, fun _ => 0, g⟩ (fun r => ∀ c : Dev Cert.MergeAIdeal.nD,
          r.2.mem ((c.tc : Thread Cert.MergeAIdeal.nD Cert.MergeAIdeal.τ).loc Cert.MergeAIdeal.main_v6) = v0 c
          ∧ r.2.mem ((c.tc : Thread Cert.MergeAIdeal.nD Cert.MergeAIdeal.τ).loc Cert.MergeAIdeal.main_arg0) = m ((c.tc : Thread Cert.MergeAIdeal.nD Cert.MergeAIdeal.τ).loc Cert.MergeAIdeal.main_arg0)
          ∧ r.2.mem ((c.tc : Thread Cert.MergeAIdeal.nD Cert.MergeAIdeal.τ).loc Cert.MergeAIdeal.main_arg1) = m ((c.tc : Thread Cert.MergeAIdeal.nD Cert.MergeAIdeal.τ).loc Cert.MergeAIdeal.main_arg1)
          ∧ r.2.mem ((c.tc : Thread Cert.MergeAIdeal.nD Cert.MergeAIdeal.τ).loc Cert.MergeAIdeal.main_arg2) = m ((c.tc : Thread Cert.MergeAIdeal.nD Cert.MergeAIdeal.τ).loc Cert.MergeAIdeal.main_arg2))
      ∧ θ_run (Cert.MergeARefIdeal.defs (F := Ideal)) (onTc (τ := Cert.MergeARefIdeal.τ) (Cert.MergeARefIdeal.main (F := Ideal))) ⟨m', fun _ => 0, g'⟩ (fun r => ∀ c : Dev Cert.MergeARefIdeal.nD,
          r.2.mem ((c.tc : Thread Cert.MergeARefIdeal.nD Cert.MergeARefIdeal.τ).loc Cert.MergeARefIdeal.main_v5) = v0 c
          ∧ r.2.mem ((c.tc : Thread Cert.MergeARefIdeal.nD Cert.MergeARefIdeal.τ).loc Cert.MergeARefIdeal.main_arg0) = m' ((c.tc : Thread Cert.MergeARefIdeal.nD Cert.MergeARefIdeal.τ).loc Cert.MergeARefIdeal.main_arg0)
          ∧ r.2.mem ((c.tc : Thread Cert.MergeARefIdeal.nD Cert.MergeARefIdeal.τ).loc Cert.MergeARefIdeal.main_arg1) = m' ((c.tc : Thread Cert.MergeARefIdeal.nD Cert.MergeARefIdeal.τ).loc Cert.MergeARefIdeal.main_arg1)
          ∧ r.2.mem ((c.tc : Thread Cert.MergeARefIdeal.nD Cert.MergeARefIdeal.τ).loc Cert.MergeARefIdeal.main_arg2) = m' ((c.tc : Thread Cert.MergeARefIdeal.nD Cert.MergeARefIdeal.τ).loc Cert.MergeARefIdeal.main_arg2))

def preserves_MergeB_MergeBIdeal : Prop :=
  True

def algebraic_MergeBIdeal_MergeBRefIdeal [hMergeBIdeal : Cert.MergeBIdeal.Facts] [hMergeBRefIdeal : Cert.MergeBRefIdeal.Facts] : Prop :=
  ∀ (m : (ℓ : Loc Cert.MergeBIdeal.nD Cert.MergeBIdeal.τ Cert.MergeBIdeal.sig) → Buf (Elt Ideal) ℓ) (g : Dev Cert.MergeBIdeal.nD → PrngReg)
    (m' : (ℓ : Loc Cert.MergeBRefIdeal.nD Cert.MergeBRefIdeal.τ Cert.MergeBRefIdeal.sig) → Buf (Elt Ideal) ℓ) (g' : Dev Cert.MergeBRefIdeal.nD → PrngReg), Pre_MergeBIdeal m →
    (∀ c : Dev Cert.MergeBIdeal.nD,
      m' ((c.tc : Thread Cert.MergeBRefIdeal.nD Cert.MergeBRefIdeal.τ).loc Cert.MergeBRefIdeal.main_arg0) = m ((c.tc : Thread Cert.MergeBIdeal.nD Cert.MergeBIdeal.τ).loc Cert.MergeBIdeal.main_arg0)
      ∧ m' ((c.tc : Thread Cert.MergeBRefIdeal.nD Cert.MergeBRefIdeal.τ).loc Cert.MergeBRefIdeal.main_arg1) = m ((c.tc : Thread Cert.MergeBIdeal.nD Cert.MergeBIdeal.τ).loc Cert.MergeBIdeal.main_arg1)
      ∧ m' ((c.tc : Thread Cert.MergeBRefIdeal.nD Cert.MergeBRefIdeal.τ).loc Cert.MergeBRefIdeal.main_arg2) = m ((c.tc : Thread Cert.MergeBIdeal.nD Cert.MergeBIdeal.τ).loc Cert.MergeBIdeal.main_arg2)
      ∧ m' ((c.tc : Thread Cert.MergeBRefIdeal.nD Cert.MergeBRefIdeal.τ).loc Cert.MergeBRefIdeal.main_arg3) = m ((c.tc : Thread Cert.MergeBIdeal.nD Cert.MergeBIdeal.τ).loc Cert.MergeBIdeal.main_arg3)) →
    ∃ (v0 : (c : Dev Cert.MergeBIdeal.nD) → Buf (Elt Ideal) ((c.tc : Thread Cert.MergeBIdeal.nD Cert.MergeBIdeal.τ).loc Cert.MergeBIdeal.main_v7)),
      θ_run (Cert.MergeBIdeal.defs (F := Ideal)) (onTc (τ := Cert.MergeBIdeal.τ) (Cert.MergeBIdeal.main (F := Ideal))) ⟨m, fun _ => 0, g⟩ (fun r => ∀ c : Dev Cert.MergeBIdeal.nD,
          r.2.mem ((c.tc : Thread Cert.MergeBIdeal.nD Cert.MergeBIdeal.τ).loc Cert.MergeBIdeal.main_v7) = v0 c
          ∧ r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
          ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
          ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
          ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3))
      ∧ θ_run (Cert.MergeBRefIdeal.defs (F := Ideal)) (onTc (τ := Cert.MergeBRefIdeal.τ) (Cert.MergeBRefIdeal.main (F := Ideal))) ⟨m', fun _ => 0, g'⟩ (fun r => ∀ c : Dev Cert.MergeBRefIdeal.nD,
          r.2.mem ((c.tc : Thread Cert.MergeBRefIdeal.nD Cert.MergeBRefIdeal.τ).loc Cert.MergeBRefIdeal.main_v7) = v0 c
          ∧ r.2.mem ((c.tc : Thread Cert.MergeBRefIdeal.nD Cert.MergeBRefIdeal.τ).loc Cert.MergeBRefIdeal.main_arg0) = m' ((c.tc : Thread Cert.MergeBRefIdeal.nD Cert.MergeBRefIdeal.τ).loc Cert.MergeBRefIdeal.main_arg0)
          ∧ r.2.mem ((c.tc : Thread Cert.MergeBRefIdeal.nD Cert.MergeBRefIdeal.τ).loc Cert.MergeBRefIdeal.main_arg1) = m' ((c.tc : Thread Cert.MergeBRefIdeal.nD Cert.MergeBRefIdeal.τ).loc Cert.MergeBRefIdeal.main_arg1)
          ∧ r.2.mem ((c.tc : Thread Cert.MergeBRefIdeal.nD Cert.MergeBRefIdeal.τ).loc Cert.MergeBRefIdeal.main_arg2) = m' ((c.tc : Thread Cert.MergeBRefIdeal.nD Cert.MergeBRefIdeal.τ).loc Cert.MergeBRefIdeal.main_arg2)
          ∧ r.2.mem ((c.tc : Thread Cert.MergeBRefIdeal.nD Cert.MergeBRefIdeal.τ).loc Cert.MergeBRefIdeal.main_arg3) = m' ((c.tc : Thread Cert.MergeBRefIdeal.nD Cert.MergeBRefIdeal.τ).loc Cert.MergeBRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v7_0)) (v1 : (c : Dev Cert.OutIdeal.nD) → Buf (Elt Ideal) ((c.tc : Thread Cert.OutIdeal.nD Cert.OutIdeal.τ).loc Cert.OutIdeal.main_v7_1)) (v2 : (c : Dev Cert.OutIdeal.nD) → Buf (Elt Ideal) ((c.tc : Thread Cert.OutIdeal.nD Cert.OutIdeal.τ).loc Cert.OutIdeal.main_v7_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7_0) = v0 c
          ∧ r.2.mem ((c.tc : Thread Cert.OutIdeal.nD Cert.OutIdeal.τ).loc Cert.OutIdeal.main_v7_1) = v1 c
          ∧ r.2.mem ((c.tc : Thread Cert.OutIdeal.nD Cert.OutIdeal.τ).loc Cert.OutIdeal.main_v7_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v7) = v0 c
          ∧ r.2.mem ((c.tc : Thread Cert.OutRefIdeal.nD Cert.OutRefIdeal.τ).loc Cert.OutRefIdeal.main_v13) = v1 c
          ∧ r.2.mem ((c.tc : Thread Cert.OutRefIdeal.nD Cert.OutRefIdeal.τ).loc Cert.OutRefIdeal.main_v14) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v11)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v11) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v21) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v7_0)) (v1 : (c : Dev Cert.DownIdeal.nD) → Buf (Elt Ideal) ((c.tc : Thread Cert.DownIdeal.nD Cert.DownIdeal.τ).loc Cert.DownIdeal.main_v7_1)) (v2 : (c : Dev Cert.DownIdeal.nD) → Buf (Elt Ideal) ((c.tc : Thread Cert.DownIdeal.nD Cert.DownIdeal.τ).loc Cert.DownIdeal.main_v7_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v7_0) = v0 c
          ∧ r.2.mem ((c.tc : Thread Cert.DownIdeal.nD Cert.DownIdeal.τ).loc Cert.DownIdeal.main_v7_1) = v1 c
          ∧ r.2.mem ((c.tc : Thread Cert.DownIdeal.nD Cert.DownIdeal.τ).loc Cert.DownIdeal.main_v7_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v7) = v0 c
          ∧ r.2.mem ((c.tc : Thread Cert.DownRefIdeal.nD Cert.DownRefIdeal.τ).loc Cert.DownRefIdeal.main_v13) = v1 c
          ∧ r.2.mem ((c.tc : Thread Cert.DownRefIdeal.nD Cert.DownRefIdeal.τ).loc Cert.DownRefIdeal.main_v14) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v18)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v18) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v40) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def Claim : Prop :=
  ∃ (hNorm : Cert.Norm.Facts) (hNormIdeal : Cert.NormIdeal.Facts) (hNormRefIdeal : Cert.NormRefIdeal.Facts) (hGelu : Cert.Gelu.Facts) (hGeluIdeal : Cert.GeluIdeal.Facts) (hGeluRefIdeal : Cert.GeluRefIdeal.Facts) (hQkv : Cert.Qkv.Facts) (hQkvIdeal : Cert.QkvIdeal.Facts) (hQkvRefIdeal : Cert.QkvRefIdeal.Facts) (hGates : Cert.Gates.Facts) (hGatesIdeal : Cert.GatesIdeal.Facts) (hGatesRefIdeal : Cert.GatesRefIdeal.Facts) (hGmlp : Cert.Gmlp.Facts) (hGmlpIdeal : Cert.GmlpIdeal.Facts) (hGmlpRefIdeal : Cert.GmlpRefIdeal.Facts) (hMergeA : Cert.MergeA.Facts) (hMergeAIdeal : Cert.MergeAIdeal.Facts) (hMergeARefIdeal : Cert.MergeARefIdeal.Facts) (hMergeB : Cert.MergeB.Facts) (hMergeBIdeal : Cert.MergeBIdeal.Facts) (hMergeBRefIdeal : Cert.MergeBRefIdeal.Facts) (hOut : Cert.Out.Facts) (hOutIdeal : Cert.OutIdeal.Facts) (hOutRefIdeal : Cert.OutRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hPle : Cert.Ple.Facts) (hPleIdeal : Cert.PleIdeal.Facts) (hPleRefIdeal : Cert.PleRefIdeal.Facts),
    quiescent_Norm (hNorm := hNorm)
    ∧ quiescent_NormIdeal (hNormIdeal := hNormIdeal)
    ∧ quiescent_NormRefIdeal (hNormRefIdeal := hNormRefIdeal)
    ∧ quiescent_Gelu (hGelu := hGelu)
    ∧ quiescent_GeluIdeal (hGeluIdeal := hGeluIdeal)
    ∧ quiescent_GeluRefIdeal (hGeluRefIdeal := hGeluRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Gates (hGates := hGates)
    ∧ quiescent_GatesIdeal (hGatesIdeal := hGatesIdeal)
    ∧ quiescent_GatesRefIdeal (hGatesRefIdeal := hGatesRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_MergeA (hMergeA := hMergeA)
    ∧ quiescent_MergeAIdeal (hMergeAIdeal := hMergeAIdeal)
    ∧ quiescent_MergeARefIdeal (hMergeARefIdeal := hMergeARefIdeal)
    ∧ quiescent_MergeB (hMergeB := hMergeB)
    ∧ quiescent_MergeBIdeal (hMergeBIdeal := hMergeBIdeal)
    ∧ quiescent_MergeBRefIdeal (hMergeBRefIdeal := hMergeBRefIdeal)
    ∧ quiescent_Out (hOut := hOut)
    ∧ quiescent_OutIdeal (hOutIdeal := hOutIdeal)
    ∧ quiescent_OutRefIdeal (hOutRefIdeal := hOutRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Ple (hPle := hPle)
    ∧ quiescent_PleIdeal (hPleIdeal := hPleIdeal)
    ∧ quiescent_PleRefIdeal (hPleRefIdeal := hPleRefIdeal)
    ∧ preserves_Norm_NormIdeal
    ∧ algebraic_NormIdeal_NormRefIdeal (hNormIdeal := hNormIdeal) (hNormRefIdeal := hNormRefIdeal)
    ∧ preserves_Gelu_GeluIdeal
    ∧ algebraic_GeluIdeal_GeluRefIdeal (hGeluIdeal := hGeluIdeal) (hGeluRefIdeal := hGeluRefIdeal)
    ∧ preserves_Qkv_QkvIdeal
    ∧ algebraic_QkvIdeal_QkvRefIdeal (hQkvIdeal := hQkvIdeal) (hQkvRefIdeal := hQkvRefIdeal)
    ∧ preserves_Gates_GatesIdeal
    ∧ algebraic_GatesIdeal_GatesRefIdeal (hGatesIdeal := hGatesIdeal) (hGatesRefIdeal := hGatesRefIdeal)
    ∧ preserves_Gmlp_GmlpIdeal
    ∧ algebraic_GmlpIdeal_GmlpRefIdeal (hGmlpIdeal := hGmlpIdeal) (hGmlpRefIdeal := hGmlpRefIdeal)
    ∧ preserves_MergeA_MergeAIdeal
    ∧ algebraic_MergeAIdeal_MergeARefIdeal (hMergeAIdeal := hMergeAIdeal) (hMergeARefIdeal := hMergeARefIdeal)
    ∧ preserves_MergeB_MergeBIdeal
    ∧ algebraic_MergeBIdeal_MergeBRefIdeal (hMergeBIdeal := hMergeBIdeal) (hMergeBRefIdeal := hMergeBRefIdeal)
    ∧ preserves_Out_OutIdeal
    ∧ algebraic_OutIdeal_OutRefIdeal (hOutIdeal := hOutIdeal) (hOutRefIdeal := hOutRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Ple_PleIdeal
    ∧ algebraic_PleIdeal_PleRefIdeal (hPleIdeal := hPleIdeal) (hPleRefIdeal := hPleRefIdeal)
-- ==== Norm.lean ====
abbrev S2x8192x4096 : Shape := ⟨3, ![2, 8192, 4096]⟩
abbrev S1x4096 : Shape := ⟨2, ![1, 4096]⟩
abbrev S16384x4096 : Shape := ⟨2, ![16384, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S2x8192x4096, .f32⟩
  | .hbm, ⟨1, _⟩ => ⟨S1x4096, .f32⟩
  | .hbm, ⟨2, _⟩ => ⟨S16384x4096, .f32⟩
  | .hbm, ⟨3, _⟩ => ⟨S4096, .f32⟩
  | .hbm, ⟨4, _⟩ => ⟨S1x4096, .f32⟩
  | .hbm, ⟨5, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2x8192x4096 : Shape := ⟨3, ![2, 8192, 4096]⟩
abbrev S1x4096 : Shape := ⟨2, ![1, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S16384x4096 : Shape := ⟨2, ![16384, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S1x4096, .f32⟩
  | .hbm, ⟨2, _⟩ => ⟨S4096, .f32⟩
  | .hbm, ⟨3, _⟩ => ⟨S2x8192x4096, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x4096, .f32⟩
  | .hbm, ⟨15, _⟩ => ⟨S2x8192x4096, .f32⟩
  | .hbm, ⟨16, _⟩ => ⟨S1x1x4096, .f32⟩
  | .hbm, ⟨17, _⟩ => ⟨S2x8192x4096, .f32⟩
  | .hbm, ⟨18, _⟩ => ⟨S2x8192x4096, .f32⟩
  | .hbm, ⟨19, _⟩ => ⟨S16384x4096, .f32⟩
  | .hbm, ⟨20, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Gelu.lean ====
abbrev S2x8192x4096 : Shape := ⟨3, ![2, 8192, 4096]⟩
abbrev S1x4096x28672 : Shape := ⟨3, ![1, 4096, 28672]⟩
abbrev S16384x4096 : Shape := ⟨2, ![16384, 4096]⟩
abbrev S4096x28672 : Shape := ⟨2, ![4096, 28672]⟩
abbrev S16384x8192 : Shape := ⟨2, ![16384, 8192]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x8192x4096, .f32⟩
  | .hbm, ⟨1, _⟩ => ⟨S1x4096x28672, .f32⟩
  | .hbm, ⟨2, _⟩ => ⟨S16384x4096, .f32⟩
  | .hbm, ⟨3, _⟩ => ⟨S16384x4096, .bf16⟩
  | .hbm, ⟨4, _⟩ => ⟨S4096x28672, .f32⟩
  | .hbm, ⟨5, _⟩ => ⟨S4096x28672, .bf16⟩
  | .hbm, ⟨6, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GeluRefIdeal.lean ====
abbrev S2x8192x4096 : Shape := ⟨3, ![2, 8192, 4096]⟩
abbrev S1x4096x28672 : Shape := ⟨3, ![1, 4096, 28672]⟩
abbrev S1x4096x8192 : Shape := ⟨3, ![1, 4096, 8192]⟩
abbrev S4096x8192 : Shape := ⟨2, ![4096, 8192]⟩
abbrev S2x8192x8192 : Shape := ⟨3, ![2, 8192, 8192]⟩
abbrev S_ : Shape := ⟨0, ![]⟩
abbrev S16384x8192 : Shape := ⟨2, ![16384, 8192]⟩

abbrev nBuf : Space → Nat
  | .hbm => 16
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S1x4096x28672, .f32⟩
  | .hbm, ⟨2, _⟩ => ⟨S1x4096x8192, .f32⟩
  | .hbm, ⟨3, _⟩ => ⟨S4096x8192, .f32⟩
  | .hbm, ⟨4, _⟩ => ⟨S2x8192x8192, .f32⟩
  | .hbm, ⟨5, _⟩ => ⟨S_, .f32⟩
  | .hbm, ⟨6, _⟩ => ⟨S2x8192x8192, .f32⟩
  | .hbm, ⟨7, _⟩ => ⟨S2x8192x8192, .f32⟩
  | .hbm, ⟨8, _⟩ => ⟨S2x8192x8192, .f32⟩
  | .hbm, ⟨9, _⟩ => ⟨S_, .f32⟩
  | .hbm, ⟨10, _⟩ => ⟨S2x8192x8192, .f32⟩
  | .hbm, ⟨11, _⟩ => ⟨S2x8192x8192, .f32⟩
  | .hbm, ⟨12, _⟩ => ⟨S2x8192x8192, .f32⟩
  | .hbm, ⟨13, _⟩ => ⟨S2x8192x8192, .f32⟩
  | .hbm, ⟨14, _⟩ => ⟨S16384x8192, .f32⟩
  | .hbm, ⟨15, _⟩ => ⟨S16384x8192, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Qkv.lean ====
abbrev S2x8192x4096 : Shape := ⟨3, ![2, 8192, 4096]⟩
abbrev S1x4096x28672 : Shape := ⟨3, ![1, 4096, 28672]⟩
abbrev S_ : Shape := ⟨0, ![]⟩
abbrev S4096 : Shape := ⟨1, ![4096]⟩
abbrev S8192 : Shape := ⟨1, ![8192]⟩
abbrev S12288 : Shape := ⟨1, ![12288]⟩
abbrev S1x12288 : Shape := ⟨2, ![1, 12288]⟩
abbrev S16384x4096 : Shape := ⟨2, ![16384, 4096]⟩
abbrev S4096x28672 : Shape := ⟨2, ![4096, 28672]⟩
abbrev S16384x12288 : Shape := ⟨2, ![16384, 12288]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 13
  | .vmem => 8
  | .smem => 0
  | _ => 0

abbrev bufTy : (tb : Table) → Fin (tcTables nBuf tb) → BufTy
  | .hbm, ⟨0, _⟩ => ⟨S2x8192x4096, .f32⟩
  | .hbm, ⟨1, _⟩ => ⟨S1x4096x28672, .f32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S8192, .f32⟩
  | .hbm, ⟨6, _⟩ => ⟨S12288, .f32⟩
  | .hbm, ⟨7, _⟩ => ⟨S1x12288, .f32⟩
  | .hbm, ⟨8, _⟩ => ⟨S16384x4096, .f32⟩
  | .hbm, ⟨9, _⟩ => ⟨S16384x4096, .bf16⟩
  | .hbm, ⟨10, _⟩ => ⟨S4096x28672, .f32⟩
  | .hbm, ⟨11, _⟩ => ⟨S4096x28672, .bf16⟩
  | .hbm, ⟨12, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvRefIdeal.lean ====
abbrev S2x8192x4096 : Shape := ⟨3, ![2, 8192, 4096]⟩
abbrev S1x4096x28672 : Shape := ⟨3, ![1, 4096, 28672]⟩
abbrev S1x4096x12288 : Shape := ⟨3, ![1, 4096, 12288]⟩
abbrev S4096x12288 : Shape := ⟨2, ![4096, 12288]⟩
abbrev S2x8192x12288 : Shape := ⟨3, ![2, 8192, 12288]⟩
abbrev S_ : Shape := ⟨0, ![]⟩
abbrev S16384x12288 : Shape := ⟨2, ![16384, 12288]⟩

abbrev nBuf : Space → Nat
  | .hbm => 14
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S1x4096x28672, .f32⟩
  | .hbm, ⟨2, _⟩ => ⟨S1x4096x12288, .f32⟩
  | .hbm, ⟨3, _⟩ => ⟨S4096x12288, .f32⟩
  | .hbm, ⟨4, _⟩ => ⟨S2x8192x12288, .f32⟩
  | .hbm, ⟨5, _⟩ => ⟨S2x8192x4096, .f32⟩
  | .hbm, ⟨6, _⟩ => ⟨S2x8192x4096, .f32⟩
  | .hbm, ⟨7, _⟩ => ⟨S2x8192x4096, .f32⟩
  | .hbm, ⟨8, _⟩ => ⟨S_, .f32⟩
  | .hbm, ⟨9, _⟩ => ⟨S2x8192x4096, .f32⟩
  | .hbm, ⟨10, _⟩ => ⟨S2x8192x4096, .f32⟩
  | .hbm, ⟨11, _⟩ => ⟨S2x8192x12288, .f32⟩
  | .hbm, ⟨12, _⟩ => ⟨S16384x12288, .f32⟩
  | .hbm, ⟨13, _⟩ => ⟨S16384x12288, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Gates.lean ====
abbrev S2x8192x4096 : Shape := ⟨3, ![2, 8192, 4096]⟩
abbrev S1x4096x28672 : Shape := ⟨3, ![1, 4096, 28672]⟩
abbrev S1x2x4096 : Shape := ⟨3, ![1, 2, 4096]⟩
abbrev S16384x4096 : Shape := ⟨2, ![16384, 4096]⟩
abbrev S4096x28672 : Shape := ⟨2, ![4096, 28672]⟩
abbrev S2x4096 : Shape := ⟨2, ![2, 4096]⟩
abbrev S1x8192 : Shape := ⟨2, ![1, 8192]⟩
abbrev S16384x8192 : Shape := ⟨2, ![16384, 8192]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S2x8192x4096, .f32⟩
  | .hbm, ⟨1, _⟩ => ⟨S1x4096x28672, .f32⟩
  | .hbm, ⟨2, _⟩ => ⟨S1x2x4096, .f32⟩
  | .hbm, ⟨3, _⟩ => ⟨S16384x4096, .f32⟩
  | .hbm, ⟨4, _⟩ => ⟨S16384x4096, .bf16⟩
  | .hbm, ⟨5, _⟩ => ⟨S4096x28672, .f32⟩
  | .hbm, ⟨6, _⟩ => ⟨S4096x28672, .bf16⟩
  | .hbm, ⟨7, _⟩ => ⟨S2x4096, .f32⟩
  | .hbm, ⟨8, _⟩ => ⟨S1x8192, .f32⟩
  | .hbm, ⟨9, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesRefIdeal.lean ====
abbrev S2x8192x4096 : Shape := ⟨3, ![2, 8192, 4096]⟩
abbrev S1x4096x28672 : Shape := ⟨3, ![1, 4096, 28672]⟩
abbrev S1x2x4096 : Shape := ⟨3, ![1, 2, 4096]⟩
abbrev S1x4096x8192 : Shape := ⟨3, ![1, 4096, 8192]⟩
abbrev S4096x8192 : Shape := ⟨2, ![4096, 8192]⟩
abbrev S2x8192x8192 : Shape := ⟨3, ![2, 8192, 8192]⟩
abbrev S2x4096 : Shape := ⟨2, ![2, 4096]⟩
abbrev S8192 : Shape := ⟨1, ![8192]⟩
abbrev S1x1x8192 : Shape := ⟨3, ![1, 1, 8192]⟩
abbrev S_ : Shape := ⟨0, ![]⟩
abbrev S16384x8192 : Shape := ⟨2, ![16384, 8192]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S1x4096x28672, .f32⟩
  | .hbm, ⟨2, _⟩ => ⟨S1x2x4096, .f32⟩
  | .hbm, ⟨3, _⟩ => ⟨S1x4096x8192, .f32⟩
  | .hbm, ⟨4, _⟩ => ⟨S4096x8192, .f32⟩
  | .hbm, ⟨5, _⟩ => ⟨S2x8192x8192, .f32⟩
  | .hbm, ⟨6, _⟩ => ⟨S2x4096, .f32⟩
  | .hbm, ⟨7, _⟩ => ⟨S8192, .f32⟩
  | .hbm, ⟨8, _⟩ => ⟨S1x1x8192, .f32⟩
  | .hbm, ⟨9, _⟩ => ⟨S2x8192x8192, .f32⟩
  | .hbm, ⟨10, _⟩ => ⟨S2x8192x8192, .f32⟩
  | .hbm, ⟨11, _⟩ => ⟨S2x8192x8192, .f32⟩
  | .hbm, ⟨12, _⟩ => ⟨S2x8192x8192, .f32⟩
  | .hbm, ⟨13, _⟩ => ⟨S_, .f32⟩
  | .hbm, ⟨14, _⟩ => ⟨S2x8192x8192, .f32⟩
  | .hbm, ⟨15, _⟩ => ⟨S2x8192x8192, .f32⟩
  | .hbm, ⟨16, _⟩ => ⟨S_, .f32⟩
  | .hbm, ⟨17, _⟩ => ⟨S2x8192x8192, .f32⟩
  | .hbm, ⟨18, _⟩ => ⟨S2x8192x8192, .f32⟩
  | .hbm, ⟨19, _⟩ => ⟨S16384x8192, .f32⟩
  | .hbm, ⟨20, _⟩ => ⟨S16384x8192, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Gmlp.lean ====
abbrev S2x8192x8192 : Shape := ⟨3, ![2, 8192, 8192]⟩
abbrev S1x4096 : Shape := ⟨2, ![1, 4096]⟩
abbrev S1x16x128x128 : Shape := ⟨4, ![1, 16, 128, 128]⟩
abbrev S1x16x128 : Shape := ⟨3, ![1, 16, 128]⟩
abbrev S16384x8192 : Shape := ⟨2, ![16384, 8192]⟩
abbrev S4096 : Shape := ⟨1, ![4096]⟩
abbrev S16x128x128 : Shape := ⟨3, ![16, 128, 128]⟩
abbrev S16x128 : Shape := ⟨2, ![16, 128]⟩
abbrev S16x128x1 : Shape := ⟨3, ![16, 128, 1]⟩
abbrev S16384x4096 : Shape := ⟨2, ![16384, 4096]⟩
abbrev S512x4096 : Shape := ⟨2, ![512, 4096]⟩
abbrev S128x128 : Shape := ⟨2, ![128, 128]⟩
abbrev S1x128x128 : Shape := ⟨3, ![1, 128, 128]⟩
abbrev S128x4096 : Shape := ⟨2, ![128, 4096]⟩
abbrev S128 : Shape := ⟨1, ![128]⟩
abbrev S128x1 : Shape := ⟨2, ![128, 1]⟩
abbrev S128x256 : Shape := ⟨2, ![128, 256]⟩
abbrev S1x128x1 : Shape := ⟨3, ![1, 128, 1]⟩

abbrev nBuf : Space → Nat
  | .hbm => 15
  | .vmem => 11
  | .smem => 0
  | _ => 0

abbrev bufTy : (tb : Table) → Fin (tcTables nBuf tb) → BufTy
  | .hbm, ⟨0, _⟩ => ⟨S2x8192x8192, .f32⟩
  | .hbm, ⟨1, _⟩ => ⟨S1x4096, .f32⟩
  | .hbm, ⟨2, _⟩ => ⟨S1x4096, .f32⟩
  | .hbm, ⟨3, _⟩ => ⟨S1x16x128x128, .f32⟩
  | .hbm, ⟨4, _⟩ => ⟨S1x16x128, .f32⟩
  | .hbm, ⟨5, _⟩ => ⟨S16384x8192, .f32⟩
  | .hbm, ⟨6, _⟩ => ⟨S16384x8192, .bf16⟩
  | .hbm, ⟨7, _⟩ => ⟨S4096, .f32⟩
  | .hbm, ⟨8, _⟩ => ⟨S4096, .f32⟩
  | .hbm, ⟨9, _⟩ => ⟨S16x128x128, .f32⟩
  | .hbm, ⟨10, _⟩ => ⟨S16x128, .f32⟩
  | .hbm, ⟨11, _⟩ => ⟨S1x4096, .f32⟩
  | .hbm, ⟨12, _⟩ => ⟨S1x4096, .f32⟩
  | .hbm, ⟨13, _⟩ => ⟨S16x128x1, .f32⟩
  | .hbm, ⟨14, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1x4096, .f32⟩
  | .local _ .vmem, ⟨5, _⟩ => ⟨S1x4096, .f32⟩
  | .local _ .vmem, ⟨6, _⟩ => ⟨S16x128x128, .f32⟩
  | .local _ .vmem, ⟨7, _⟩ => ⟨S16x128x1, .f32⟩
  | .local _ .vmem, ⟨8, _⟩ => ⟨S512x4096, .bf16⟩
  | .local _ .vmem, ⟨9, _⟩ => ⟨S512x4096, .bf16⟩
  | .local _ .vmem, ⟨10, _⟩ => ⟨S16x128x128, .bf16⟩
  | _, _ => ⟨S2x8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmlpRefIdeal.lean ====
abbrev S2x8192x8192 : Shape := ⟨3, ![2, 8192, 8192]⟩
abbrev S1x4096 : Shape := ⟨2, ![1, 4096]⟩
abbrev S1x16x128x128 : Shape := ⟨4, ![1, 16, 128, 128]⟩
abbrev S1x16x128 : Shape := ⟨3, ![1, 16, 128]⟩
abbrev S2x8192x4096 : Shape := ⟨3, ![2, 8192, 4096]⟩
abbrev S_ : Shape := ⟨0, ![]⟩
abbrev S2x8192 : Shape := ⟨2, ![2, 8192]⟩
abbrev S2x8192x1 : Shape := ⟨3, ![2, 8192, 1]⟩
abbrev S4096 : Shape := ⟨1, ![4096]⟩
abbrev S1x1x4096 : Shape := ⟨3, ![1, 1, 4096]⟩
abbrev S2x64x128x16x256 : Shape := ⟨5, ![2, 64, 128, 16, 256]⟩
abbrev S16x128x128 : Shape := ⟨3, ![16, 128, 128]⟩
abbrev S128x128 : Shape := ⟨2, ![128, 128]⟩
abbrev S1x128x128 : Shape := ⟨3, ![1, 128, 128]⟩
abbrev S16x2x64x256x128 : Shape := ⟨5, ![16, 2, 64, 256, 128]⟩
abbrev S16x128 : Shape := ⟨2, ![16, 128]⟩
abbrev S128x16 : Shape := ⟨2, ![128, 16]⟩
abbrev S128x16x1 : Shape := ⟨3, ![128, 16, 1]⟩
abbrev S1x1x128x16x1 : Shape := ⟨5, ![1, 1, 128, 16, 1]⟩
abbrev S16384x4096 : Shape := ⟨2, ![16384, 4096]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x8192, .f32⟩
  | .hbm, ⟨1, _⟩ => ⟨S1x4096, .f32⟩
  | .hbm, ⟨2, _⟩ => ⟨S1x4096, .f32⟩
  | .hbm, ⟨3, _⟩ => ⟨S1x16x128x128, .f32⟩
  | .hbm, ⟨4, _⟩ => ⟨S1x16x128, .f32⟩
  | .hbm, ⟨5, _⟩ => ⟨S2x8192x4096, .f32⟩
  | .hbm, ⟨6, _⟩ => ⟨S2x8192x4096, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x4096, .f32⟩
  | .hbm, ⟨14, _⟩ => ⟨S2x8192x4096, .f32⟩
  | .hbm, ⟨15, _⟩ => ⟨S2x8192x4096, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x4096, .f32⟩
  | .hbm, ⟨27, _⟩ => ⟨S2x8192x4096, .f32⟩
  | .hbm, ⟨28, _⟩ => ⟨S4096, .f32⟩
  | .hbm, ⟨29, _⟩ => ⟨S1x1x4096, .f32⟩
  | .hbm, ⟨30, _⟩ => ⟨S2x8192x4096, .f32⟩
  | .hbm, ⟨31, _⟩ => ⟨S2x8192x4096, .f32⟩
  | .hbm, ⟨32, _⟩ => ⟨S4096, .f32⟩
  | .hbm, ⟨33, _⟩ => ⟨S1x1x4096, .f32⟩
  | .hbm, ⟨34, _⟩ => ⟨S2x8192x4096, .f32⟩
  | .hbm, ⟨35, _⟩ => ⟨S2x8192x4096, .f32⟩
  | .hbm, ⟨36, _⟩ => ⟨S2x64x128x16x256, .f32⟩
  | .hbm, ⟨37, _⟩ => ⟨S16x128x128, .f32⟩
  | .hbm, ⟨38, _⟩ => ⟨S_, .f32⟩
  | .hbm, ⟨39, _⟩ => ⟨S128x128, .f32⟩
  | .hbm, ⟨40, _⟩ => ⟨S128x128, .i32⟩
  | .hbm, ⟨41, _⟩ => ⟨S_, .i32⟩
  | .hbm, ⟨42, _⟩ => ⟨S128x128, .i32⟩
  | .hbm, ⟨43, _⟩ => ⟨S128x128, .i32⟩
  | .hbm, ⟨44, _⟩ => ⟨S128x128, .i32⟩
  | .hbm, ⟨45, _⟩ => ⟨S128x128, .i1⟩
  | .hbm, ⟨46, _⟩ => ⟨S_, .f32⟩
  | .hbm, ⟨47, _⟩ => ⟨S128x128, .f32⟩
  | .hbm, ⟨48, _⟩ => ⟨S128x128, .f32⟩
  | .hbm, ⟨49, _⟩ => ⟨S1x128x128, .f32⟩
  | .hbm, ⟨50, _⟩ => ⟨S16x128x128, .f32⟩
  | .hbm, ⟨51, _⟩ => ⟨S16x128x128, .f32⟩
  | .hbm, ⟨52, _⟩ => ⟨S16x2x64x256x128, .f32⟩
  | .hbm, ⟨53, _⟩ => ⟨S2x64x128x16x256, .f32⟩
  | .hbm, ⟨54, _⟩ => ⟨S16x128, .f32⟩
  | .hbm, ⟨55, _⟩ => ⟨S128x16, .f32⟩
  | .hbm, ⟨56, _⟩ => ⟨S128x16x1, .f32⟩
  | .hbm, ⟨57, _⟩ => ⟨S1x1x128x16x1, .f32⟩
  | .hbm, ⟨58, _⟩ => ⟨S2x64x128x16x256, .f32⟩
  | .hbm, ⟨59, _⟩ => ⟨S2x64x128x16x256, .f32⟩
  | .hbm, ⟨60, _⟩ => ⟨S2x8192x4096, .f32⟩
  | .hbm, ⟨61, _⟩ => ⟨S2x8192x4096, .f32⟩
  | .hbm, ⟨62, _⟩ => ⟨S16384x4096, .f32⟩
  | .hbm, ⟨63, _⟩ => ⟨S16384x4096, .bf16⟩
  | _, _ => ⟨S2x8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_call0_v0 : Ref sig .tc := ⟨.hbm, 40, rfl⟩
abbrev main_call0_c : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_cst : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== MergeA.lean ====
abbrev S2x8192x4096 : Shape := ⟨3, ![2, 8192, 4096]⟩
abbrev S1x4096x4096 : Shape := ⟨3, ![1, 4096, 4096]⟩
abbrev S2x8192x8192 : Shape := ⟨3, ![2, 8192, 8192]⟩
abbrev S16384x4096 : Shape := ⟨2, ![16384, 4096]⟩
abbrev S4096x4096 : Shape := ⟨2, ![4096, 4096]⟩
abbrev S16384x8192 : Shape := ⟨2, ![16384, 8192]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S2x8192x4096, .f32⟩
  | .hbm, ⟨1, _⟩ => ⟨S1x4096x4096, .f32⟩
  | .hbm, ⟨2, _⟩ => ⟨S2x8192x8192, .f32⟩
  | .hbm, ⟨3, _⟩ => ⟨S16384x4096, .f32⟩
  | .hbm, ⟨4, _⟩ => ⟨S16384x4096, .bf16⟩
  | .hbm, ⟨5, _⟩ => ⟨S4096x4096, .f32⟩
  | .hbm, ⟨6, _⟩ => ⟨S4096x4096, .bf16⟩
  | .hbm, ⟨7, _⟩ => ⟨S16384x8192, .f32⟩
  | .hbm, ⟨8, _⟩ => ⟨S16384x8192, .bf16⟩
  | .hbm, ⟨9, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MergeARefIdeal.lean ====
abbrev S2x8192x4096 : Shape := ⟨3, ![2, 8192, 4096]⟩
abbrev S1x4096x4096 : Shape := ⟨3, ![1, 4096, 4096]⟩
abbrev S2x8192x8192 : Shape := ⟨3, ![2, 8192, 8192]⟩
abbrev S4096x4096 : Shape := ⟨2, ![4096, 4096]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S1x4096x4096, .f32⟩
  | .hbm, ⟨2, _⟩ => ⟨S2x8192x8192, .f32⟩
  | .hbm, ⟨3, _⟩ => ⟨S2x8192x4096, .f32⟩
  | .hbm, ⟨4, _⟩ => ⟨S2x8192x4096, .f32⟩
  | .hbm, ⟨5, _⟩ => ⟨S4096x4096, .f32⟩
  | .hbm, ⟨6, _⟩ => ⟨S2x8192x4096, .f32⟩
  | .hbm, ⟨7, _⟩ => ⟨S2x8192x4096, .f32⟩
  | .hbm, ⟨8, _⟩ => ⟨S16384x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MergeB.lean ====
abbrev S2x8192x4096 : Shape := ⟨3, ![2, 8192, 4096]⟩
abbrev S1x4096x4096 : Shape := ⟨3, ![1, 4096, 4096]⟩
abbrev S2x8192x8192 : Shape := ⟨3, ![2, 8192, 8192]⟩
abbrev S16384x4096 : Shape := ⟨2, ![16384, 4096]⟩
abbrev S4096x4096 : Shape := ⟨2, ![4096, 4096]⟩
abbrev S16384x8192 : Shape := ⟨2, ![16384, 8192]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 12
  | .vmem => 10
  | .smem => 0
  | _ => 0

abbrev bufTy : (tb : Table) → Fin (tcTables nBuf tb) → BufTy
  | .hbm, ⟨0, _⟩ => ⟨S2x8192x4096, .f32⟩
  | .hbm, ⟨1, _⟩ => ⟨S1x4096x4096, .f32⟩
  | .hbm, ⟨2, _⟩ => ⟨S2x8192x8192, .f32⟩
  | .hbm, ⟨3, _⟩ => ⟨S2x8192x4096, .f32⟩
  | .hbm, ⟨4, _⟩ => ⟨S16384x4096, .f32⟩
  | .hbm, ⟨5, _⟩ => ⟨S16384x4096, .bf16⟩
  | .hbm, ⟨6, _⟩ => ⟨S4096x4096, .f32⟩
  | .hbm, ⟨7, _⟩ => ⟨S4096x4096, .bf16⟩
  | .hbm, ⟨8, _⟩ => ⟨S16384x8192, .f32⟩
  | .hbm, ⟨9, _⟩ => ⟨S16384x8192, .bf16⟩
  | .hbm, ⟨10, _⟩ => ⟨S16384x4096, .f32⟩
  | .hbm, ⟨11, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeBRefIdeal.lean ====
abbrev S2x8192x4096 : Shape := ⟨3, ![2, 8192, 4096]⟩
abbrev S1x4096x4096 : Shape := ⟨3, ![1, 4096, 4096]⟩
abbrev S2x8192x8192 : Shape := ⟨3, ![2, 8192, 8192]⟩
abbrev S4096x4096 : Shape := ⟨2, ![4096, 4096]⟩
abbrev S16384x4096 : Shape := ⟨2, ![16384, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S1x4096x4096, .f32⟩
  | .hbm, ⟨2, _⟩ => ⟨S2x8192x8192, .f32⟩
  | .hbm, ⟨3, _⟩ => ⟨S2x8192x4096, .f32⟩
  | .hbm, ⟨4, _⟩ => ⟨S2x8192x4096, .f32⟩
  | .hbm, ⟨5, _⟩ => ⟨S2x8192x4096, .f32⟩
  | .hbm, ⟨6, _⟩ => ⟨S4096x4096, .f32⟩
  | .hbm, ⟨7, _⟩ => ⟨S2x8192x4096, .f32⟩
  | .hbm, ⟨8, _⟩ => ⟨S2x8192x4096, .f32⟩
  | .hbm, ⟨9, _⟩ => ⟨S2x8192x4096, .f32⟩
  | .hbm, ⟨10, _⟩ => ⟨S16384x4096, .f32⟩
  | .hbm, ⟨11, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Out.lean ====
abbrev S2x8192x4096 : Shape := ⟨3, ![2, 8192, 4096]⟩
abbrev S1x4096x4096 : Shape := ⟨3, ![1, 4096, 4096]⟩
abbrev S1x4096 : Shape := ⟨2, ![1, 4096]⟩
abbrev S16384x4096 : Shape := ⟨2, ![16384, 4096]⟩
abbrev S4096x4096 : Shape := ⟨2, ![4096, 4096]⟩
abbrev S4096 : Shape := ⟨1, ![4096]⟩
abbrev S16384x128 : Shape := ⟨2, ![16384, 128]⟩
abbrev S1024x4096 : Shape := ⟨2, ![1024, 4096]⟩
abbrev S4096x512 : Shape := ⟨2, ![4096, 512]⟩
abbrev S1024x512 : Shape := ⟨2, ![1024, 512]⟩
abbrev S1x512 : Shape := ⟨2, ![1, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 14
  | .vmem => 14
  | .smem => 0
  | _ => 0

abbrev bufTy : (tb : Table) → Fin (tcTables nBuf tb) → BufTy
  | .hbm, ⟨0, _⟩ => ⟨S2x8192x4096, .f32⟩
  | .hbm, ⟨1, _⟩ => ⟨S1x4096x4096, .f32⟩
  | .hbm, ⟨2, _⟩ => ⟨S2x8192x4096, .f32⟩
  | .hbm, ⟨3, _⟩ => ⟨S1x4096, .f32⟩
  | .hbm, ⟨4, _⟩ => ⟨S16384x4096, .f32⟩
  | .hbm, ⟨5, _⟩ => ⟨S16384x4096, .bf16⟩
  | .hbm, ⟨6, _⟩ => ⟨S4096x4096, .f32⟩
  | .hbm, ⟨7, _⟩ => ⟨S4096x4096, .bf16⟩
  | .hbm, ⟨8, _⟩ => ⟨S16384x4096, .f32⟩
  | .hbm, ⟨9, _⟩ => ⟨S4096, .f32⟩
  | .hbm, ⟨10, _⟩ => ⟨S1x4096, .f32⟩
  | .hbm, ⟨11, _⟩ => ⟨S16384x4096, .f32⟩
  | .hbm, ⟨12, _⟩ => ⟨S16384x4096, .bf16⟩
  | .hbm, ⟨13, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v20 : BitVec 1 := Scalar.cmpi .eq arg1 c0_i32
  let v21 : BitVec 32 := Scalar.extui v20
  let c0_i32_12 : BitVec 32 := 0#32
  let v22 : BitVec 1 := Scalar.cmpi .ne v21 c0_i32_12
  v22

def k0_cond2 (i : grid0.Coords) : BitVec 1 :=
  let arg1 : BitVec 32 := BitVec.ofNat 32 (i 1).val
  let c0_i32_13 : BitVec 32 := 0#32
  let v23 : BitVec 1 := Scalar.cmpi .ne arg1 c0_i32_13
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutRefIdeal.lean ====
abbrev S2x8192x4096 : Shape := ⟨3, ![2, 8192, 4096]⟩
abbrev S1x4096x4096 : Shape := ⟨3, ![1, 4096, 4096]⟩
abbrev S1x4096 : Shape := ⟨2, ![1, 4096]⟩
abbrev S4096x4096 : Shape := ⟨2, ![4096, 4096]⟩
abbrev S_ : Shape := ⟨0, ![]⟩
abbrev S2x8192 : Shape := ⟨2, ![2, 8192]⟩
abbrev S2x8192x1 : Shape := ⟨3, ![2, 8192, 1]⟩
abbrev S2x8192x128 : Shape := ⟨3, ![2, 8192, 128]⟩
abbrev S16384x4096 : Shape := ⟨2, ![16384, 4096]⟩
abbrev S4096 : Shape := ⟨1, ![4096]⟩
abbrev S1x1x4096 : Shape := ⟨3, ![1, 1, 4096]⟩
abbrev S16384x128 : Shape := ⟨2, ![16384, 128]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S1x4096x4096, .f32⟩
  | .hbm, ⟨2, _⟩ => ⟨S2x8192x4096, .f32⟩
  | .hbm, ⟨3, _⟩ => ⟨S1x4096, .f32⟩
  | .hbm, ⟨4, _⟩ => ⟨S4096x4096, .f32⟩
  | .hbm, ⟨5, _⟩ => ⟨S2x8192x4096, .f32⟩
  | .hbm, ⟨6, _⟩ => ⟨S2x8192x4096, .f32⟩
  | .hbm, ⟨7, _⟩ => ⟨S2x8192x4096, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S2x8192x128, .f32⟩
  | .hbm, ⟨12, _⟩ => ⟨S16384x4096, .f32⟩
  | .hbm, ⟨13, _⟩ => ⟨S4096, .f32⟩
  | .hbm, ⟨14, _⟩ => ⟨S1x1x4096, .f32⟩
  | .hbm, ⟨15, _⟩ => ⟨S2x8192x4096, .f32⟩
  | .hbm, ⟨16, _⟩ => ⟨S2x8192x4096, .f32⟩
  | .hbm, ⟨17, _⟩ => ⟨S16384x4096, .f32⟩
  | .hbm, ⟨18, _⟩ => ⟨S16384x4096, .bf16⟩
  | .hbm, ⟨19, _⟩ => ⟨S16384x128, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Up.lean ====
abbrev S2x8192x4096 : Shape := ⟨3, ![2, 8192, 4096]⟩
abbrev S1x4096 : Shape := ⟨2, ![1, 4096]⟩
abbrev S1x4096x22016 : Shape := ⟨3, ![1, 4096, 22016]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S16384x128 : Shape := ⟨2, ![16384, 128]⟩
abbrev S4096x22016 : Shape := ⟨2, ![4096, 22016]⟩
abbrev S16384x11008 : Shape := ⟨2, ![16384, 11008]⟩
abbrev S1024x4096 : Shape := ⟨2, ![1024, 4096]⟩
abbrev S4096x256 : Shape := ⟨2, ![4096, 256]⟩
abbrev S1024x128 : Shape := ⟨2, ![1024, 128]⟩
abbrev S1024x256 : Shape := ⟨2, ![1024, 256]⟩
abbrev S4096x512 : Shape := ⟨2, ![4096, 512]⟩
abbrev S1024x512 : Shape := ⟨2, ![1024, 512]⟩
abbrev S1024x1 : Shape := ⟨2, ![1024, 1]⟩

abbrev nBuf : Space → Nat
  | .hbm => 16
  | .vmem => 11
  | .smem => 0
  | _ => 0

abbrev bufTy : (tb : Table) → Fin (tcTables nBuf tb) → BufTy
  | .hbm, ⟨0, _⟩ => ⟨S2x8192x4096, .f32⟩
  | .hbm, ⟨1, _⟩ => ⟨S1x4096, .f32⟩
  | .hbm, ⟨2, _⟩ => ⟨S1x4096x22016, .f32⟩
  | .hbm, ⟨3, _⟩ => ⟨S4096, .f32⟩
  | .hbm, ⟨4, _⟩ => ⟨S1x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .bf16⟩
  | .hbm, ⟨9, _⟩ => ⟨S16384x4096, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S16384x128, .f32⟩
  | .hbm, ⟨14, _⟩ => ⟨S4096x22016, .f32⟩
  | .hbm, ⟨15, _⟩ => ⟨S16384x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S1024x128, .f32⟩
  | .local _ .vmem, ⟨7, _⟩ => ⟨S1024x128, .f32⟩
  | .local _ .vmem, ⟨8, _⟩ => ⟨S1024x256, .bf16⟩
  | .local _ .vmem, ⟨9, _⟩ => ⟨S1024x256, .bf16⟩
  | .local _ .vmem, ⟨10, _⟩ => ⟨S4096x512, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![43, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpRefIdeal.lean ====
abbrev S2x8192x4096 : Shape := ⟨3, ![2, 8192, 4096]⟩
abbrev S1x4096 : Shape := ⟨2, ![1, 4096]⟩
abbrev S1x4096x22016 : Shape := ⟨3, ![1, 4096, 22016]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S4096x22016 : Shape := ⟨2, ![4096, 22016]⟩
abbrev S2x8192x22016 : Shape := ⟨3, ![2, 8192, 22016]⟩
abbrev S2x8192x11008 : Shape := ⟨3, ![2, 8192, 11008]⟩
abbrev S16384x11008 : Shape := ⟨2, ![16384, 11008]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S1x4096, .f32⟩
  | .hbm, ⟨2, _⟩ => ⟨S1x4096x22016, .f32⟩
  | .hbm, ⟨3, _⟩ => ⟨S4096, .f32⟩
  | .hbm, ⟨4, _⟩ => ⟨S2x8192x4096, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x4096, .f32⟩
  | .hbm, ⟨16, _⟩ => ⟨S2x8192x4096, .f32⟩
  | .hbm, ⟨17, _⟩ => ⟨S1x1x4096, .f32⟩
  | .hbm, ⟨18, _⟩ => ⟨S2x8192x4096, .f32⟩
  | .hbm, ⟨19, _⟩ => ⟨S2x8192x4096, .f32⟩
  | .hbm, ⟨20, _⟩ => ⟨S4096x22016, .f32⟩
  | .hbm, ⟨21, _⟩ => ⟨S2x8192x22016, .f32⟩
  | .hbm, ⟨22, _⟩ => ⟨S2x8192x11008, .f32⟩
  | .hbm, ⟨23, _⟩ => ⟨S2x8192x11008, .f32⟩
  | .hbm, ⟨24, _⟩ => ⟨S2x8192x11008, .f32⟩
  | .hbm, ⟨25, _⟩ => ⟨S2x8192x11008, .f32⟩
  | .hbm, ⟨26, _⟩ => ⟨S_, .f32⟩
  | .hbm, ⟨27, _⟩ => ⟨S2x8192x11008, .f32⟩
  | .hbm, ⟨28, _⟩ => ⟨S2x8192x11008, .f32⟩
  | .hbm, ⟨29, _⟩ => ⟨S_, .f32⟩
  | .hbm, ⟨30, _⟩ => ⟨S2x8192x11008, .f32⟩
  | .hbm, ⟨31, _⟩ => ⟨S2x8192x11008, .f32⟩
  | .hbm, ⟨32, _⟩ => ⟨S2x8192x11008, .f32⟩
  | .hbm, ⟨33, _⟩ => ⟨S2x8192x11008, .f32⟩
  | .hbm, ⟨34, _⟩ => ⟨S16384x11008, .f32⟩
  | .hbm, ⟨35, _⟩ => ⟨S16384x11008, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== Down.lean ====
abbrev S2x8192x11008 : Shape := ⟨3, ![2, 8192, 11008]⟩
abbrev S1x11008x4096 : Shape := ⟨3, ![1, 11008, 4096]⟩
abbrev S2x8192x4096 : Shape := ⟨3, ![2, 8192, 4096]⟩
abbrev S1x4096 : Shape := ⟨2, ![1, 4096]⟩
abbrev S16384x11008 : Shape := ⟨2, ![16384, 11008]⟩
abbrev S11008x4096 : Shape := ⟨2, ![11008, 4096]⟩
abbrev S16384x4096 : Shape := ⟨2, ![16384, 4096]⟩
abbrev S4096 : Shape := ⟨1, ![4096]⟩
abbrev S16384x128 : Shape := ⟨2, ![16384, 128]⟩
abbrev S512x11008 : Shape := ⟨2, ![512, 11008]⟩
abbrev S11008x512 : Shape := ⟨2, ![11008, 512]⟩
abbrev S512x512 : Shape := ⟨2, ![512, 512]⟩
abbrev S1x512 : Shape := ⟨2, ![1, 512]⟩
abbrev S512x128 : Shape := ⟨2, ![512, 128]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S2x8192x11008, .f32⟩
  | .hbm, ⟨1, _⟩ => ⟨S1x11008x4096, .f32⟩
  | .hbm, ⟨2, _⟩ => ⟨S2x8192x4096, .f32⟩
  | .hbm, ⟨3, _⟩ => ⟨S1x4096, .f32⟩
  | .hbm, ⟨4, _⟩ => ⟨S16384x11008, .f32⟩
  | .hbm, ⟨5, _⟩ => ⟨S16384x11008, .bf16⟩
  | .hbm, ⟨6, _⟩ => ⟨S11008x4096, .f32⟩
  | .hbm, ⟨7, _⟩ => ⟨S11008x4096, .bf16⟩
  | .hbm, ⟨8, _⟩ => ⟨S16384x4096, .f32⟩
  | .hbm, ⟨9, _⟩ => ⟨S4096, .f32⟩
  | .hbm, ⟨10, _⟩ => ⟨S1x4096, .f32⟩
  | .hbm, ⟨11, _⟩ => ⟨S16384x4096, .f32⟩
  | .hbm, ⟨12, _⟩ => ⟨S16384x4096, .bf16⟩
  | .hbm, ⟨13, _⟩ => ⟨S16384x128, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x128, .f32⟩
  | .local _ .vmem, ⟨13, _⟩ => ⟨S512x128, .f32⟩
  | _, _ => ⟨S2x8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v20 : BitVec 1 := Scalar.cmpi .eq arg1 c0_i32
  let v21 : BitVec 32 := Scalar.extui v20
  let c0_i32_12 : BitVec 32 := 0#32
  let v22 : BitVec 1 := Scalar.cmpi .ne v21 c0_i32_12
  v22

def k0_cond2 (i : grid0.Coords) : BitVec 1 :=
  let arg1 : BitVec 32 := BitVec.ofNat 32 (i 1).val
  let c0_i32_13 : BitVec 32 := 0#32
  let v23 : BitVec 1 := Scalar.cmpi .ne arg1 c0_i32_13
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DownRefIdeal.lean ====
abbrev S2x8192x11008 : Shape := ⟨3, ![2, 8192, 11008]⟩
abbrev S1x11008x4096 : Shape := ⟨3, ![1, 11008, 4096]⟩
abbrev S2x8192x4096 : Shape := ⟨3, ![2, 8192, 4096]⟩
abbrev S1x4096 : Shape := ⟨2, ![1, 4096]⟩
abbrev S11008x4096 : Shape := ⟨2, ![11008, 4096]⟩
abbrev S_ : Shape := ⟨0, ![]⟩
abbrev S2x8192 : Shape := ⟨2, ![2, 8192]⟩
abbrev S2x8192x1 : Shape := ⟨3, ![2, 8192, 1]⟩
abbrev S2x8192x128 : Shape := ⟨3, ![2, 8192, 128]⟩
abbrev S16384x4096 : Shape := ⟨2, ![16384, 4096]⟩
abbrev S4096 : Shape := ⟨1, ![4096]⟩
abbrev S1x1x4096 : Shape := ⟨3, ![1, 1, 4096]⟩
abbrev S16384x128 : Shape := ⟨2, ![16384, 128]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x11008, .f32⟩
  | .hbm, ⟨1, _⟩ => ⟨S1x11008x4096, .f32⟩
  | .hbm, ⟨2, _⟩ => ⟨S2x8192x4096, .f32⟩
  | .hbm, ⟨3, _⟩ => ⟨S1x4096, .f32⟩
  | .hbm, ⟨4, _⟩ => ⟨S11008x4096, .f32⟩
  | .hbm, ⟨5, _⟩ => ⟨S2x8192x4096, .f32⟩
  | .hbm, ⟨6, _⟩ => ⟨S2x8192x4096, .f32⟩
  | .hbm, ⟨7, _⟩ => ⟨S2x8192x4096, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S2x8192x128, .f32⟩
  | .hbm, ⟨12, _⟩ => ⟨S16384x4096, .f32⟩
  | .hbm, ⟨13, _⟩ => ⟨S4096, .f32⟩
  | .hbm, ⟨14, _⟩ => ⟨S1x1x4096, .f32⟩
  | .hbm, ⟨15, _⟩ => ⟨S2x8192x4096, .f32⟩
  | .hbm, ⟨16, _⟩ => ⟨S2x8192x4096, .f32⟩
  | .hbm, ⟨17, _⟩ => ⟨S16384x4096, .f32⟩
  | .hbm, ⟨18, _⟩ => ⟨S16384x4096, .bf16⟩
  | .hbm, ⟨19, _⟩ => ⟨S16384x128, .f32⟩
  | _, _ => ⟨S2x8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Ple.lean ====
abbrev S2x8192x4096 : Shape := ⟨3, ![2, 8192, 4096]⟩
abbrev S1x2x8192x256 : Shape := ⟨4, ![1, 2, 8192, 256]⟩
abbrev S1x4096 : Shape := ⟨2, ![1, 4096]⟩
abbrev S1x4096x4096 : Shape := ⟨3, ![1, 4096, 4096]⟩
abbrev S1x256x4096 : Shape := ⟨3, ![1, 256, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S16384x128 : Shape := ⟨2, ![16384, 128]⟩
abbrev S2x8192x256 : Shape := ⟨3, ![2, 8192, 256]⟩
abbrev S16384x256 : Shape := ⟨2, ![16384, 256]⟩
abbrev S4096x4096 : Shape := ⟨2, ![4096, 4096]⟩
abbrev S256x4096 : Shape := ⟨2, ![256, 4096]⟩
abbrev S512x4096 : Shape := ⟨2, ![512, 4096]⟩
abbrev S512x256 : Shape := ⟨2, ![512, 256]⟩
abbrev S4096x1024 : Shape := ⟨2, ![4096, 1024]⟩
abbrev S256x1024 : Shape := ⟨2, ![256, 1024]⟩
abbrev S512x1024 : Shape := ⟨2, ![512, 1024]⟩
abbrev S512x128 : Shape := ⟨2, ![512, 128]⟩
abbrev S512x1 : Shape := ⟨2, ![512, 1]⟩
abbrev S512 : Shape := ⟨1, ![512]⟩
abbrev S1x128 : Shape := ⟨2, ![1, 128]⟩

abbrev nBuf : Space → Nat
  | .hbm => 26
  | .vmem => 16
  | .smem => 0
  | _ => 0

abbrev bufTy : (tb : Table) → Fin (tcTables nBuf tb) → BufTy
  | .hbm, ⟨0, _⟩ => ⟨S2x8192x4096, .f32⟩
  | .hbm, ⟨1, _⟩ => ⟨S1x2x8192x256, .f32⟩
  | .hbm, ⟨2, _⟩ => ⟨S1x4096, .f32⟩
  | .hbm, ⟨3, _⟩ => ⟨S1x4096x4096, .f32⟩
  | .hbm, ⟨4, _⟩ => ⟨S1x256x4096, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .bf16⟩
  | .hbm, ⟨12, _⟩ => ⟨S16384x4096, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x128, .f32⟩
  | .hbm, ⟨17, _⟩ => ⟨S2x8192x256, .f32⟩
  | .hbm, ⟨18, _⟩ => ⟨S16384x256, .f32⟩
  | .hbm, ⟨19, _⟩ => ⟨S4096x4096, .f32⟩
  | .hbm, ⟨20, _⟩ => ⟨S4096x4096, .bf16⟩
  | .hbm, ⟨21, _⟩ => ⟨S256x4096, .f32⟩
  | .hbm, ⟨22, _⟩ => ⟨S256x4096, .bf16⟩
  | .hbm, ⟨23, _⟩ => ⟨S16384x4096, .f32⟩
  | .hbm, ⟨24, _⟩ => ⟨S1x4096, .f32⟩
  | .hbm, ⟨25, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S512x256, .f32⟩
  | .local _ .vmem, ⟨3, _⟩ => ⟨S512x256, .f32⟩
  | .local _ .vmem, ⟨4, _⟩ => ⟨S4096x1024, .bf16⟩
  | .local _ .vmem, ⟨5, _⟩ => ⟨S4096x1024, .bf16⟩
  | .local _ .vmem, ⟨6, _⟩ => ⟨S256x1024, .bf16⟩
  | .local _ .vmem, ⟨7, _⟩ => ⟨S256x1024, .bf16⟩
  | .local _ .vmem, ⟨8, _⟩ => ⟨S512x1024, .f32⟩
  | .local _ .vmem, ⟨9, _⟩ => ⟨S512x1024, .f32⟩
  | .local _ .vmem, ⟨10, _⟩ => ⟨S512x128, .f32⟩
  | .local _ .vmem, ⟨11, _⟩ => ⟨S512x128, .f32⟩
  | .local _ .vmem, ⟨12, _⟩ => ⟨S1x4096, .f32⟩
  | .local _ .vmem, ⟨13, _⟩ => ⟨S512x4096, .f32⟩
  | .local _ .vmem, ⟨14, _⟩ => ⟨S512x4096, .f32⟩
  | .local _ .vmem, ⟨15, _⟩ => ⟨S512x128, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c1024_i32 : BitVec 32 := 1024#32
  let v25 : BitVec 32 := Scalar.muli arg1 c1024_i32
  v25
def k0_off1 (i : grid0.Coords) : Fin 2 → Nat :=
  let c0_14 : Index := 0#32
  let arg1 : BitVec 32 := BitVec.ofNat 32 (i 1).val
  let c1024_i32 : BitVec 32 := 1024#32
  let v25 : BitVec 32 := Scalar.muli arg1 c1024_i32
  let v26 : BitVec 32 := v25
  let v27 : Index := Scalar.indexCast v26
  ![0, v27.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== PleRefIdeal.lean ====
abbrev S2x8192x4096 : Shape := ⟨3, ![2, 8192, 4096]⟩
abbrev S1x2x8192x256 : Shape := ⟨4, ![1, 2, 8192, 256]⟩
abbrev S1x4096 : Shape := ⟨2, ![1, 4096]⟩
abbrev S1x4096x4096 : Shape := ⟨3, ![1, 4096, 4096]⟩
abbrev S1x256x4096 : Shape := ⟨3, ![1, 256, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S4096x4096 : Shape := ⟨2, ![4096, 4096]⟩
abbrev S2x8192x256 : Shape := ⟨3, ![2, 8192, 256]⟩
abbrev S256x4096 : Shape := ⟨2, ![256, 4096]⟩
abbrev S16384x4096 : Shape := ⟨2, ![16384, 4096]⟩

abbrev nBuf : Space → Nat
  | .hbm => 55
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S1x2x8192x256, .f32⟩
  | .hbm, ⟨2, _⟩ => ⟨S1x4096, .f32⟩
  | .hbm, ⟨3, _⟩ => ⟨S1x4096x4096, .f32⟩
  | .hbm, ⟨4, _⟩ => ⟨S1x256x4096, .f32⟩
  | .hbm, ⟨5, _⟩ => ⟨S4096, .f32⟩
  | .hbm, ⟨6, _⟩ => ⟨S4096, .f32⟩
  | .hbm, ⟨7, _⟩ => ⟨S2x8192x4096, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x4096, .f32⟩
  | .hbm, ⟨19, _⟩ => ⟨S2x8192x4096, .f32⟩
  | .hbm, ⟨20, _⟩ => ⟨S1x1x4096, .f32⟩
  | .hbm, ⟨21, _⟩ => ⟨S2x8192x4096, .f32⟩
  | .hbm, ⟨22, _⟩ => ⟨S2x8192x4096, .f32⟩
  | .hbm, ⟨23, _⟩ => ⟨S4096x4096, .f32⟩
  | .hbm, ⟨24, _⟩ => ⟨S2x8192x4096, .f32⟩
  | .hbm, ⟨25, _⟩ => ⟨S2x8192x4096, .f32⟩
  | .hbm, ⟨26, _⟩ => ⟨S2x8192x4096, .f32⟩
  | .hbm, ⟨27, _⟩ => ⟨S_, .f32⟩
  | .hbm, ⟨28, _⟩ => ⟨S2x8192x4096, .f32⟩
  | .hbm, ⟨29, _⟩ => ⟨S2x8192x4096, .f32⟩
  | .hbm, ⟨30, _⟩ => ⟨S_, .f32⟩
  | .hbm, ⟨31, _⟩ => ⟨S2x8192x4096, .f32⟩
  | .hbm, ⟨32, _⟩ => ⟨S2x8192x4096, .f32⟩
  | .hbm, ⟨33, _⟩ => ⟨S2x8192x256, .f32⟩
  | .hbm, ⟨34, _⟩ => ⟨S256x4096, .f32⟩
  | .hbm, ⟨35, _⟩ => ⟨S2x8192x4096, .f32⟩
  | .hbm, ⟨36, _⟩ => ⟨S2x8192x4096, .f32⟩
  | .hbm, ⟨37, _⟩ => ⟨S2x8192x4096, .f32⟩
  | .hbm, ⟨38, _⟩ => ⟨S2x8192x4096, .f32⟩
  | .hbm, ⟨39, _⟩ => ⟨S_, .f32⟩
  | .hbm, ⟨40, _⟩ => ⟨S2x8192, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S2x8192x1, .f32⟩
  | .hbm, ⟨49, _⟩ => ⟨S2x8192x4096, .f32⟩
  | .hbm, ⟨50, _⟩ => ⟨S2x8192x4096, .f32⟩
  | .hbm, ⟨51, _⟩ => ⟨S1x1x4096, .f32⟩
  | .hbm, ⟨52, _⟩ => ⟨S2x8192x4096, .f32⟩
  | .hbm, ⟨53, _⟩ => ⟨S2x8192x4096, .f32⟩
  | .hbm, ⟨54, _⟩ => ⟨S16384x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Proof.Calls.Common.lean ====
/-
  What the calls' value proofs share: an array of two sequences read as one array of rows, a weight without its
  leading unit axis, and a matrix product read at one element.
-/
module

public import Idealize.ShloMosaic.Lib.Pipeline.Value
public import Idealize.ShloMosaic.Lib.Pipeline.ValueKit.Geometry
public import Idealize.ShloMosaic.Lib.ValueIdx
public import Idealize.ShloMosaic.Lib.ValueIdxCoords
public import Idealize.ShloMosaic.Lib.MatmulPlain
public import Idealize.ShloMosaic.Lib.IdealHost
public import Idealize.ShloMosaic.PureOps.Ideal.Laws

@[expose] public section

noncomputable section

namespace Cert.Calls

open Idealize.ShloMosaic Idealize.ShloMosaic.ValueIdx
open scoped BigOperators

/-- The sequence that row `r` of the flattened array belongs to. -/
def seqOf (r : Fin 16384) : Fin 2 := ⟨r.val / 8192, by have := r.isLt; omega⟩
/-- The position of row `r` within its sequence. -/
def posOf (r : Fin 16384) : Fin 8192 := ⟨r.val % 8192, by omega⟩

/-- The two sequences of 8192 rows as one array of 16384 rows. -/
def flat {α : Type} {n : Nat} (a : (⟨3, ![2, 8192, n]⟩ : Shape).Idx → α) : (⟨2, ![16384, n]⟩ : Shape).Idx → α :=
  fun i => a (ix3 (seqOf (i 0)) (posOf (i 0)) (i 1))

/-- Reshaping two sequences of rows to one array of rows is `flat`. -/
theorem shapeCast_flat {α : Type} {n : Nat} (a : (⟨3, ![2, 8192, n]⟩ : Shape).Idx → α)
    (h : (⟨3, ![2, 8192, n]⟩ : Shape).ShapeCasts ⟨2, ![16384, n]⟩) : shapeCast _ a h = flat a := by
  funext i
  refine shapeCast_apply a h i (ix3 (seqOf (i 0)) (posOf (i 0)) (i 1)) ?_
  rewrite [Shape.rowMajor_val_three, Shape.rowMajor_val_two]
  show ((i 0).val / 8192 * 8192 + (i 0).val % 8192) * n + (i 1).val = (i 0).val * n + (i 1).val
  rw [Nat.div_add_mod']

/-- A weight without its leading unit axis. -/
def layer {α : Type} {k n : Nat} (w : (⟨3, ![1, k, n]⟩ : Shape).Idx → α) : (⟨2, ![k, n]⟩ : Shape).Idx → α :=
  fun i => w (ix3 0 (i 0) (i 1))

/-- Reshaping away the leading unit axis is `layer`. -/
theorem shapeCast_layer {α : Type} {k n : Nat} (w : (⟨3, ![1, k, n]⟩ : Shape).Idx → α)
    (h : (⟨3, ![1, k, n]⟩ : Shape).ShapeCasts ⟨2, ![k, n]⟩) : shapeCast _ w h = layer w := by
  funext i
  refine shapeCast_apply w h i (ix3 0 (i 0) (i 1)) ?_
  rewrite [Shape.rowMajor_val_three, Shape.rowMajor_val_two]
  show (0 * k + (i 0).val) * n + (i 1).val = (i 0).val * n + (i 1).val
  rw [Nat.zero_mul, Nat.zero_add]

theorem mul_congr {a b c d : EReal} (h : a = b) (g : c = d) : a * c = b * d := h ▸ g ▸ rfl
theorem add_congr {a b c d : EReal} (h : a = b) (g : c = d) : a + c = b + d := h ▸ g ▸ rfl

/-- Position `x` of block `p` along an axis of `n` elements cut into blocks of `b`. -/
def place {n b : ℕ} (p : ℕ) (x : Fin b) (h : p * b + b ≤ n) : Fin n := ⟨p * b + x.val, by omega⟩

/-- Where a block's element lies along an axis, from the block's index on that axis. -/
theorem emb_place {sig : RefSig} {G : Pipeline.Grid} (w : Pipeline.Window sig G) (t : Fin G.N) (y : (w.xblock (G.coords t)).Idx)
    (a : Fin w.shape.rank) {p : ℕ} (hp : w.index t a = p) (hk : w.kind = .blocked) :
    ((w.rect t).emb y a : ℕ) = p * w.size a + y a :=
  hp ▸ Pipeline.Window.rect_emb_val w t y a hk

/-- A row broadcast down the rows of a block, read at one element. -/
theorem broadcastTo_row {α : Type} {b n : ℕ} (x : (⟨2, ![1, n]⟩ : Shape).Idx → α) (hn : n ≠ 1)
    (h : (⟨2, ![1, n]⟩ : Shape).Broadcasts ⟨2, ![b, n]⟩) (r : Fin b) (q : Fin n) :
    broadcastTo ⟨2, ![b, n]⟩ x h (ix2 r q) = x (ix2 0 q) := by
  refine broadcastTo_apply x h (ix2 r q) (ix2 0 q) fun a => ?_
  match a with
  | ⟨0, _⟩ => exact (if_pos rfl).symm
  | ⟨1, _⟩ => exact (if_neg hn).symm

/-- A column broadcast along the columns of a block, read at one element. -/
theorem broadcastTo_col {α : Type} {b n : ℕ} (x : (⟨2, ![b, 1]⟩ : Shape).Idx → α) (hb : b ≠ 1)
    (h : (⟨2, ![b, 1]⟩ : Shape).Broadcasts ⟨2, ![b, n]⟩) (r : Fin b) (q : Fin n) :
    broadcastTo ⟨2, ![b, n]⟩ x h (ix2 r q) = x (ix2 r 0) := by
  refine broadcastTo_apply x h (ix2 r q) (ix2 r 0) fun a => ?_
  match a with
  | ⟨0, _⟩ => exact (if_neg hb).symm
  | ⟨1, _⟩ => exact (if_pos rfl).symm

/-- The sums of a block's rows, kept as a column, read at one row. -/
theorem rowSum_col {b n : ℕ} (x : FVec Ideal ⟨2, ![b, n]⟩ .f32) (acc : BitVec (FTy.f32).bits)
    (h : (⟨2, ![b, n]⟩ : Shape).Reduces [1] ⟨1, ![b]⟩) (hφ : FKind.Formats .f32) (hacc : acc = FKind.add.neutral .f32 hφ)
    (hc : (⟨1, ![b]⟩ : Shape).ShapeCasts ⟨2, ![b, 1]⟩) (r : Fin b) :
    shapeCast ⟨2, ![b, 1]⟩ (multiReduction (F := Ideal) .add [1] ⟨1, ![b]⟩ x acc h hφ hacc) hc (ix2 r 0) = ∑ k : Fin n, x (ix2 r k) := by
  refine (shapeCast_apply _ hc _ (ix1 r) ?_).trans ?_
  · rewrite [Shape.rowMajor_val_one, Shape.rowMajor_val_two]
    show r.val = r.val * 1 + 0
    omega
  refine (Ideal.multiReduction_add_single x acc h hφ hacc (ix1 r)).trans (Finset.sum_congr rfl fun k _ => congrArg x ?_)
  exact Shape.idx_ext₂ rfl rfl

/-- Two indices of a rank-three array with equal coordinates are equal. -/
theorem idx_ext₃ {n : Fin 3 → ℕ} {x y : (a : Fin 3) → Fin (n a)} (h0 : (x 0 : ℕ) = y 0) (h1 : (x 1 : ℕ) = y 1)
    (h2 : (x 2 : ℕ) = y 2) : x = y := by
  funext a; apply Fin.ext
  match a with
  | ⟨0, _⟩ => exact h0
  | ⟨1, _⟩ => exact h1
  | ⟨2, _⟩ => exact h2

/-- A plain product onto a zero accumulator, read at row `r` and column `q`. -/
theorem matmul_zero_apply {M K N : ℕ} {φ₁ φ₂ : FTy} (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant (F := Ideal) ⟨2, ![M, N]⟩ .f32 0x00000000#32) (ix2 r q)
      = ∑ k : Fin K, lhs (ix2 r k) * rhs (ix2 k q) := by
  rw [Ideal.matmul_plain_apply, constant_apply, Ideal.ofBits_zero_f32, zero_add]

/-- Row `r` of the rows times column `q` of the weight. -/
def rowDot {K N : ℕ} (h : FVec Ideal ⟨3, ![2, 8192, K]⟩ .f32) (w : FVec Ideal ⟨3, ![1, K, N]⟩ .f32) (r : Fin 16384) (q : Fin N) : EReal :=
  ∑ k : Fin K, flat h (ix2 r k) * layer w (ix2 k q)

/-- The product of a block of rows and a block of columns, at one element, is `rowDot` there. -/
theorem tile_dot {M K N N' : ℕ} (prec : Option ContractPrecision) (X : FVec Ideal ⟨2, ![M, K]⟩ .bf16)
    (W : FVec Ideal ⟨2, ![K, N]⟩ .bf16) (h : FVec Ideal ⟨3, ![2, 8192, K]⟩ .f32) (w : FVec Ideal ⟨3, ![1, K, N']⟩ .f32)
    (r : Fin M) (q : Fin N) (R : Fin 16384) (Q : Fin N') (hX : ∀ k, X (ix2 r k) = flat h (ix2 R k))
    (hW : ∀ k, W (ix2 k q) = layer w (ix2 k Q)) :
    FloatOps.matmul (DotDims.plain M K N) prec X W (constant (F := Ideal) ⟨2, ![M, N]⟩ .f32 0x00000000#32) (ix2 r q) = rowDot h w R Q :=
  (matmul_zero_apply prec X W r q).trans (Finset.sum_congr rfl fun k _ => mul_congr (hX k) (hW k))

theorem zero₂ : (![0, 0] : Fin 2 → Nat) = fun _ => 0 := funext fun a => by fin_cases a <;> rfl

end Cert.Calls

end
-- ==== Proof.Calls.Norm.lean ====
/-
  The first normalisation: each row over the root of its mean square, times the gain.
-/
module

public import proofs.«01_k».proof.Defs
public import proofs.«01_k».proof.Proof.Gen.NormIdeal.Value
public import proofs.«01_k».proof.Proof.Gen.NormRefIdeal.Read
public import proofs.«01_k».proof.Proof.Calls.Common

@[expose] public section

noncomputable section

namespace Cert.Calls.Norm

open Idealize.ShloMosaic Idealize.ShloMosaic.TcCoe Idealize.SL.Sem Idealize.ShloMosaic.ValueIdx
open Cert.NormIdeal Cert.NormIdeal.Gen
open Idealize.ShloMosaic.Pipeline (Dat)
open scoped BigOperators

/-- The mean square of row `r`, with the small constant added. -/
def meanSq (x : FVec Ideal S2x8192x4096 .f32) (r : Fin 16384) : EReal :=
  Ideal.div (∑ k : Fin 4096, flat x (ix2 r k) * flat x (ix2 r k)) (Ideal.ofBits .f32 0x45800000#32) + Ideal.ofBits .f32 0x358637BD#32

/-- The call's result at row `i 0` and column `i 1`. -/
def val (x : FVec Ideal S2x8192x4096 .f32) (g : FVec Ideal S1x4096 .f32) : FVec Ideal S16384x4096 .bf16 := fun i =>
  flat x i * Ideal.rsqrt (meanSq x (i 0)) * g (ix2 0 (i 1))

/-- The reference's result is `val`. -/
theorem ref_eq (x : FVec Ideal S2x8192x4096 .f32) (g : FVec Ideal S1x4096 .f32) :
    Cert.NormRefIdeal.Read.val_main_v15 (F := Ideal) x g = val x g := by
  funext i
  rw [Cert.NormRefIdeal.Read.val_main_v15_apply, Ideal.truncf_def]
  unfold Cert.NormRefIdeal.Read.val_main_v14
  erw [shapeCast_flat]
  unfold val meanSq flat
  open Cert.NormRefIdeal.Read in
  rw [val_main_v13_apply, val_main_v12_apply, val_main_v11_apply, val_main_v0_apply, val_main_v10_apply, val_main_v9_apply, val_main_v8_apply,
    val_main_v7_apply, val_main_v6_apply, val_main_cst_1_apply, val_main_v5_apply, val_main_v4_apply, val_main_cst_0_apply,
    val_main_v3_apply, val_main_v2_apply]
  simp only [Ideal.mulf_def, Ideal.addf_def, Ideal.hostDivf_def, Ideal.hostUnary_rsqrt_def, Ideal.ofBits_def, Cert.NormRefIdeal.Read.val_main_v1_apply]
  refine mul_congr (mul_congr rfl (congrArg (fun s => Ideal.rsqrt (Ideal.div s _ + _)) ?_)) (congrArg g ?_)
  · rw [Cert.NormRefIdeal.Read.val_main_cst_apply, Ideal.ofBits_def, Ideal.ofBits_zero_f32, zero_add]
    exact Finset.sum_congr rfl fun k _ => mul_congr (congrArg x (idx_ext₃ rfl rfl rfl)) (congrArg x (idx_ext₃ rfl rfl rfl))
  · exact Shape.idx_ext₂ rfl (Nat.mod_eq_of_lt (i 1).isLt)

variable (m : (ℓ : Loc nD τ sig) → Buf (Elt Ideal) ℓ)

/-- The rows as the region finds them. -/
theorem V_rows (c : Dev nD) : V m c main_v0 = flat (m ((c : Thread nD τ).loc main_arg0)) := by
  refine Eq.trans ?_ (shapeCast_flat (m ((c : Thread nD τ).loc main_arg0)) shapeCasts_S2x8192x4096_S16384x4096)
  unfold V
  after_results <;> rfl

/-- The gain as the region finds it. -/
theorem V_gain (c : Dev nD) : V m c main_v2 = m ((c : Thread nD τ).loc main_arg1) := by
  refine Eq.trans (b := shapeCast S1x4096 (shapeCast S4096 (m ((c : Thread nD τ).loc main_arg1)) shapeCasts_S1x4096_S4096) shapeCasts_S4096_S1x4096) ?_ ?_
  · unfold V
    after_results <;> rfl
  · exact shapeCast_shapeCast _ _ _

/-- The blocks' places, point by point. -/
theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

theorem bound (t : Fin cfg0.N) : t.val * 512 + 512 ≤ 16384 := by
  have : t.val < 32 := N_0 ▸ t.isLt
  omega

/-- The row of the array that block `t`'s row `r` is. -/
def row (t : Fin cfg0.N) (r : Fin 512) : Fin 16384 := place t.val r (bound t)

theorem emb2 (t : Fin cfg0.N) (r : Fin 512) (q : Fin 4096) : (win0_2.rect t).emb (ix2 r q) = ix2 (row t r) q :=
  Shape.idx_ext₂ (emb_place win0_2 t _ 0 (idx2 t).1 rfl) ((emb_place win0_2 t _ 1 (idx2 t).2 rfl).trans (Nat.zero_add _))

/-- Block `t` of the rows, and the gain. -/
theorem blk0 (c : Dev nD) (t : Fin cfg0.N) (r : Fin 512) (k : Fin 4096) :
    iblk m c 0 t (ix2 r k) = flat (m ((c : Thread nD τ).loc main_arg0)) (ix2 (row t r) k) :=
  (congrFun (V_rows m c) _).trans (congrArg (flat _) (Shape.idx_ext₂ (emb_place win0_0 t _ 0 (idx0 t).1 rfl)
    ((emb_place win0_0 t _ 1 (idx0 t).2 rfl).trans (Nat.zero_add _))))

theorem blk1 (c : Dev nD) (t : Fin cfg0.N) (q : Fin 4096) :
    iblk m c 1 t (ix2 0 q) = m ((c : Thread nD τ).loc main_arg1) (ix2 0 q) :=
  (congrFun (V_gain m c) _).trans (congrArg (m ((c : Thread nD τ).loc main_arg1)) (Shape.idx_ext₂
    ((emb_place win0_1 t _ 0 (idx1 t).1 rfl).trans (Nat.zero_add _)) ((emb_place win0_1 t _ 1 (idx1 t).2 rfl).trans (Nat.zero_add _))))

/-- What point `t` writes back is block `t` of `val`. -/
theorem flushed_eq (c : Dev nD) (t : Fin cfg0.N) :
    (dats m 0 c).flushed 2 t = ((cfg0.win 2).blk t).view.read (Elt Ideal)
      (val (m ((c : Thread nD τ).loc main_arg0)) (m ((c : Thread nD τ).loc main_arg1))) := by
  rw [Value.flushed2]
  unfold out0_2
  rw [View.canon_unit_zero zero₂, View.ld_unit_zero zero₂, View.ld_unit_zero zero₂]
  funext y
  obtain ⟨r, q, rfl⟩ : ∃ (r : Fin 512) (q : Fin 4096), y = ix2 r q := ⟨y 0, y 1, eq_ix2 y⟩
  refine Eq.trans ?_ (congrArg (val _ _) (emb2 t r q)).symm
  show k0_pay1 (iblk m c 0 t) (iblk m c 1 t) (ix2 r q) = _
  unfold k0_pay1
  simp only [shapeCast_self]
  refine mul_congr (mul_congr (blk0 m c t r q) ?_) ((broadcastTo_row (iblk m c 1 t) (by decide) _ r q).trans (blk1 m c t q))
  refine (broadcastTo_col _ (by decide) _ r q).trans ?_
  refine congrArg (fun s => Ideal.rsqrt (Ideal.div s _ + _)) ?_
  refine (rowSum_col _ _ _ _ _ _ r).trans ?_
  exact Finset.sum_congr rfl fun k _ => mul_congr (blk0 m c t r k) (blk0 m c t r k)

theorem final (c : Dev nD) : (dats m 0 c).arrAt 2 cfg0.N
    = val (m ((c : Thread nD τ).loc main_arg0)) (m ((c : Thread nD τ).loc main_arg1)) :=
  (dats m 0 c).arrAt_eq_of_cover 2 _ (fun t _ => flushed_eq m c t)
    (Pipeline.Window.Covers.cover _ (by decide +kernel) (Memref.isWhole_whole _))

/-- The kernel and the reference leave the same rows. -/
theorem algebraic : Cert.algebraic_NormIdeal_NormRefIdeal := by
  intro m ρ m' ρ' _ hagree
  refine ⟨fun c => val (m ((c : Thread nD τ).loc main_arg0)) (m ((c : Thread nD τ).loc main_arg1)), ?_, ?_⟩
  · exact (θ_run Cert.NormIdeal.defs _ _).mono (fun _ h c => ⟨(h c).1.trans (final m c), (h c).2⟩) (Value.run_blocks m ρ)
  · refine (θ_run Cert.NormRefIdeal.defs _ _).mono (fun _ h c => ⟨(h c).1.trans ?_, (h c).2⟩) (Cert.NormRefIdeal.Value.run (F := Ideal) m' ρ')
    rw [(hagree c).1, (hagree c).2]
    exact (Cert.NormRefIdeal.Read.val_main_v15_eq (F := Ideal) _ _).trans (ref_eq _ _)

end Cert.Calls.Norm

end
-- ==== Proof.Calls.Gelu.lean ====
/-
  The GELU half of the input projection: the exact GELU of the normalised rows times the first 8192 columns.
-/
module

public import proofs.«01_k».proof.Defs
public import proofs.«01_k».proof.Proof.Gen.GeluIdeal.Value
public import proofs.«01_k».proof.Proof.Gen.GeluRefIdeal.Read
public import proofs.«01_k».proof.Proof.Calls.Common

@[expose] public section

noncomputable section

namespace Cert.Calls.Gelu

open Idealize.ShloMosaic Idealize.ShloMosaic.TcCoe Idealize.SL.Sem Idealize.ShloMosaic.ValueIdx
open Cert.GeluIdeal Cert.GeluIdeal.Gen
open Idealize.ShloMosaic.Pipeline (Dat)
open scoped BigOperators

/-- Column `q` of the GELU half among the columns of the input projection. -/
def col (q : Fin 8192) : Fin 28672 := ⟨q.val, by omega⟩

/-- The exact GELU, by the error function. -/
def gelu (s : EReal) : EReal :=
  Ideal.ofBits .f32 0x3F000000#32 * s * (1 + Ideal.erf (s * Ideal.ofBits .f32 0x3F3504F3#32))

/-- The call's result at row `i 0` and column `i 1`. -/
def val (h : FVec Ideal S2x8192x4096 .f32) (w : FVec Ideal S1x4096x28672 .f32) : FVec Ideal S16384x8192 .bf16 := fun i =>
  gelu (rowDot h w (i 0) (col (i 1)))

/-- The reference's result is `val`. -/
theorem ref_eq (h : FVec Ideal S2x8192x4096 .f32) (w : FVec Ideal S1x4096x28672 .f32) :
    Cert.GeluRefIdeal.Read.val_main_v11 (F := Ideal) h w = val h w := by
  funext i
  rw [Cert.GeluRefIdeal.Read.val_main_v11_apply, Ideal.truncf_def]
  unfold Cert.GeluRefIdeal.Read.val_main_v10
  erw [shapeCast_flat]
  unfold flat
  open Cert.GeluRefIdeal.Read in
  rw [val_main_v9_apply, val_main_v8_apply, val_main_v7_apply, val_main_v6_apply, val_main_cst_0_apply, val_main_v5_apply,
    val_main_v4_apply, val_main_v3_apply, val_main_cst_apply, val_main_v2_apply]
  simp only [Ideal.mulf_def, Ideal.hostUnary_erfc_def, Ideal.hostNegf_def, Ideal.negf_def, Ideal.ofBits_def, neg_mul, Ideal.erfc_neg]
  refine congrArg gelu (Finset.sum_congr rfl fun k _ => mul_congr ?_ ?_)
  · exact congrArg h (idx_ext₃ rfl rfl rfl)
  · unfold Cert.GeluRefIdeal.Read.val_main_v1
    erw [shapeCast_layer]
    exact (Cert.GeluRefIdeal.Read.val_main_v0_apply (F := Ideal) w _).trans (congrArg w (idx_ext₃ rfl rfl rfl))

variable (m : (ℓ : Loc nD τ sig) → Buf (Elt Ideal) ℓ)

/-- The rows as the region finds them. -/
theorem V_rows (c : Dev nD) : V m c main_v1 = flat (m ((c : Thread nD τ).loc main_arg0)) := by
  refine Eq.trans ?_ (shapeCast_flat (m ((c : Thread nD τ).loc main_arg0)) shapeCasts_S2x8192x4096_S16384x4096)
  unfold V
  after_results <;> rfl

/-- The projection as the region finds it. -/
theorem V_weight (c : Dev nD) : V m c main_v3 = layer (m ((c : Thread nD τ).loc main_arg1)) := by
  refine Eq.trans ?_ (shapeCast_layer (m ((c : Thread nD τ).loc main_arg1)) shapeCasts_S1x4096x28672_S4096x28672)
  unfold V
  after_results <;> rfl

/-- The blocks' places, point by point. -/
theorem idx0 : ∀ t : Fin grid0.N, win0_0.index t 0 = t.val / 8 ∧ win0_0.index t 1 = 0 := by decide +kernel
theorem idx1 : ∀ t : Fin grid0.N, win0_1.index t 0 = 0 ∧ win0_1.index t 1 = t.val % 8 := by decide +kernel
theorem idx2 : ∀ t : Fin grid0.N, win0_2.index t 0 = t.val / 8 ∧ win0_2.index t 1 = t.val % 8 := by decide +kernel

theorem bound (t : Fin cfg0.N) : t.val / 8 * 1024 + 1024 ≤ 16384 ∧ t.val % 8 * 1024 + 1024 ≤ 8192 := by
  have : t.val < 128 := N_0 ▸ t.isLt
  omega

/-- The row and the column of the result that block `t`'s element `(r, q)` is. -/
def row (t : Fin cfg0.N) (r : Fin 1024) : Fin 16384 := place (t.val / 8) r (bound t).1
def out (t : Fin cfg0.N) (q : Fin 1024) : Fin 8192 := place (t.val % 8) q (bound t).2

theorem emb2 (t : Fin cfg0.N) (r : Fin 1024) (q : Fin 1024) : (win0_2.rect t).emb (ix2 r q) = ix2 (row t r) (out t q) :=
  Shape.idx_ext₂ (emb_place win0_2 t _ 0 (idx2 t).1 rfl) (emb_place win0_2 t _ 1 (idx2 t).2 rfl)

/-- Block `t` of the rows. -/
theorem blk0 (c : Dev nD) (t : Fin cfg0.N) (r : Fin 1024) (k : Fin 4096) :
    iblk m c 0 t (ix2 r k) = flat (m ((c : Thread nD τ).loc main_arg0)) (ix2 (row t r) k) :=
  (congrFun (V_rows m c) _).trans (congrArg (flat _) (Shape.idx_ext₂ (emb_place win0_0 t _ 0 (idx0 t).1 rfl)
    ((emb_place win0_0 t _ 1 (idx0 t).2 rfl).trans (Nat.zero_add _))))

/-- Block `t` of the projection. -/
theorem blk1 (c : Dev nD) (t : Fin cfg0.N) (k : Fin 4096) (q : Fin 1024) :
    iblk m c 1 t (ix2 k q) = layer (m ((c : Thread nD τ).loc main_arg1)) (ix2 k (col (out t q))) :=
  (congrFun (V_weight m c) _).trans (congrArg (layer _) (Shape.idx_ext₂
    ((emb_place win0_1 t _ 0 (idx1 t).1 rfl).trans (Nat.zero_add _)) (emb_place win0_1 t _ 1 (idx1 t).2 rfl)))

/-- What point `t` writes back is block `t` of `val`. -/
theorem flushed_eq (c : Dev nD) (t : Fin cfg0.N) :
    (dats m 0 c).flushed 2 t = ((cfg0.win 2).blk t).view.read (Elt Ideal)
      (val (m ((c : Thread nD τ).loc main_arg0)) (m ((c : Thread nD τ).loc main_arg1))) := by
  rw [Value.flushed2]
  unfold out0_2
  rw [View.canon_unit_zero zero₂, View.ld_unit_zero zero₂, View.ld_unit_zero zero₂]
  funext y
  obtain ⟨r, q, rfl⟩ : ∃ (r : Fin 1024) (q : Fin 1024), y = ix2 r q := ⟨y 0, y 1, eq_ix2 y⟩
  refine Eq.trans ?_ (congrArg (val _ _) (emb2 t r q)).symm
  show k0_pay1 (iblk m c 0 t) (iblk m c 1 t) (ix2 r q) = _
  unfold k0_pay1
  simp only [shapeCast_self]
  refine Eq.trans ?_ (congrArg gelu (tile_dot none (iblk m c 0 t) (iblk m c 1 t) _ _ r q (row t r) (col (out t q))
    (fun k => blk0 m c t r k) (fun k => blk1 m c t k q)))
  unfold gelu
  rw [← Ideal.ofBits_one_f32]
  rfl

theorem final (c : Dev nD) : (dats m 0 c).arrAt 2 cfg0.N
    = val (m ((c : Thread nD τ).loc main_arg0)) (m ((c : Thread nD τ).loc main_arg1)) :=
  (dats m 0 c).arrAt_eq_of_cover 2 _ (fun t _ => flushed_eq m c t)
    (Pipeline.Window.Covers.cover _ (by decide +kernel) (Memref.isWhole_whole _))

/-- The kernel and the reference leave the same rows. -/
theorem algebraic : Cert.algebraic_GeluIdeal_GeluRefIdeal := by
  intro m ρ m' ρ' _ hagree
  refine ⟨fun c => val (m ((c : Thread nD τ).loc main_arg0)) (m ((c : Thread nD τ).loc main_arg1)), ?_, ?_⟩
  · exact (θ_run Cert.GeluIdeal.defs _ _).mono (fun _ h c => ⟨(h c).1.trans (final m c), (h c).2⟩) (Value.run_blocks m ρ)
  · refine (θ_run Cert.GeluRefIdeal.defs _ _).mono (fun _ h c => ⟨(h c).1.trans ?_, (h c).2⟩) (Cert.GeluRefIdeal.Value.run (F := Ideal) m' ρ')
    rw [(hagree c).1, (hagree c).2]
    exact (Cert.GeluRefIdeal.Read.val_main_v11_eq (F := Ideal) _ _).trans (ref_eq _ _)

end Cert.Calls.Gelu

end
-- ==== Proof.Calls.Qkv.lean ====
/-
  The query, key and value part of the input projection, the queries carrying the scale of the scores.
-/
module

public import proofs.«01_k».proof.Defs
public import proofs.«01_k».proof.Proof.Gen.QkvIdeal.Value
public import proofs.«01_k».proof.Proof.Gen.QkvRefIdeal.Read
public import proofs.«01_k».proof.Proof.Calls.Common

@[expose] public section

noncomputable section

namespace Cert.Calls.Qkv

open Idealize.ShloMosaic Idealize.ShloMosaic.TcCoe Idealize.SL.Sem Idealize.ShloMosaic.ValueIdx
open Cert.QkvIdeal Cert.QkvIdeal.Gen
open Idealize.ShloMosaic.Pipeline (Dat)
open scoped BigOperators

/-- Column `q` of this part is column `8192 + q` of the input projection. -/
def col (q : Fin 12288) : Fin 28672 := ⟨8192 + q.val, by omega⟩

/-- The factor on column `q`: the scale of the scores on the 4096 query columns, one on the others. -/
def scale (q : Fin 12288) : EReal := if q.val < 4096 then Ideal.ofBits .f32 0x3E0293EE#32 else 1

/-- The call's result at row `i 0` and column `i 1`. -/
def val (h : FVec Ideal S2x8192x4096 .f32) (w : FVec Ideal S1x4096x28672 .f32) : FVec Ideal S16384x12288 .bf16 := fun i =>
  rowDot h w (i 0) (col (i 1)) * scale (i 1)

/-- The reference's product, before the queries are scaled. -/
theorem ref_dot (h : FVec Ideal S2x8192x4096 .f32) (w : FVec Ideal S1x4096x28672 .f32) (r : Fin 16384) (q : Fin 12288) :
    Cert.QkvRefIdeal.Read.val_main_v2 (F := Ideal) h w (ix3 (seqOf r) (posOf r) q) = rowDot h w r (col q) := by
  rw [Cert.QkvRefIdeal.Read.val_main_v2_apply]
  refine Finset.sum_congr rfl fun k _ => mul_congr ?_ ?_
  · exact congrArg h (idx_ext₃ rfl rfl rfl)
  · unfold Cert.QkvRefIdeal.Read.val_main_v1
    erw [shapeCast_layer]
    exact (Cert.QkvRefIdeal.Read.val_main_v0_apply (F := Ideal) w _).trans (congrArg w (idx_ext₃ rfl rfl rfl))

/-- The three parts the reference puts side by side. -/
def part (h : FVec Ideal S2x8192x4096 .f32) (w : FVec Ideal S1x4096x28672 .f32) : Fin 3 → Cert.QkvRefIdeal.S2x8192x4096.Idx → EReal
  | 0 => Cert.QkvRefIdeal.Read.val_main_v7 (F := Ideal) h w
  | 1 => Cert.QkvRefIdeal.Read.val_main_v4 (F := Ideal) h w
  | 2 => Cert.QkvRefIdeal.Read.val_main_v5 (F := Ideal) h w

/-- Part `n` at column `q` is the product at column `4096 n + q`, scaled. -/
theorem part_eq (h : FVec Ideal S2x8192x4096 .f32) (w : FVec Ideal S1x4096x28672 .f32) (r : Fin 16384) (n : Fin 3) (q : Fin 4096)
    (Q : Fin 12288) (hQ : Q.val = n.val * 4096 + q.val) :
    part h w n (ix3 (seqOf r) (posOf r) q) = rowDot h w r (col Q) * scale Q := by
  have hq := q.isLt
  rw [← ref_dot]
  unfold scale
  obtain h0 | h1 | h2 : n = 0 ∨ n = 1 ∨ n = 2 := by fin_cases n <;> simp
  · subst h0
    rw [if_pos (by show Q.val < 4096; rw [hQ]; show 0 * 4096 + q.val < 4096; omega)]
    refine (Cert.QkvRefIdeal.Read.val_main_v7_apply (F := Ideal) h w _).trans (mul_congr ?_ ?_)
    · exact (Cert.QkvRefIdeal.Read.val_main_v3_apply (F := Ideal) h w _).trans (congrArg _ (idx_ext₃ rfl rfl (hQ.trans (Nat.zero_add _)).symm))
    · exact (Cert.QkvRefIdeal.Read.val_main_v6_apply (F := Ideal) _).trans rfl
  · subst h1
    rw [if_neg (by show ¬ Q.val < 4096; rw [hQ]; show ¬ 1 * 4096 + q.val < 4096; omega), mul_one]
    exact (Cert.QkvRefIdeal.Read.val_main_v4_apply (F := Ideal) h w _).trans (congrArg _ (idx_ext₃ rfl rfl hQ.symm))
  · subst h2
    rw [if_neg (by show ¬ Q.val < 4096; rw [hQ]; show ¬ 2 * 4096 + q.val < 4096; omega), mul_one]
    exact (Cert.QkvRefIdeal.Read.val_main_v5_apply (F := Ideal) h w _).trans (congrArg _ (idx_ext₃ rfl rfl hQ.symm))

/-- The reference's result is `val`. -/
theorem ref_eq (h : FVec Ideal S2x8192x4096 .f32) (w : FVec Ideal S1x4096x28672 .f32) :
    Cert.QkvRefIdeal.Read.val_main_v10 (F := Ideal) h w = val h w := by
  funext i
  have hi : (i 1).val < 12288 := (i 1).isLt
  rw [Cert.QkvRefIdeal.Read.val_main_v10_apply, Ideal.truncf_def]
  unfold Cert.QkvRefIdeal.Read.val_main_v9
  erw [shapeCast_flat]
  unfold flat Cert.QkvRefIdeal.Read.val_main_v8
  refine Eq.trans (concatenate_ofFn_apply (t := Cert.QkvRefIdeal.S2x8192x12288) 2 (part h w)
    Cert.QkvRefIdeal.Facts₀.concatenates_S2x8192x4096_S2x8192x4096_S2x8192x4096_S2x8192x12288_d2 rfl 4096 rfl
    (ix3 (seqOf (i 0)) (posOf (i 0)) (i 1)) ⟨(i 1).val / 4096, by omega⟩ rfl (ix3 (seqOf (i 0)) (posOf (i 0)) ⟨(i 1).val % 4096, by omega⟩) rfl ?_)
    (part_eq h w (i 0) _ _ (i 1) (by show (i 1).val = (i 1).val / 4096 * 4096 + (i 1).val % 4096; omega))
  intro b hb
  match b with
  | ⟨0, _⟩ => rfl
  | ⟨1, _⟩ => rfl
  | ⟨2, _⟩ => exact absurd rfl hb

variable (m : (ℓ : Loc nD τ sig) → Buf (Elt Ideal) ℓ)

/-- The rows as the region finds them. -/
theorem V_rows (c : Dev nD) : V m c main_v5 = flat (m ((c : Thread nD τ).loc main_arg0)) := by
  refine Eq.trans ?_ (shapeCast_flat (m ((c : Thread nD τ).loc main_arg0)) shapeCasts_S2x8192x4096_S16384x4096)
  unfold V
  after_results <;> rfl

/-- The projection as the region finds it. -/
theorem V_weight (c : Dev nD) : V m c main_v7 = layer (m ((c : Thread nD τ).loc main_arg1)) := by
  refine Eq.trans ?_ (shapeCast_layer (m ((c : Thread nD τ).loc main_arg1)) shapeCasts_S1x4096x28672_S4096x28672)
  unfold V
  after_results <;> rfl

/-- The factors as the region finds them. -/
theorem V_scale (c : Dev nD) (q : Fin 12288) : V m c main_v3 (ix2 0 q) = scale q := by
  refine Eq.trans (b := shapeCast S1x12288 (concatenate S12288 0
    [⟨S4096, broadcastInDim S4096 ![] bcast_S_S4096 (constant (F := Ideal) S_ .f32 0x3E0293EE#32)⟩,
      ⟨S8192, broadcastInDim S8192 ![] bcast_S_S8192 (constant (F := Ideal) S_ .f32 0x3F800000#32)⟩]
    concatenates_S4096_S8192_S12288_d0) shapeCasts_S12288_S1x12288 (ix2 0 q)) ?_ ?_
  · refine congrFun ?_ _
    unfold V
    after_results <;> rfl
  refine (shapeCast_apply _ _ _ (ix1 q) ?_).trans ?_
  · rewrite [Shape.rowMajor_val_one, Shape.rowMajor_val_two]
    show q.val = 0 * 12288 + q.val
    omega
  unfold scale
  split
  · next hq =>
    refine (concatenate_pair_apply_left (t := S12288) (s₁ := S4096) (s₂ := S8192) 0 _ _ _ _ rfl (ix1 ⟨q.val, hq⟩) (fun b => ?_)).trans ?_
    · match b with | ⟨0, _⟩ => rfl
    · rfl
  · next hq =>
    have := q.isLt
    refine (concatenate_pair_apply_right (t := S12288) (s₁ := S4096) (s₂ := S8192) 0 _ _ _ _ rfl rfl (ix1 ⟨q.val - 4096, by omega⟩) (fun b hb => ?_) ?_).trans ?_
    · match b with | ⟨0, _⟩ => exact absurd rfl hb
    · show q.val - 4096 + 4096 = q.val
      omega
    · exact Ideal.ofBits_one_f32

/-- The blocks' places, point by point. -/
theorem idx0 : ∀ t : Fin grid0.N, win0_0.index t 0 = t.val / 12 ∧ win0_0.index t 1 = 0 := by decide +kernel
theorem idx1 : ∀ t : Fin grid0.N, win0_1.index t 0 = 0 ∧ win0_1.index t 1 = 8 + t.val % 12 := by decide +kernel
theorem idx2 : ∀ t : Fin grid0.N, win0_2.index t 0 = 0 ∧ win0_2.index t 1 = t.val % 12 := by decide +kernel
theorem idx3 : ∀ t : Fin grid0.N, win0_3.index t 0 = t.val / 12 ∧ win0_3.index t 1 = t.val % 12 := by decide +kernel

theorem bound (t : Fin cfg0.N) : t.val / 12 * 1024 + 1024 ≤ 16384 ∧ t.val % 12 * 1024 + 1024 ≤ 12288 := by
  have : t.val < 192 := N_0 ▸ t.isLt
  omega

/-- The row and the column of the result that block `t`'s element `(r, q)` is. -/
def row (t : Fin cfg0.N) (r : Fin 1024) : Fin 16384 := place (t.val / 12) r (bound t).1
def out (t : Fin cfg0.N) (q : Fin 1024) : Fin 12288 := place (t.val % 12) q (bound t).2

theorem emb3 (t : Fin cfg0.N) (r : Fin 1024) (q : Fin 1024) : (win0_3.rect t).emb (ix2 r q) = ix2 (row t r) (out t q) :=
  Shape.idx_ext₂ (emb_place win0_3 t _ 0 (idx3 t).1 rfl) (emb_place win0_3 t _ 1 (idx3 t).2 rfl)

/-- Block `t` of the rows, of the projection and of the factors. -/
theorem blk0 (c : Dev nD) (t : Fin cfg0.N) (r : Fin 1024) (k : Fin 4096) :
    iblk m c 0 t (ix2 r k) = flat (m ((c : Thread nD τ).loc main_arg0)) (ix2 (row t r) k) :=
  (congrFun (V_rows m c) _).trans (congrArg (flat _) (Shape.idx_ext₂ (emb_place win0_0 t _ 0 (idx0 t).1 rfl)
    ((emb_place win0_0 t _ 1 (idx0 t).2 rfl).trans (Nat.zero_add _))))

theorem blk1 (c : Dev nD) (t : Fin cfg0.N) (k : Fin 4096) (q : Fin 1024) :
    iblk m c 1 t (ix2 k q) = layer (m ((c : Thread nD τ).loc main_arg1)) (ix2 k (col (out t q))) :=
  (congrFun (V_weight m c) _).trans (congrArg (layer _) (Shape.idx_ext₂
    ((emb_place win0_1 t _ 0 (idx1 t).1 rfl).trans (Nat.zero_add _))
    ((emb_place win0_1 t _ 1 (idx1 t).2 rfl).trans
      (show (8 + t.val % 12) * 1024 + q.val = 8192 + (t.val % 12 * 1024 + q.val) by omega))))

theorem blk2 (c : Dev nD) (t : Fin cfg0.N) (q : Fin 1024) : iblk m c 2 t (ix2 0 q) = scale (out t q) :=
  (congrArg (V m c main_v3) (Shape.idx_ext₂ (emb_place win0_2 t _ 0 (idx2 t).1 rfl)
    (emb_place win0_2 t _ 1 (idx2 t).2 rfl))).trans (V_scale m c (out t q))

/-- What point `t` writes back is block `t` of `val`. -/
theorem flushed_eq (c : Dev nD) (t : Fin cfg0.N) :
    (dats m 0 c).flushed 3 t = ((cfg0.win 3).blk t).view.read (Elt Ideal)
      (val (m ((c : Thread nD τ).loc main_arg0)) (m ((c : Thread nD τ).loc main_arg1))) := by
  rw [Value.flushed3]
  unfold out0_3
  rw [View.canon_unit_zero zero₂, View.ld_unit_zero zero₂, View.ld_unit_zero zero₂, View.ld_unit_zero zero₂]
  funext y
  obtain ⟨r, q, rfl⟩ : ∃ (r : Fin 1024) (q : Fin 1024), y = ix2 r q := ⟨y 0, y 1, eq_ix2 y⟩
  refine Eq.trans ?_ (congrArg (val _ _) (emb3 t r q)).symm
  show k0_pay1 (iblk m c 0 t) (iblk m c 1 t) (iblk m c 2 t) (ix2 r q) = _
  unfold k0_pay1
  simp only [shapeCast_self]
  exact mul_congr (tile_dot none (iblk m c 0 t) (iblk m c 1 t) _ _ r q (row t r) (col (out t q))
    (fun k => blk0 m c t r k) (fun k => blk1 m c t k q)) ((broadcastTo_row (iblk m c 2 t) (by decide) _ r q).trans (blk2 m c t q))

theorem final (c : Dev nD) : (dats m 0 c).arrAt 3 cfg0.N
    = val (m ((c : Thread nD τ).loc main_arg0)) (m ((c : Thread nD τ).loc main_arg1)) :=
  (dats m 0 c).arrAt_eq_of_cover 3 _ (fun t _ => flushed_eq m c t)
    (Pipeline.Window.Covers.cover _ (by decide +kernel) (Memref.isWhole_whole _))

/-- The kernel and the reference leave the same queries, keys and values. -/
theorem algebraic : Cert.algebraic_QkvIdeal_QkvRefIdeal := by
  intro m ρ m' ρ' _ hagree
  refine ⟨fun c => val (m ((c : Thread nD τ).loc main_arg0)) (m ((c : Thread nD τ).loc main_arg1)), ?_, ?_⟩
  · exact (θ_run Cert.QkvIdeal.defs _ _).mono (fun _ h c => ⟨(h c).1.trans (final m c), (h c).2⟩) (Value.run_blocks m ρ)
  · refine (θ_run Cert.QkvRefIdeal.defs _ _).mono (fun _ h c => ⟨(h c).1.trans ?_, (h c).2⟩) (Cert.QkvRefIdeal.Value.run (F := Ideal) m' ρ')
    rw [(hagree c).1, (hagree c).2]
    exact (Cert.QkvRefIdeal.Read.val_main_v10_eq (F := Ideal) _ _).trans (ref_eq _ _)

end Cert.Calls.Qkv

end
-- ==== Proof.Calls.Gates.lean ====
/-
  The gates call: sigmoid of the normalised rows times the gate columns of the input projection, plus a bias.
-/
module

public import proofs.«01_k».proof.Defs
public import proofs.«01_k».proof.Proof.Gen.GatesIdeal.Value
public import proofs.«01_k».proof.Proof.Gen.GatesRefIdeal.Read
public import proofs.«01_k».proof.Proof.Calls.Common

@[expose] public section

noncomputable section

namespace Cert.Calls.Gates

open Idealize.ShloMosaic Idealize.ShloMosaic.TcCoe Idealize.SL.Sem Idealize.ShloMosaic.ValueIdx
open Cert.GatesIdeal Cert.GatesIdeal.Gen
open Idealize.ShloMosaic.Pipeline (Dat)
open scoped BigOperators

/-- Column `q` of the gates is column `20480 + q` of the input projection. -/
def col (q : Fin 8192) : Fin 28672 := ⟨20480 + q.val, by omega⟩

/-- The gate of row `r` and column `q`. -/
def gate (h : FVec Ideal S2x8192x4096 .f32) (w : FVec Ideal S1x4096x28672 .f32) (b : FVec Ideal S1x2x4096 .f32) :
    FVec Ideal S16384x8192 .bf16 := fun i =>
  Ideal.logistic (rowDot h w (i 0) (col (i 1))
    + b (ix3 0 ⟨(i 1).val / 4096, by have : (i 1).val < 8192 := (i 1).isLt; show _ < 2; omega⟩ ⟨(i 1).val % 4096, by show _ < 4096; omega⟩))

/-- The reference's result is the gate at every element. -/
theorem ref_eq (h : FVec Ideal S2x8192x4096 .f32) (w : FVec Ideal S1x4096x28672 .f32) (b : FVec Ideal S1x2x4096 .f32) :
    Cert.GatesRefIdeal.Read.val_main_v15 (F := Ideal) h w b = gate h w b := by
  funext i
  rw [Cert.GatesRefIdeal.Read.val_main_v15_apply, Ideal.truncf_def]
  unfold Cert.GatesRefIdeal.Read.val_main_v14
  erw [shapeCast_flat]
  unfold flat
  open Cert.GatesRefIdeal.Read in
  rw [val_main_v13_apply, val_main_v12_apply, val_main_cst_0_apply, val_main_v11_apply, val_main_v10_apply, val_main_cst_apply, val_main_v9_apply, val_main_v8_apply, val_main_v7_apply, val_main_v2_apply,
    val_main_v6_apply, val_main_v5_apply, val_main_v4_apply, val_main_v3_apply]
  simp only [Ideal.hostDivf_def, Ideal.addf_def, Ideal.hostUnary_exp_def, Ideal.hostNegf_def, Ideal.negf_def, Ideal.ofBits_def, Ideal.ofBits_one_f32]
  refine congrArg (fun s => Ideal.div 1 (1 + Ideal.exp (-s))) (add_congr (Finset.sum_congr rfl fun k _ => mul_congr ?_ ?_) ?_)
  · exact congrArg h (idx_ext₃ rfl rfl rfl)
  · unfold Cert.GatesRefIdeal.Read.val_main_v1
    erw [shapeCast_layer]
    refine (Cert.GatesRefIdeal.Read.val_main_v0_apply (F := Ideal) w _).trans ?_
    exact congrArg w (idx_ext₃ rfl rfl rfl)
  · refine congrArg b (idx_ext₃ rfl ?_ ?_)
    · show (((i 1).val / 4096) * 4096 + (i 1).val % 4096) / 4096 % 2 = (i 1).val / 4096
      have : (i 1).val < 8192 := (i 1).isLt
      omega
    · show (((i 1).val / 4096) * 4096 + (i 1).val % 4096) % 4096 = (i 1).val % 4096
      omega

variable (m : (ℓ : Loc nD τ sig) → Buf (Elt Ideal) ℓ)

/-- The rows as the region finds them. -/
theorem V_rows (c : Dev nD) : V m c main_v1 = flat (m ((c : Thread nD τ).loc main_arg0)) := by
  refine Eq.trans ?_ (shapeCast_flat (m ((c : Thread nD τ).loc main_arg0)) shapeCasts_S2x8192x4096_S16384x4096)
  unfold V
  after_results <;> rfl

/-- The projection as the region finds it. -/
theorem V_weight (c : Dev nD) : V m c main_v3 = layer (m ((c : Thread nD τ).loc main_arg1)) := by
  refine Eq.trans ?_ (shapeCast_layer (m ((c : Thread nD τ).loc main_arg1)) shapeCasts_S1x4096x28672_S4096x28672)
  unfold V
  after_results <;> rfl

/-- The bias as the region finds it. -/
theorem V_bias (c : Dev nD) (q : Fin 8192) : V m c main_v5 (ix2 0 q) = m ((c : Thread nD τ).loc main_arg2)
    (ix3 0 ⟨q.val / 4096, by omega⟩ ⟨q.val % 4096, by omega⟩) := by
  refine Eq.trans (b := shapeCast S1x8192 (shapeCast S2x4096 (m ((c : Thread nD τ).loc main_arg2)) shapeCasts_S1x2x4096_S2x4096) shapeCasts_S2x4096_S1x8192 (ix2 0 q)) ?_ ?_
  · refine congrFun ?_ _
    unfold V
    after_results <;> rfl
  rw [shapeCast_layer]
  refine (shapeCast_apply _ _ _ (ix2 ⟨q.val / 4096, by omega⟩ ⟨q.val % 4096, by omega⟩) ?_).trans rfl
  rewrite [Shape.rowMajor_val_two, Shape.rowMajor_val_two]
  show q.val / 4096 * 4096 + q.val % 4096 = 0 * 8192 + q.val
  omega

/-- The blocks' places, point by point. -/
theorem idx_facts : ∀ t : Fin grid0.N, win0_0.index t 0 = t.val / 8 ∧ win0_0.index t 1 = 0 ∧ win0_1.index t 0 = 0 ∧ win0_1.index t 1 = 20 + t.val % 8
    ∧ win0_2.index t 0 = 0 ∧ win0_2.index t 1 = t.val % 8 ∧ win0_3.index t 0 = t.val / 8 ∧ win0_3.index t 1 = t.val % 8 := by
  decide +kernel

/-- Where block `t` of the result lies. -/
theorem bound (t : Fin cfg0.N) : t.val / 8 * 1024 + 1024 ≤ 16384 ∧ t.val % 8 * 1024 + 1024 ≤ 8192 := by
  have : t.val < 128 := N_0 ▸ t.isLt
  omega

/-- The place in the result array of block `t`'s element `(r, q)`. -/
def at3 (t : Fin cfg0.N) (r : Fin 1024) (q : Fin 1024) : S16384x8192.Idx :=
  ix2 (place (t.val / 8) r (bound t).1) (place (t.val % 8) q (bound t).2)

theorem emb3 (t : Fin cfg0.N) (r : Fin 1024) (q : Fin 1024) : (win0_3.rect t).emb (ix2 r q) = at3 t r q :=
  Shape.idx_ext₂ (emb_place win0_3 t _ 0 (idx_facts t).2.2.2.2.2.2.1 rfl) (emb_place win0_3 t _ 1 (idx_facts t).2.2.2.2.2.2.2 rfl)

/-- Block `t` of the rows. -/
theorem blk0 (c : Dev nD) (t : Fin cfg0.N) (r : Fin 1024) (k : Fin 4096) :
    iblk m c 0 t (ix2 r k) = flat (m ((c : Thread nD τ).loc main_arg0)) (ix2 (place (t.val / 8) r (bound t).1) k) :=
  (congrFun (V_rows m c) _).trans (congrArg (flat _) (Shape.idx_ext₂ (emb_place win0_0 t _ 0 (idx_facts t).1 rfl)
    ((emb_place win0_0 t _ 1 (idx_facts t).2.1 rfl).trans (Nat.zero_add _))))

/-- Block `t` of the projection. -/
theorem blk1 (c : Dev nD) (t : Fin cfg0.N) (k : Fin 4096) (q : Fin 1024) :
    iblk m c 1 t (ix2 k q) = layer (m ((c : Thread nD τ).loc main_arg1)) (ix2 k (col (place (t.val % 8) q (bound t).2))) :=
  (congrFun (V_weight m c) _).trans (congrArg (layer _) (Shape.idx_ext₂
    ((emb_place win0_1 t _ 0 (idx_facts t).2.2.1 rfl).trans (Nat.zero_add _))
    ((emb_place win0_1 t _ 1 (idx_facts t).2.2.2.1 rfl).trans
      (show (20 + t.val % 8) * 1024 + q.val = 20480 + (t.val % 8 * 1024 + q.val) by omega))))

/-- Block `t` of the bias. -/
theorem blk2 (c : Dev nD) (t : Fin cfg0.N) (q : Fin 1024) :
    iblk m c 2 t (ix2 0 q) = V m c main_v5 (ix2 0 (place (t.val % 8) q (bound t).2)) :=
  congrArg (V m c main_v5) (Shape.idx_ext₂ (emb_place win0_2 t _ 0 (idx_facts t).2.2.2.2.1 rfl)
    (emb_place win0_2 t _ 1 (idx_facts t).2.2.2.2.2.1 rfl))

/-- What point `t` writes back is block `t` of the gates. -/
theorem flushed_eq (c : Dev nD) (t : Fin cfg0.N) :
    (dats m 0 c).flushed 3 t = ((cfg0.win 3).blk t).view.read (Elt Ideal)
      (gate (m ((c : Thread nD τ).loc main_arg0)) (m ((c : Thread nD τ).loc main_arg1)) (m ((c : Thread nD τ).loc main_arg2))) := by
  rw [Value.flushed3]
  unfold out0_3
  rw [View.canon_unit_zero zero₂, View.ld_unit_zero zero₂, View.ld_unit_zero zero₂, View.ld_unit_zero zero₂]
  funext y
  obtain ⟨r, q, rfl⟩ : ∃ (r : Fin 1024) (q : Fin 1024), y = ix2 r q := ⟨y 0, y 1, eq_ix2 y⟩
  refine Eq.trans ?_ (congrArg (gate _ _ _) (emb3 t r q)).symm
  show k0_pay1 (iblk m c 0 t) (iblk m c 1 t) (iblk m c 2 t) (ix2 r q) = _
  unfold k0_pay1
  simp only [shapeCast_self]
  exact congrArg Ideal.logistic (add_congr
    (tile_dot none (iblk m c 0 t) (iblk m c 1 t) _ _ r q (place (t.val / 8) r (bound t).1) (col (place (t.val % 8) q (bound t).2))
      (fun k => blk0 m c t r k) (fun k => blk1 m c t k q))
    ((broadcastTo_row (iblk m c 2 t) (by decide) _ r q).trans ((blk2 m c t q).trans (V_bias m c _))))

/-- After the run the result array holds the gates. -/
theorem final (c : Dev nD) : (dats m 0 c).arrAt 3 cfg0.N
    = gate (m ((c : Thread nD τ).loc main_arg0)) (m ((c : Thread nD τ).loc main_arg1)) (m ((c : Thread nD τ).loc main_arg2)) :=
  (dats m 0 c).arrAt_eq_of_cover 3 _ (fun t _ => flushed_eq m c t)
    (Pipeline.Window.Covers.cover _ (by decide +kernel) (Memref.isWhole_whole _))

/-- The kernel and the reference leave the same gates. -/
theorem algebraic : Cert.algebraic_GatesIdeal_GatesRefIdeal := by
  intro m ρ m' ρ' _ hagree
  refine ⟨fun c => gate (m ((c : Thread nD τ).loc main_arg0)) (m ((c : Thread nD τ).loc main_arg1)) (m ((c : Thread nD τ).loc main_arg2)), ?_, ?_⟩
  · exact (θ_run Cert.GatesIdeal.defs _ _).mono (fun _ h c => ⟨(h c).1.trans (final m c), (h c).2⟩) (Value.run_blocks m ρ)
  · refine (θ_run Cert.GatesRefIdeal.defs _ _).mono (fun _ h c => ⟨(h c).1.trans ?_, (h c).2⟩) (Cert.GatesRefIdeal.Value.run (F := Ideal) m' ρ')
    rw [(hagree c).1, (hagree c).2.1, (hagree c).2.2]
    exact (Cert.GatesRefIdeal.Read.val_main_v15_eq (F := Ideal) _ _ _).trans (ref_eq _ _ _)

end Cert.Calls.Gates

end
-- ==== Proof.Calls.GmlpTile.lean ====
/-
  The gating call, one stored piece: 128 rows of the second half of the input are normalised, mixed along the rows by
  one group's weights, shifted by that group's column and multiplied by the rows of the first half. The piece is read
  at one element, and so is a group's weights with the entries above the diagonal set to zero.
-/
module

public import proofs.«01_k».proof.Defs
public import proofs.«01_k».proof.Proof.Gen.GmlpIdeal.Value
public import proofs.«01_k».proof.Proof.Calls.Common
public import Idealize.ShloMosaic.Lib.Pipeline.ValueKit.Tiles

@[expose] public section

noncomputable section

namespace Cert.Calls.Gmlp

open Idealize.ShloMosaic Idealize.ShloMosaic.TcCoe Idealize.SL.Sem Idealize.ShloMosaic.ValueIdx
open Cert.GmlpIdeal Cert.GmlpIdeal.Gen
open scoped BigOperators

/-! ## A row, normalised -/

/-- Element `j` of row `f` less its mean, over the root of the variance plus the small constant, times a gain plus a shift. -/
def normAt (f : Fin 4096 → EReal) (g b : EReal) (j : Fin 4096) : EReal :=
  (f j - Ideal.div (∑ k, f k) (Ideal.ofBits .f32 0x45800000#32))
    * Ideal.rsqrt (Ideal.div (∑ l, (f l - Ideal.div (∑ k, f k) (Ideal.ofBits .f32 0x45800000#32)) * (f l - Ideal.div (∑ k, f k) (Ideal.ofBits .f32 0x45800000#32)))
        (Ideal.ofBits .f32 0x45800000#32) + Ideal.ofBits .f32 0x3727C5AC#32) * g + b

/-- Equal rows, gains and shifts give equal elements. -/
theorem normAt_congr {f f' : Fin 4096 → EReal} {g g' b b' : EReal} (hf : ∀ k, f k = f' k) (hg : g = g') (hb : b = b') (j : Fin 4096) :
    normAt f g b j = normAt f' g' b' j := by
  rw [funext hf, hg, hb]

/-- The mean of each row, spread along it, at one element. -/
theorem mean_apply (x : FVec Ideal S128x4096 .f32) (r : Fin 128) (j : Fin 4096) :
    broadcastTo S128x4096 (divf (shapeCast S128x1 (multiReduction (F := Ideal) .add [1] S128 x 0x00000000#32 reduces_S128x4096_S128 (.inl rfl) rfl) shapeCasts_S128_S128x1)
      (broadcast S128x1 (Scalar.ofBits (F := Ideal) .f32 0x45800000#32))) broadcasts_S128x1_S128x4096 (ix2 r j)
      = Ideal.div (∑ k : Fin 4096, x (ix2 r k)) (Ideal.ofBits .f32 0x45800000#32) :=
  (broadcastTo_col _ (by decide) _ r j).trans
    (congrArg (fun s => Ideal.div s (Ideal.ofBits .f32 0x45800000#32)) (rowSum_col x _ _ _ _ _ r))

/-- The rows of a block, normalised, at one element. -/
theorem norm_apply (v : Vec Ideal S128x4096 .bf16) (g b : Vec Ideal S1x4096 .f32) (r : Fin 128) (j : Fin 4096) :
    k0_pay23 (F := Ideal) v g b (ix2 r j) = normAt (fun k => v (ix2 r k)) (g (ix2 0 j)) (b (ix2 0 j)) j := by
  unfold k0_pay23 normAt
  simp only [shapeCast_self]
  have hm : ∀ l : Fin 4096, (subf (extf .f32 v bitsLt_bf16_f32) (broadcastTo S128x4096 (divf (shapeCast S128x1 (multiReduction (F := Ideal) .add [1] S128 (extf .f32 v bitsLt_bf16_f32)
      0x00000000#32 reduces_S128x4096_S128 (.inl rfl) rfl) shapeCasts_S128_S128x1) (broadcast S128x1 (Scalar.ofBits (F := Ideal) .f32 0x45800000#32)))
      broadcasts_S128x1_S128x4096)) (ix2 r l) = v (ix2 r l) - Ideal.div (∑ k : Fin 4096, v (ix2 r k)) (Ideal.ofBits .f32 0x45800000#32) :=
    fun l => congrArg (fun s => v (ix2 r l) - s) (mean_apply (extf .f32 v bitsLt_bf16_f32) r l)
  refine add_congr (mul_congr (mul_congr (hm j) ?_) (broadcastTo_row g (by decide) _ r j)) (broadcastTo_row b (by decide) _ r j)
  refine (broadcastTo_col _ (by decide) _ r j).trans ?_
  refine congrArg (fun s => Ideal.rsqrt (Ideal.div s _ + _)) ?_
  refine (rowSum_col _ _ _ _ _ _ r).trans ?_
  exact Finset.sum_congr rfl fun l _ => mul_congr (hm l) (hm l)

/-! ## The rectangles -/

/-- A rectangle of a rank-two array lies inside it. -/
theorem inb₂ {a b c d e f : ℕ} (h0 : a + c ≤ e) (h1 : b + d ≤ f) : ∀ i : Fin 2, (![a, b] : Fin 2 → ℕ) i + (![c, d] : Fin 2 → ℕ) i ≤ (![e, f] : Fin 2 → ℕ) i
  | ⟨0, _⟩ => h0
  | ⟨1, _⟩ => h1

/-- A group's rectangle of a rank-three array lies inside it. -/
theorem inb₃ {a n c d : ℕ} (h : a + 1 ≤ n) : ∀ i : Fin 3, (![a, 0, 0] : Fin 3 → ℕ) i + (![1, c, d] : Fin 3 → ℕ) i ≤ (![n, c, d] : Fin 3 → ℕ) i
  | ⟨0, _⟩ => h
  | ⟨1, _⟩ => (Nat.zero_add _).le
  | ⟨2, _⟩ => (Nat.zero_add _).le

/-- 256 columns of a block of rows lie inside it. -/
theorem slices {b : ℕ} (h : b + 256 ≤ 4096) : S128x4096.Slices ![0, b] S128x256 :=
  ⟨rfl, fun a => match a with
    | ⟨0, _⟩ => (Nat.zero_add 128).le
    | ⟨1, _⟩ => h⟩

/-! ## One piece -/

variable (X0 X1 : Vec Ideal S512x4096 .bf16) (X2 X3 : Vec Ideal S1x4096 .f32) (X5 : Vec Ideal S16x128x1 .f32) (W : Vec Ideal S16x128x128 .bf16)

/-- The piece at row `a` and column `b` of the block. -/
def mix (a b : ℕ) (ha : a + 128 ≤ 512) (hb : b + 256 ≤ 4096) : FVec Ideal S128x256 .bf16 :=
  truncf .bf16 (mulf (extf .f32 (shapeCast S128x256 (View.ld X0 (Rect.unit (s := S512x4096) ![a, b] S128x256.size (inb₂ ha hb))) shapeCasts_S128x256_S128x256) bitsLt_bf16_f32)
    (addf (matmul dot_S128x128_S128x256_S128x256_1_0_0_1_n_n none
        (shapeCast S128x128 (View.ld W (Rect.unit (s := S16x128x128) ![b / 256, 0, 0] S1x128x128.size (inb₃ (by omega)))) shapeCasts_S1x128x128_S128x128 : FVec Ideal S128x128 .bf16)
        (extractStridedSlice S128x256 ![0, b] (k0_pay23 (F := Ideal) (View.ld X1 (Rect.unit (s := S512x4096) ![a, 0] S128x4096.size (inb₂ ha (by omega))))
          (View.ld X2 (Rect.unit (s := S1x4096) ![0, 0] S1x4096.size (inb₂ (by omega) (by omega))))
          (View.ld X3 (Rect.unit (s := S1x4096) ![0, 0] S1x4096.size (inb₂ (by omega) (by omega))))) (slices hb))
        (constant S128x256 .f32 0x00000000#32))
      (broadcastTo S128x256 (shapeCast S128x1 (View.ld X5 (Rect.unit (s := S16x128x1) ![b / 256, 0, 0] S1x128x1.size (inb₃ (by omega)))) shapeCasts_S1x128x1_S128x1)
        broadcasts_S128x1_S128x256))) bitsLt_bf16_f32

/-- The group that column `j` belongs to. -/
def grp (j : Fin 4096) : Fin 16 := ⟨j.val / 256, by omega⟩
/-- The place of row `r` within its 128 rows. -/
def sub {n : ℕ} (r : Fin n) : Fin 128 := ⟨r.val % 128, by omega⟩
/-- Row `s` of the 128 rows that row `r` lies in. -/
def mate {n : ℕ} (r : Fin n) (s : Fin 128) (h : 128 ∣ n) : Fin n := ⟨r.val / 128 * 128 + s.val, by obtain ⟨k, rfl⟩ := h; omega⟩

/-- What a block of the result holds at an element, from the block's inputs. -/
def blockAt : S512x4096.Idx → EReal := fun y =>
  X0 y * ((∑ s : Fin 128, W (ix3 (grp (y 1)) (sub (y 0)) s)
      * normAt (fun k => X1 (ix2 (mate (n := 512) (y 0) s (by decide)) k)) (X2 (ix2 0 (y 1))) (X3 (ix2 0 (y 1))) (y 1))
    + X5 (ix3 (grp (y 1)) (sub (y 0)) 0))

/-- The piece's elements are the block's. -/
theorem eq_mix (a b : ℕ) (ha : a + 128 ≤ 512) (hb : b + 256 ≤ 4096) (ha' : a % 128 = 0) (hb' : b % 256 = 0) (x : S128x256.Idx) :
    blockAt X0 X1 X2 X3 X5 W ((Rect.unit (s := S512x4096) ![a, b] S128x256.size (inb₂ ha hb)).emb x) = mix X0 X1 X2 X3 X5 W a b ha hb x := by
  symm
  obtain ⟨p, q, rfl⟩ : ∃ (p : Fin 128) (q : Fin 256), x = ix2 p q := ⟨x 0, x 1, eq_ix2 x⟩
  have he : (Rect.unit (s := S512x4096) ![a, b] S128x256.size (inb₂ ha hb)).emb (ix2 p q) = ix2 ⟨a + p.val, by omega⟩ ⟨b + q.val, by omega⟩ :=
    Shape.idx_ext₂ (show a + 1 * p.val = a + p.val by omega) (show b + 1 * q.val = b + q.val by omega)
  rw [he]
  have hg : b / 256 = (b + q.val) / 256 := by omega
  have hp : p.val = (a + p.val) % 128 := by omega
  have hd : (a + p.val) / 128 * 128 = a := by omega
  unfold mix blockAt
  refine mul_congr ((congrFun (shapeCast_self (View.ld X0 (Rect.unit (s := S512x4096) ![a, b] S128x256.size (inb₂ ha hb))) shapeCasts_S128x256_S128x256) (ix2 p q)).trans
    (congrArg X0 he)) (add_congr ?_ ?_)
  · refine (matmul_zero_apply (φ₁ := .bf16) (φ₂ := .bf16) none _ _ p q).trans (Finset.sum_congr rfl fun s _ => mul_congr ?_ ?_)
    · rw [shapeCast_layer]
      refine View.ld_unit_apply_of W _ _ _ _ _ fun i => ?_
      match i with
      | ⟨0, _⟩ => exact hg.symm
      | ⟨1, _⟩ => exact hp.symm.trans (Nat.zero_add _).symm
      | ⟨2, _⟩ => exact (Nat.zero_add _).symm
    · refine (extractStridedSlice_apply _ _ _ _ (ix2 s ⟨b + q.val, by omega⟩) fun i => ?_).trans ?_
      · match i with
        | ⟨0, _⟩ => exact (Nat.zero_add _).symm
        | ⟨1, _⟩ => rfl
      rw [norm_apply, View.ld_unit_zero zero₂, View.ld_unit_zero zero₂]
      refine normAt_congr (fun k => View.ld_unit_apply_of X1 _ _ _ _ _ fun i => ?_) rfl rfl _
      match i with
      | ⟨0, _⟩ => exact congrArg (· + s.val) hd
      | ⟨1, _⟩ => exact (Nat.zero_add _).symm
  · refine (broadcastTo_col _ (by decide) _ p q).trans ?_
    rw [shapeCast_layer]
    refine View.ld_unit_apply_of X5 _ _ _ _ _ fun i => ?_
    match i with
    | ⟨0, _⟩ => exact hg.symm
    | ⟨1, _⟩ => exact hp.symm.trans (Nat.zero_add _).symm
    | ⟨2, _⟩ => rfl

/-! ## The masked weights -/

/-- Comparing two places. -/
theorem sle_places : ∀ s t : Fin 128, IntOp.cmpi .sle (BitVec.ofNat 32 s.val) (BitVec.ofNat 32 t.val) = if s ≤ t then 1#1 else 0#1 := by
  decide +kernel

/-- One group's weights, masked. -/
def maskPay (X : Vec Ideal S16x128x128 .f32) (g : ℕ) (h : g + 1 ≤ 16) : FVec Ideal S1x128x128 .bf16 :=
  shapeCast S1x128x128 (truncf .bf16 (select (cmpi .sle (iota .tc S128x128 32 [1] iota_S128x128_d1_w32) (iota .tc S128x128 32 [0] iota_S128x128_d0_w32))
    (shapeCast S128x128 (View.ld X (Rect.unit (s := S16x128x128) ![g, 0, 0] S1x128x128.size (inb₃ h))) shapeCasts_S1x128x128_S128x128 : FVec Ideal S128x128 .f32)
    (broadcast S128x128 (Scalar.ofBits (F := Ideal) .f32 0x00000000#32))) bitsLt_bf16_f32) shapeCasts_S128x128_S1x128x128

/-- The weights with the entries above the diagonal set to zero. -/
def masked (X : Vec Ideal S16x128x128 .f32) : Vec Ideal S16x128x128 .bf16 := fun y =>
  if (y 2).val ≤ (y 1).val then X y else (0 : EReal)

/-- A masked group's elements are the masked weights'. -/
theorem eq_maskPay (X : Vec Ideal S16x128x128 .f32) (g : ℕ) (h : g + 1 ≤ 16) (x : S1x128x128.Idx) :
    masked X ((Rect.unit (s := S16x128x128) ![g, 0, 0] S1x128x128.size (inb₃ h)).emb x) = maskPay X g h x := by
  symm
  obtain ⟨o, t, s, rfl⟩ : ∃ (o : Fin 1) (t s : Fin 128), x = ix3 o t s := ⟨x 0, x 1, x 2, eq_ix3 x⟩
  obtain rfl : o = 0 := Subsingleton.elim _ _
  have he : (Rect.unit (s := S16x128x128) ![g, 0, 0] S1x128x128.size (inb₃ h)).emb (ix3 0 t s) = ix3 ⟨g, h⟩ t s :=
    idx_ext₃ (show g + 1 * 0 = g by omega) (show 0 + 1 * t.val = t.val by omega) (show 0 + 1 * s.val = s.val by omega)
  rw [he]
  unfold maskPay masked
  refine (shapeCast_apply _ _ _ (ix2 t s) ?_).trans ?_
  · rewrite [Shape.rowMajor_val_three, Shape.rowMajor_val_two]
    show t.val * 128 + s.val = (0 * 128 + t.val) * 128 + s.val
    omega
  have hc : cmpi .sle (iota .tc S128x128 32 [1] iota_S128x128_d1_w32) (iota .tc S128x128 32 [0] iota_S128x128_d0_w32) (ix2 t s) = if s ≤ t then 1#1 else 0#1 := by
    refine Eq.trans ?_ (sle_places s t)
    show IntOp.cmpi .sle (BitVec.ofNat 32 (0 * 128 + s.val)) (BitVec.ofNat 32 (0 * 128 + t.val)) = _
    rw [Nat.zero_mul, Nat.zero_add, Nat.zero_add]
  show Scalar.select (cmpi .sle (iota .tc S128x128 32 [1] iota_S128x128_d1_w32) (iota .tc S128x128 32 [0] iota_S128x128_d0_w32) (ix2 t s)) (shapeCast S128x128 (View.ld X
    (Rect.unit (s := S16x128x128) ![g, 0, 0] S1x128x128.size (inb₃ h))) shapeCasts_S1x128x128_S128x128 (ix2 t s)) (Ideal.ofBits .f32 0x00000000#32) = _
  rw [hc, Ideal.ofBits_zero_f32, shapeCast_layer]
  unfold Scalar.select
  by_cases hst : s ≤ t
  · rw [if_pos hst]
    exact ((if_pos rfl).trans (congrArg X he)).trans (if_pos (show s.val ≤ t.val from hst)).symm
  · rw [if_neg hst]
    exact (if_neg (by decide)).trans (if_neg (show ¬ s.val ≤ t.val from hst)).symm

end Cert.Calls.Gmlp

end
-- ==== Proof.Calls.GmlpPoint.lean ====
/-
  The gating call at one grid point: the first point keeps the masked weights, and every point leaves the same block of
  the result, computed from its inputs and the weights kept.
-/
module

public import proofs.«01_k».proof.Proof.Calls.GmlpTile

@[expose] public section

noncomputable section

namespace Cert.Calls.Gmlp

open Idealize.ShloMosaic Idealize.ShloMosaic.TcCoe Idealize.SL.Sem Idealize.ShloMosaic.ValueIdx
open Cert.GmlpIdeal Cert.GmlpIdeal.Gen
open scoped BigOperators

variable (c : Dev nD) (i : grid0.Coords) (arg1 : Memref sig .tc .vmem S512x4096 .bf16) (harg1 : arg1.IsWhole)
  (arg2 : Memref sig .tc .vmem S512x4096 .bf16) (harg2 : arg2.IsWhole) (arg3 : Memref sig .tc .vmem S1x4096 .f32) (harg3 : arg3.IsWhole)
  (arg4 : Memref sig .tc .vmem S1x4096 .f32) (harg4 : arg4.IsWhole) (arg5 : Memref sig .tc .vmem S16x128x128 .f32) (harg5 : arg5.IsWhole)
  (arg6 : Memref sig .tc .vmem S16x128x1 .f32) (harg6 : arg6.IsWhole) (arg7 : Memref sig .tc .vmem S512x4096 .bf16) (harg7 : arg7.IsWhole)
  (arg8 : Memref sig .tc .vmem S16x128x128 .bf16) (harg8 : arg8.IsWhole)
  (x0 x1 : Vec Ideal S512x4096 .bf16) (x2 x3 : Vec Ideal S1x4096 .f32) (x4 : Vec Ideal S16x128x128 .f32) (x5 : Vec Ideal S16x128x1 .f32)
  (xs : Vec Ideal S16x128x128 .bf16)

/-- A later point's pieces hold the block. -/
theorem pieces_B (hc : ¬cond0_0 i) : ∀ p ∈ (kernelRun0_B (F := Ideal) c i arg1 harg1 arg2 harg2 arg3 harg3 arg4 harg4 arg5 harg5 arg6 harg6 arg7 harg7 arg8 harg8 hc
      x0 x1 x2 x3 x4 x5 xs).1, ∀ x, p.2 x = blockAt (arg1.view.read (Elt Ideal) (harg1.unread x0)) (arg2.view.read (Elt Ideal) (harg2.unread x1))
      (arg3.view.read (Elt Ideal) (harg3.unread x2)) (arg4.view.read (Elt Ideal) (harg4.unread x3)) (arg6.view.read (Elt Ideal) (harg6.unread x5))
      (arg8.view.read (Elt Ideal) (harg8.unread xs)) (p.1.emb x) := by
  unfold kernelRun0_B
  dsimp only
  unfold kernelRun0_B.sl.r_13 kernelRun0_B.sl.r_14 kernelRun0_B.sl.r_17 kernelRun0_B.sl.r_18 kernelRun0_B.sl.r_33 kernelRun0_B.sl.r_34
  repeat' refine List.forall_mem_cons.2 ⟨fun x => (eq_mix _ _ _ _ _ _ _ _ (by decide) (by decide) (by decide) (by decide) x).symm, ?_⟩
  exact fun _ h => nomatch h

/-- What a later point leaves. -/
theorem out_B (hc : ¬cond0_0 i) : out0_B_6 (F := Ideal) c i arg1 harg1 arg2 harg2 arg3 harg3 arg4 harg4 arg5 harg5 arg6 harg6 arg7 harg7 arg8 harg8 hc
    x0 x1 x2 x3 x4 x5 xs = blockAt x0 x1 x2 x3 x5 xs := by
  unfold out0_B_6
  rw [View.read_writes_junk_eq_canon]
  funext y
  rw [View.canon_apply_of_pieces _ _ (pieces_B c i arg1 harg1 arg2 harg2 arg3 harg3 arg4 harg4 arg5 harg5 arg6 harg6 arg7 harg7 arg8 harg8 x0 x1 x2 x3 x4 x5 xs hc) y
    (cover0_B_6 c i arg1 harg1 arg2 harg2 arg3 harg3 arg4 harg4 arg5 harg5 arg6 harg6 arg7 harg7 arg8 harg8 hc x0 x1 x2 x3 x4 x5 xs y)]
  rw [harg1.read_unread, harg2.read_unread, harg3.read_unread, harg4.read_unread, harg6.read_unread, harg8.read_unread]

/-- The first point's kept pieces are the masked weights. -/
theorem kept_A : ∀ p ∈ kernelRun0_A.sl.HS0_16 (F := Ideal) c arg5 harg5 x4, ∀ x,
    p.2 x = masked (arg5.view.read (Elt Ideal) (harg5.unread x4)) (p.1.emb x) := by
  unfold kernelRun0_A.sl.HS0_16 kernelRun0_A.sl.r kernelRun0_A.sl.r_2 kernelRun0_A.sl.cst_739
  repeat' refine List.forall_mem_cons.2 ⟨fun x => (eq_maskPay _ _ (by decide) x).symm, ?_⟩
  exact fun _ h => nomatch h

/-- What the first point keeps. -/
theorem sout_A (hc : cond0_0 i) : sout0_A_0 (F := Ideal) c i arg1 harg1 arg2 harg2 arg3 harg3 arg4 harg4 arg5 harg5 arg6 harg6 arg7 harg7 arg8 harg8 hc
    x0 x1 x2 x3 x4 x5 = masked x4 := by
  unfold sout0_A_0
  rw [View.read_writes_junk_eq_canon]
  funext y
  have hk : ∀ p ∈ (kernelRun0_A (F := Ideal) c i arg1 harg1 arg2 harg2 arg3 harg3 arg4 harg4 arg5 harg5 arg6 harg6 arg7 harg7 arg8 harg8 hc
      x0 x1 x2 x3 x4 x5).2.1, ∀ x, p.2 x = masked (arg5.view.read (Elt Ideal) (harg5.unread x4)) (p.1.emb x) := by
    unfold kernelRun0_A
    exact kept_A c arg5 harg5 x4
  rw [View.canon_apply_of_pieces _ _ hk y
    (scover0_A_0 c i arg1 harg1 arg2 harg2 arg3 harg3 arg4 harg4 arg5 harg5 arg6 harg6 arg7 harg7 arg8 harg8 hc x0 x1 x2 x3 x4 x5 y), harg5.read_unread]

set_option maxHeartbeats 2000000 in
/-- The first point's pieces hold the block. -/
theorem pieces_A (hc : cond0_0 i) : ∀ p ∈ (kernelRun0_A (F := Ideal) c i arg1 harg1 arg2 harg2 arg3 harg3 arg4 harg4 arg5 harg5 arg6 harg6 arg7 harg7 arg8 harg8 hc
      x0 x1 x2 x3 x4 x5).1, ∀ x, p.2 x = blockAt (arg1.view.read (Elt Ideal) (harg1.unread x0)) (arg2.view.read (Elt Ideal) (harg2.unread x1))
      (arg3.view.read (Elt Ideal) (harg3.unread x2)) (arg4.view.read (Elt Ideal) (harg4.unread x3)) (arg6.view.read (Elt Ideal) (harg6.unread x5))
      (arg8.view.read (Elt Ideal) (arg8.view.writes (Elt Ideal) arg8.view.junk (kernelRun0_A.sl.HS0_16 (F := Ideal) c arg5 harg5 x4))) (p.1.emb x) := by
  unfold kernelRun0_A
  dsimp only
  unfold kernelRun0_A.sl.r_15 kernelRun0_A.sl.r_16 kernelRun0_A.sl.r_19 kernelRun0_A.sl.r_20 kernelRun0_A.sl.r_34 kernelRun0_A.sl.r_35
  repeat' refine List.forall_mem_cons.2 ⟨fun x => (eq_mix _ _ _ _ _ _ _ _ (by decide) (by decide) (by decide) (by decide) x).symm, ?_⟩
  exact fun _ h => nomatch h

/-- What the first point leaves. -/
theorem out_A (hc : cond0_0 i) : out0_A_6 (F := Ideal) c i arg1 harg1 arg2 harg2 arg3 harg3 arg4 harg4 arg5 harg5 arg6 harg6 arg7 harg7 arg8 harg8 hc
    x0 x1 x2 x3 x4 x5 = blockAt x0 x1 x2 x3 x5 (masked x4) := by
  have hk : arg8.view.read (Elt Ideal) (arg8.view.writes (Elt Ideal) arg8.view.junk (kernelRun0_A.sl.HS0_16 (F := Ideal) c arg5 harg5 x4)) = masked x4 := by
    refine Eq.trans (View.read_writes_junk_eq_canon _ _) (Eq.trans ?_ (sout_A c i arg1 harg1 arg2 harg2 arg3 harg3 arg4 harg4 arg5 harg5 arg6 harg6 arg7 harg7
      arg8 harg8 x0 x1 x2 x3 x4 x5 hc))
    unfold sout0_A_0 kernelRun0_A
    exact (View.read_writes_junk_eq_canon _ _).symm
  unfold out0_A_6
  rw [View.read_writes_junk_eq_canon]
  funext y
  rw [View.canon_apply_of_pieces _ _ (pieces_A c i arg1 harg1 arg2 harg2 arg3 harg3 arg4 harg4 arg5 harg5 arg6 harg6 arg7 harg7 arg8 harg8 x0 x1 x2 x3 x4 x5 hc) y
    (cover0_A_6 c i arg1 harg1 arg2 harg2 arg3 harg3 arg4 harg4 arg5 harg5 arg6 harg6 arg7 harg7 arg8 harg8 hc x0 x1 x2 x3 x4 x5 y)]
  rw [hk, harg1.read_unread, harg2.read_unread, harg3.read_unread, harg4.read_unread, harg6.read_unread]

end Cert.Calls.Gmlp

end
-- ==== Proof.Calls.Gmlp.lean ====
/-
  The gating call: the second half of each row is normalised, mixed within each 128 rows by its group's weights on and
  below the diagonal, shifted by the group's column and multiplied by the first half of the row.
-/
module

public import proofs.«01_k».proof.Defs
public import proofs.«01_k».proof.Proof.Gen.GmlpIdeal.Value
public import proofs.«01_k».proof.Proof.Gen.GmlpRefIdeal.Read
public import proofs.«01_k».proof.Proof.Calls.GmlpPoint

@[expose] public section

noncomputable section

namespace Cert.Calls.Gmlp

open Idealize.ShloMosaic Idealize.ShloMosaic.TcCoe Idealize.SL.Sem Idealize.ShloMosaic.ValueIdx
open Cert.GmlpIdeal Cert.GmlpIdeal.Gen
open Idealize.ShloMosaic.Pipeline (Dat)
open scoped BigOperators

/-- Column `q` of the first half of a row, and of its second half. -/
def lo (q : Fin 4096) : Fin 8192 := ⟨q.val, by omega⟩
def hi (q : Fin 4096) : Fin 8192 := ⟨4096 + q.val, by omega⟩

/-- The call's result at row `y 0` and column `y 1`. -/
def val (x : FVec Ideal S2x8192x8192 .f32) (g b : FVec Ideal S1x4096 .f32) (w : FVec Ideal S1x16x128x128 .f32) (d : FVec Ideal S1x16x128 .f32) :
    FVec Ideal S16384x4096 .bf16 := fun y =>
  flat x (ix2 (y 0) (lo (y 1))) * ((∑ s : Fin 128, masked (shapeCast S16x128x128 w shapeCasts_S1x16x128x128_S16x128x128) (ix3 (grp (y 1)) (sub (y 0)) s)
      * normAt (fun k => flat x (ix2 (mate (n := 16384) (y 0) s (by decide)) (hi k))) (g (ix2 0 (y 1))) (b (ix2 0 (y 1))) (y 1))
    + shapeCast S16x128 d shapeCasts_S1x16x128_S16x128 (ix2 (grp (y 1)) (sub (y 0))))

/-! ## The reference -/

/-- The reference's normalised rows. -/
theorem ref_norm (x : FVec Ideal S2x8192x8192 .f32) (g b : FVec Ideal S1x4096 .f32) (i : Cert.GmlpRefIdeal.S2x8192x4096.Idx) (R : Fin 16384) (q : Fin 4096)
    (h0 : (i 0).val = R.val / 8192) (h1 : (i 1).val = R.val % 8192) (h2 : (i 2).val = q.val) :
    Cert.GmlpRefIdeal.Read.val_main_v25 (F := Ideal) x g b i = normAt (fun k => flat x (ix2 R (hi k))) (g (ix2 0 q)) (b (ix2 0 q)) q := by
  unfold normAt flat
  open Cert.GmlpRefIdeal.Read in
  rw [val_main_v25_apply, val_main_v24_apply, val_main_v23_apply, val_main_v22_apply, val_main_v21_apply, val_main_v20_apply, val_main_v19_apply,
    val_main_v18_apply, val_main_v17_apply, val_main_v16_apply, val_main_v15_apply, val_main_v14_apply, val_main_v13_apply, val_main_cst_3_apply,
    val_main_v12_apply, val_main_v11_apply, val_main_cst_2_apply, val_main_v10_apply, val_main_v9_apply, val_main_cst_1_apply]
  open Cert.GmlpRefIdeal.Read in
  simp only [val_main_v8_apply, val_main_v7_apply, val_main_v6_apply, val_main_v5_apply, val_main_v4_apply, val_main_cst_0_apply, val_main_v3_apply,
    val_main_v2_apply, val_main_cst_apply, val_main_v1_apply, Ideal.mulf_def, Ideal.addf_def, Ideal.subf_def, Ideal.hostDivf_def, Ideal.hostUnary_rsqrt_def,
    Ideal.ofBits_def, Ideal.ofBits_zero_f32, zero_add]
  have hx : ∀ (j : S2x8192x8192.Idx) (k : Fin 4096), (j 0).val = (i 0).val → (j 1).val = (i 1).val → (j 2).val = 4096 + k.val →
      x j = x (ix3 (seqOf R) (posOf R) (hi k)) := fun j k e0 e1 e2 => congrArg x (idx_ext₃ (e0.trans h0) (e1.trans h1) e2)
  refine add_congr (mul_congr (mul_congr (congrArg₂ (fun u v : EReal => u - Ideal.div v _) (hx _ q rfl rfl (congrArg (4096 + ·) h2)) ?_)
    (congrArg (fun s => Ideal.rsqrt (Ideal.div s _ + _)) ?_)) (congrArg g ?_)) (congrArg b ?_)
  · exact Finset.sum_congr rfl fun k _ => hx _ k rfl rfl rfl
  · refine Finset.sum_congr rfl fun l _ => ?_
    refine mul_congr ?_ ?_ <;>
      exact congrArg₂ (fun u v : EReal => u - Ideal.div v _) (hx _ l rfl rfl rfl) (Finset.sum_congr rfl fun k _ => hx _ k rfl rfl rfl)
  · exact Shape.idx_ext₂ rfl ((Nat.mod_eq_of_lt (i 2).isLt).trans h2)
  · exact Shape.idx_ext₂ rfl ((Nat.mod_eq_of_lt (i 2).isLt).trans h2)

/-- Comparing two places the other way. -/
theorem sge_places : ∀ s t : Fin 128, IntOp.cmpi .sge (IntOp.addi (BitVec.ofNat 32 t.val) 0#32) (BitVec.ofNat 32 s.val) = if s ≤ t then 1#1 else 0#1 := by
  decide +kernel

/-- The reference's masked weights. -/
theorem ref_mask (w : FVec Ideal S1x16x128x128 .f32) (n : Fin 16) (t s : Fin 128) :
    Cert.GmlpRefIdeal.Read.val_main_v32 (F := Ideal) w (ix3 n t s) = masked (shapeCast S16x128x128 w shapeCasts_S1x16x128x128_S16x128x128) (ix3 n t s) := by
  open Cert.GmlpRefIdeal.Read in
  rw [val_main_v32_apply, val_main_v31_apply, val_main_v30_apply, val_main_v29_apply, val_main_v28_apply, val_main_cst_4_apply, val_main_call0_v5_apply,
    val_main_call0_cst_apply, val_main_call0_v4_apply, val_main_call0_v2_apply, val_main_call0_v0_apply, val_main_call0_v1_apply, val_main_call0_c_apply,
    val_main_call0_v3_apply]
  rw [Ideal.mulf_def, Ideal.ofBits_def, Ideal.ofBits_def, Ideal.ofBits_zero_f32]
  refine (congrArg (fun z => _ * Scalar.select z _ _) (sge_places s t)).trans ?_
  unfold Scalar.select masked
  by_cases hst : s ≤ t
  · rw [if_pos hst]
    refine Eq.trans ?_ (if_pos (show s.val ≤ t.val from hst)).symm
    refine (congrArg (_ * ·) ((if_pos rfl).trans Ideal.ofBits_one_f32)).trans (mul_one _)
  · rw [if_neg hst]
    refine Eq.trans ?_ (if_neg (show ¬ s.val ≤ t.val from hst)).symm
    exact (congrArg (_ * ·) (if_neg (by decide))).trans (mul_zero _)

/-- The reference's mixed rows, shifted, before they are put back in one array. -/
theorem ref_mix (x : FVec Ideal S2x8192x8192 .f32) (g b : FVec Ideal S1x4096 .f32) (w : FVec Ideal S1x16x128x128 .f32) (d : FVec Ideal S1x16x128 .f32)
    (j : Cert.GmlpRefIdeal.S2x64x128x16x256.Idx) (p : Fin 16384) (q : Fin 4096) (h0 : (j 0).val = p.val / 8192) (h1 : (j 1).val = p.val / 128 % 64)
    (h2 : (j 2).val = p.val % 128) (h3 : (j 3).val = q.val / 256) (h4 : (j 4).val = q.val % 256) :
    Cert.GmlpRefIdeal.Read.val_main_v40 (F := Ideal) x g b w d j
      = (∑ s : Fin 128, masked (shapeCast S16x128x128 w shapeCasts_S1x16x128x128_S16x128x128) (ix3 (grp q) (sub p) s)
          * normAt (fun k => flat x (ix2 (mate (n := 16384) p s (by decide)) (hi k))) (g (ix2 0 q)) (b (ix2 0 q)) q)
        + shapeCast S16x128 d shapeCasts_S1x16x128_S16x128 (ix2 (grp q) (sub p)) := by
  have hp := p.isLt
  have hq := q.isLt
  open Cert.GmlpRefIdeal.Read in
  rw [val_main_v40_apply, val_main_v39_apply, val_main_v38_apply, val_main_v37_apply, val_main_v36_apply, val_main_v34_apply, val_main_v33_apply,
    Ideal.addf_def]
  refine add_congr (Finset.sum_congr rfl fun s _ => (mul_comm _ _).trans (mul_congr ?_ ?_))
    (congrArg (Cert.GmlpRefIdeal.Read.val_main_v35 (F := Ideal) d) (Shape.idx_ext₂ h3 h2))
  · have e : Cert.GmlpRefIdeal.Read.ridx_main_v33 (Cert.GmlpRefIdeal.Read.idx_main_v34 j) s = ix3 (grp q) (sub p) s := idx_ext₃ h3 h2 rfl
    rw [e]
    exact ref_mask w (grp q) (sub p) s
  · have hs := s.isLt
    rw [Cert.GmlpRefIdeal.Read.val_main_v26_apply]
    refine ref_norm x g b _ (mate (n := 16384) p s (by decide)) q ?_ ?_ ?_
    · show (((((j 0).val * 64 + (j 1).val) * 128 + s.val) * 16 + (j 3).val) * 256 + (j 4).val) / 33554432 = (p.val / 128 * 128 + s.val) / 8192
      omega
    · show (((((j 0).val * 64 + (j 1).val) * 128 + s.val) * 16 + (j 3).val) * 256 + (j 4).val) / 4096 % 8192 = (p.val / 128 * 128 + s.val) % 8192
      omega
    · show (((((j 0).val * 64 + (j 1).val) * 128 + s.val) * 16 + (j 3).val) * 256 + (j 4).val) % 4096 = q.val
      omega

/-- The reference's result is `val`. -/
theorem ref_eq (x : FVec Ideal S2x8192x8192 .f32) (g b : FVec Ideal S1x4096 .f32) (w : FVec Ideal S1x16x128x128 .f32) (d : FVec Ideal S1x16x128 .f32) :
    Cert.GmlpRefIdeal.Read.val_main_v44 (F := Ideal) x g b w d = val x g b w d := by
  funext y
  obtain ⟨p, q, rfl⟩ : ∃ (p : Fin 16384) (q : Fin 4096), y = ix2 p q := ⟨y 0, y 1, eq_ix2 y⟩
  have hp := p.isLt
  have hq := q.isLt
  rw [Cert.GmlpRefIdeal.Read.val_main_v44_apply, Ideal.truncf_def]
  unfold Cert.GmlpRefIdeal.Read.val_main_v43
  erw [shapeCast_flat]
  unfold val
  show Cert.GmlpRefIdeal.Read.val_main_v42 (F := Ideal) x g b w d (ix3 (seqOf p) (posOf p) q) = _
  rw [Cert.GmlpRefIdeal.Read.val_main_v42_apply, Cert.GmlpRefIdeal.Read.val_main_v41_apply, Cert.GmlpRefIdeal.Read.val_main_v0_apply, Ideal.mulf_def]
  refine mul_congr (congrArg x (idx_ext₃ rfl rfl rfl)) (ref_mix x g b w d _ p q ?_ ?_ ?_ ?_ ?_)
  · show ((p.val / 8192 * 8192 + p.val % 8192) * 4096 + q.val) / 33554432 = p.val / 8192
    omega
  · show ((p.val / 8192 * 8192 + p.val % 8192) * 4096 + q.val) / 524288 % 64 = p.val / 128 % 64
    omega
  · show ((p.val / 8192 * 8192 + p.val % 8192) * 4096 + q.val) / 4096 % 128 = p.val % 128
    omega
  · show ((p.val / 8192 * 8192 + p.val % 8192) * 4096 + q.val) / 256 % 16 = q.val / 256
    omega
  · show ((p.val / 8192 * 8192 + p.val % 8192) * 4096 + q.val) % 256 = q.val % 256
    omega

/-! ## The kernel's arrays -/

variable (m : (ℓ : Loc nD τ sig) → Buf (Elt Ideal) ℓ)

/-- The rows as the region finds them. -/
theorem V_rows (c : Dev nD) : V m c main_v1 = flat (m ((c : Thread nD τ).loc main_arg0)) := by
  refine Eq.trans ?_ (shapeCast_flat (m ((c : Thread nD τ).loc main_arg0)) shapeCasts_S2x8192x8192_S16384x8192)
  unfold V
  after_results <;> rfl

/-- The gain and the shift as the region finds them. -/
theorem V_gain (c : Dev nD) : V m c main_v6 = m ((c : Thread nD τ).loc main_arg1) := by
  refine Eq.trans (b := shapeCast S1x4096 (shapeCast S4096 (m ((c : Thread nD τ).loc main_arg1)) shapeCasts_S1x4096_S4096) shapeCasts_S4096_S1x4096) ?_ ?_
  · unfold V
    after_results <;> rfl
  · exact shapeCast_shapeCast _ _ _

theorem V_shift (c : Dev nD) : V m c main_v7 = m ((c : Thread nD τ).loc main_arg2) := by
  refine Eq.trans (b := shapeCast S1x4096 (shapeCast S4096 (m ((c : Thread nD τ).loc main_arg2)) shapeCasts_S1x4096_S4096) shapeCasts_S4096_S1x4096) ?_ ?_
  · unfold V
    after_results <;> rfl
  · exact shapeCast_shapeCast _ _ _

/-- The weights as the region finds them. -/
theorem V_weight (c : Dev nD) : V m c main_v4 = shapeCast S16x128x128 (m ((c : Thread nD τ).loc main_arg3)) shapeCasts_S1x16x128x128_S16x128x128 := by
  unfold V
  after_results <;> rfl

/-- The columns as the region finds them. -/
theorem V_col (c : Dev nD) (n : Fin 16) (t : Fin 128) :
    V m c main_v8 (ix3 n t 0) = shapeCast S16x128 (m ((c : Thread nD τ).loc main_arg4)) shapeCasts_S1x16x128_S16x128 (ix2 n t) := by
  have h : V m c main_v8 = shapeCast S16x128x1 (shapeCast S16x128 (m ((c : Thread nD τ).loc main_arg4)) shapeCasts_S1x16x128_S16x128) shapeCasts_S16x128_S16x128x1 := by
    unfold V
    after_results <;> rfl
  rw [h]
  refine shapeCast_apply _ _ _ (ix2 n t) ?_
  rewrite [Shape.rowMajor_val_three, Shape.rowMajor_val_two]
  show n.val * 128 + t.val = (n.val * 128 + t.val) * 1 + 0
  omega

/-- The blocks' places, point by point. -/
theorem idx0 : ∀ t : Fin grid0.N, win0_0.index t 0 = t.val ∧ win0_0.index t 1 = 0 := by decide +kernel
theorem idx1 : ∀ t : Fin grid0.N, win0_1.index t 0 = t.val ∧ win0_1.index t 1 = 1 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 ∧ win0_4.index t 2 = 0 := by decide +kernel
theorem idx5 : ∀ t : Fin grid0.N, win0_5.index t 0 = 0 ∧ win0_5.index t 1 = 0 ∧ win0_5.index t 2 = 0 := by decide +kernel
theorem idx6 : ∀ t : Fin grid0.N, win0_6.index t 0 = t.val ∧ win0_6.index t 1 = 0 := by decide +kernel

theorem bound (t : Fin cfg0.N) : t.val * 512 + 512 ≤ 16384 := by
  have : t.val < 32 := N_0 ▸ t.isLt
  omega

/-- The row of the array that block `t`'s row `r` is. -/
def row (t : Fin cfg0.N) (r : Fin 512) : Fin 16384 := place t.val r (bound t)

theorem emb6 (t : Fin cfg0.N) (r : Fin 512) (q : Fin 4096) : (win0_6.rect t).emb (ix2 r q) = ix2 (row t r) q :=
  Shape.idx_ext₂ (emb_place win0_6 t _ 0 (idx6 t).1 rfl) ((emb_place win0_6 t _ 1 (idx6 t).2 rfl).trans (Nat.zero_add _))

/-- Block `t` of each half of the rows. -/
theorem blk0 (c : Dev nD) (t : Fin cfg0.N) (r : Fin 512) (k : Fin 4096) :
    iblk m c 0 t (ix2 r k) = flat (m ((c : Thread nD τ).loc main_arg0)) (ix2 (row t r) (lo k)) :=
  (congrFun (V_rows m c) _).trans (congrArg (flat _) (Shape.idx_ext₂ (emb_place win0_0 t _ 0 (idx0 t).1 rfl)
    ((emb_place win0_0 t _ 1 (idx0 t).2 rfl).trans (Nat.zero_add _))))

theorem blk1 (c : Dev nD) (t : Fin cfg0.N) (r : Fin 512) (k : Fin 4096) :
    iblk m c 1 t (ix2 r k) = flat (m ((c : Thread nD τ).loc main_arg0)) (ix2 (row t r) (hi k)) :=
  (congrFun (V_rows m c) _).trans (congrArg (flat _) (Shape.idx_ext₂ (emb_place win0_1 t _ 0 (idx1 t).1 rfl)
    (emb_place win0_1 t _ 1 (idx1 t).2 rfl)))

/-- The gain, the shift, the weights and the columns, whole at every point. -/
theorem blk2 (c : Dev nD) (t : Fin cfg0.N) (q : Fin 4096) : iblk m c 2 t (ix2 0 q) = m ((c : Thread nD τ).loc main_arg1) (ix2 0 q) :=
  (congrFun (V_gain m c) _).trans (congrArg (m ((c : Thread nD τ).loc main_arg1)) (Shape.idx_ext₂
    ((emb_place win0_2 t _ 0 (idx2 t).1 rfl).trans (Nat.zero_add _)) ((emb_place win0_2 t _ 1 (idx2 t).2 rfl).trans (Nat.zero_add _))))

theorem blk3 (c : Dev nD) (t : Fin cfg0.N) (q : Fin 4096) : iblk m c 3 t (ix2 0 q) = m ((c : Thread nD τ).loc main_arg2) (ix2 0 q) :=
  (congrFun (V_shift m c) _).trans (congrArg (m ((c : Thread nD τ).loc main_arg2)) (Shape.idx_ext₂
    ((emb_place win0_3 t _ 0 (idx3 t).1 rfl).trans (Nat.zero_add _)) ((emb_place win0_3 t _ 1 (idx3 t).2 rfl).trans (Nat.zero_add _))))

theorem blk4 (c : Dev nD) (t : Fin cfg0.N) :
    iblk m c 4 t = shapeCast S16x128x128 (m ((c : Thread nD τ).loc main_arg3)) shapeCasts_S1x16x128x128_S16x128x128 := by
  funext y
  exact (congrFun (V_weight m c) _).trans (congrArg (shapeCast S16x128x128 (m ((c : Thread nD τ).loc main_arg3)) shapeCasts_S1x16x128x128_S16x128x128) (idx_ext₃
    ((emb_place win0_4 t _ 0 (idx4 t).1 rfl).trans (Nat.zero_add _)) ((emb_place win0_4 t _ 1 (idx4 t).2.1 rfl).trans (Nat.zero_add _))
    ((emb_place win0_4 t _ 2 (idx4 t).2.2 rfl).trans (Nat.zero_add _))))

theorem blk5 (c : Dev nD) (t : Fin cfg0.N) (n : Fin 16) (s : Fin 128) :
    iblk m c 5 t (ix3 n s 0) = shapeCast S16x128 (m ((c : Thread nD τ).loc main_arg4)) shapeCasts_S1x16x128_S16x128 (ix2 n s) :=
  (congrArg (V m c main_v8) (idx_ext₃
    ((emb_place win0_5 t _ 0 (idx5 t).1 rfl).trans (Nat.zero_add _)) ((emb_place win0_5 t _ 1 (idx5 t).2.1 rfl).trans (Nat.zero_add _))
    ((emb_place win0_5 t _ 2 (idx5 t).2.2 rfl).trans (Nat.zero_add _)))).trans (V_col m c n s)

/-! ## The points -/

/-- The first point keeps the masked weights. -/
theorem keeps (c : Dev nD) (t : Fin cfg0.N) (h0 : t.val % 32 = 0) : (outsAt0 m c t.val t.isLt).2
    = masked (shapeCast S16x128x128 (m ((c : Thread nD τ).loc main_arg3)) shapeCasts_S1x16x128x128_S16x128x128) := by
  rw [outsAt0_A m c t h0]
  dsimp only
  rw [sout_A]
  exact congrArg masked (blk4 m c t)

/-- After every point the masked weights are kept. -/
theorem kept (c : Dev nD) : ∀ (n : ℕ) (h : n < cfg0.N), (outsAt0 m c n h).2
    = masked (shapeCast S16x128x128 (m ((c : Thread nD τ).loc main_arg3)) shapeCasts_S1x16x128x128_S16x128x128)
  | 0, h => keeps m c ⟨0, h⟩ (Nat.zero_mod _)
  | n + 1, h => (congrArg Prod.snd (outsAt0_B m c ⟨n + 1, h⟩ (by
      have hN : n + 1 < 32 := lt_of_lt_of_eq h N_0
      show ¬ (n + 1) % 32 = 0
      omega))).trans (kept c n (Nat.lt_of_succ_lt h))

/-- Every point leaves the block computed from its inputs and the masked weights. -/
theorem left (c : Dev nD) (t : Fin cfg0.N) : (outsAt0 m c t.val t.isLt).1
    = blockAt (iblk m c 0 t) (iblk m c 1 t) (iblk m c 2 t) (iblk m c 3 t) (iblk m c 5 t)
      (masked (shapeCast S16x128x128 (m ((c : Thread nD τ).loc main_arg3)) shapeCasts_S1x16x128x128_S16x128x128)) := by
  by_cases h0 : t.val % 32 = 0
  · rw [outsAt0_A m c t h0]
    dsimp only
    rw [out_A]
    exact congrArg (fun z => blockAt (iblk m c 0 t) (iblk m c 1 t) (iblk m c 2 t) (iblk m c 3 t) (iblk m c 5 t) (masked z)) (blk4 m c t)
  · rw [outsAt0_B m c t h0]
    dsimp only
    rw [out_B]
    exact congrArg (fun z => blockAt (iblk m c 0 t) (iblk m c 1 t) (iblk m c 2 t) (iblk m c 3 t) (iblk m c 5 t) z)
      (kept m c (t.val - 1) (Nat.lt_of_le_of_lt (Nat.sub_le _ _) t.isLt))

/-- What point `t` writes back is block `t` of `val`. -/
theorem flushed_eq (c : Dev nD) (t : Fin cfg0.N) :
    (dats m 0 c).flushed 6 t = ((cfg0.win 6).blk t).view.read (Elt Ideal)
      (val (m ((c : Thread nD τ).loc main_arg0)) (m ((c : Thread nD τ).loc main_arg1)) (m ((c : Thread nD τ).loc main_arg2))
        (m ((c : Thread nD τ).loc main_arg3)) (m ((c : Thread nD τ).loc main_arg4))) := by
  rw [Value.flushed6, left m c t]
  funext y
  obtain ⟨r, q, rfl⟩ : ∃ (r : Fin 512) (q : Fin 4096), y = ix2 r q := ⟨y 0, y 1, eq_ix2 y⟩
  refine Eq.trans ?_ (congrArg (val _ _ _ _ _) (emb6 t r q)).symm
  show blockAt _ _ _ _ _ _ (ix2 r q) = _
  have hs : sub (row t r) = sub r := Fin.ext (show (t.val * 512 + r.val) % 128 = r.val % 128 by omega)
  have hm : ∀ s, row t (mate (n := 512) r s (by decide)) = mate (n := 16384) (row t r) s (by decide) := fun s =>
    Fin.ext (show t.val * 512 + (r.val / 128 * 128 + s.val) = (t.val * 512 + r.val) / 128 * 128 + s.val by omega)
  unfold blockAt val
  refine mul_congr (blk0 m c t r q) (add_congr (Finset.sum_congr rfl fun s _ => mul_congr (congrArg (fun z => masked _ (ix3 (grp q) z s)) hs.symm)
    (normAt_congr (fun k => (blk1 m c t _ k).trans (congrArg (fun z => flat _ (ix2 z (hi k))) (hm s))) (blk2 m c t q) (blk3 m c t q) q)) ?_)
  exact (blk5 m c t _ _).trans (congrArg (fun z => shapeCast S16x128 _ _ (ix2 (grp q) z)) hs.symm)

theorem final (c : Dev nD) : (dats m 0 c).arrAt 6 cfg0.N
    = val (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 6 _ (fun t _ => flushed_eq m c t)
    (Pipeline.Window.Covers.cover _ (by decide +kernel) (Memref.isWhole_whole _))

/-- The kernel and the reference leave the same rows. -/
theorem algebraic : Cert.algebraic_GmlpIdeal_GmlpRefIdeal := by
  intro m ρ m' ρ' _ hagree
  refine ⟨fun c => val (m ((c : Thread nD τ).loc main_arg0)) (m ((c : Thread nD τ).loc main_arg1)) (m ((c : Thread nD τ).loc main_arg2))
    (m ((c : Thread nD τ).loc main_arg3)) (m ((c : Thread nD τ).loc main_arg4)), ?_, ?_⟩
  · exact (θ_run Cert.GmlpIdeal.defs _ _).mono (fun _ h c => ⟨(h c).1.trans (final m c), (h c).2⟩) (Value.run_blocks m ρ)
  · refine (θ_run Cert.GmlpRefIdeal.defs _ _).mono (fun _ h c => ⟨(h c).1.trans ?_, (h c).2⟩) (Cert.GmlpRefIdeal.Value.run (F := Ideal) m' ρ')
    refine (Cert.GmlpRefIdeal.Read.val_main_v44_eq (F := Ideal) m' c).trans ?_
    rw [(hagree c).1, (hagree c).2.1, (hagree c).2.2.1, (hagree c).2.2.2.1, (hagree c).2.2.2.2]
    exact ref_eq _ _ _ _ _

end Cert.Calls.Gmlp

end
-- ==== Proof.Calls.MergeA.lean ====
/-
  The first merge: the attention branch through its projection, times its gate.
-/
module

public import proofs.«01_k».proof.Defs
public import proofs.«01_k».proof.Proof.Gen.MergeAIdeal.Value
public import proofs.«01_k».proof.Proof.Gen.MergeARefIdeal.Read
public import proofs.«01_k».proof.Proof.Calls.Common

@[expose] public section

noncomputable section

namespace Cert.Calls.MergeA

open Idealize.ShloMosaic Idealize.ShloMosaic.TcCoe Idealize.SL.Sem Idealize.ShloMosaic.ValueIdx
open Cert.MergeAIdeal Cert.MergeAIdeal.Gen
open Idealize.ShloMosaic.Pipeline (Dat)
open scoped BigOperators

/-- Column `q` of the first gate among the columns of the two. -/
def col (q : Fin 4096) : Fin 8192 := ⟨q.val, by omega⟩

/-- The call's result at row `i 0` and column `i 1`. -/
def val (y : FVec Ideal S2x8192x4096 .f32) (w : FVec Ideal S1x4096x4096 .f32) (g : FVec Ideal S2x8192x8192 .f32) :
    FVec Ideal S16384x4096 .f32 := fun i => flat g (ix2 (i 0) (col (i 1))) * rowDot y w (i 0) (i 1)

/-- The reference's result is `val`. -/
theorem ref_eq (y : FVec Ideal S2x8192x4096 .f32) (w : FVec Ideal S1x4096x4096 .f32) (g : FVec Ideal S2x8192x8192 .f32) :
    Cert.MergeARefIdeal.Read.val_main_v5 (F := Ideal) y w g = val y w g := by
  funext i
  unfold Cert.MergeARefIdeal.Read.val_main_v5
  erw [shapeCast_flat]
  show _ = flat g _ * _
  unfold flat
  open Cert.MergeARefIdeal.Read in
  rw [val_main_v4_apply, val_main_v3_apply, val_main_v0_apply]
  refine mul_congr (congrArg g (idx_ext₃ rfl rfl rfl)) (Finset.sum_congr rfl fun k _ => mul_congr ?_ ?_)
  · exact congrArg y (idx_ext₃ rfl rfl rfl)
  · unfold Cert.MergeARefIdeal.Read.val_main_v2
    erw [shapeCast_layer]
    exact congrArg w (idx_ext₃ rfl rfl rfl)

variable (m : (ℓ : Loc nD τ sig) → Buf (Elt Ideal) ℓ)

/-- The region's arrays as it finds them: the branch, its projection, the gates. -/
theorem V_rows (c : Dev nD) : V m c main_v1 = flat (m ((c : Thread nD τ).loc main_arg0)) := by
  refine Eq.trans ?_ (shapeCast_flat (m ((c : Thread nD τ).loc main_arg0)) shapeCasts_S2x8192x4096_S16384x4096)
  unfold V
  after_results <;> rfl

theorem V_weight (c : Dev nD) : V m c main_v3 = layer (m ((c : Thread nD τ).loc main_arg1)) := by
  refine Eq.trans ?_ (shapeCast_layer (m ((c : Thread nD τ).loc main_arg1)) shapeCasts_S1x4096x4096_S4096x4096)
  unfold V
  after_results <;> rfl

theorem V_gates (c : Dev nD) : V m c main_v5 = flat (m ((c : Thread nD τ).loc main_arg2)) := by
  refine Eq.trans ?_ (shapeCast_flat (m ((c : Thread nD τ).loc main_arg2)) shapeCasts_S2x8192x8192_S16384x8192)
  unfold V
  after_results <;> rfl

/-- The blocks' places, point by point. -/
theorem idx0 : ∀ t : Fin grid0.N, win0_0.index t 0 = t.val / 4 ∧ win0_0.index t 1 = 0 := by decide +kernel
theorem idx1 : ∀ t : Fin grid0.N, win0_1.index t 0 = 0 ∧ win0_1.index t 1 = t.val % 4 := by decide +kernel
theorem idx2 : ∀ t : Fin grid0.N, win0_2.index t 0 = t.val / 4 ∧ win0_2.index t 1 = t.val % 4 := by decide +kernel
theorem idx3 : ∀ t : Fin grid0.N, win0_3.index t 0 = t.val / 4 ∧ win0_3.index t 1 = t.val % 4 := by decide +kernel

theorem bound (t : Fin cfg0.N) : t.val / 4 * 1024 + 1024 ≤ 16384 ∧ t.val % 4 * 1024 + 1024 ≤ 4096 := by
  have : t.val < 64 := N_0 ▸ t.isLt
  omega

/-- The row and the column of the result that block `t`'s element `(r, q)` is. -/
def row (t : Fin cfg0.N) (r : Fin 1024) : Fin 16384 := place (t.val / 4) r (bound t).1
def out (t : Fin cfg0.N) (q : Fin 1024) : Fin 4096 := place (t.val % 4) q (bound t).2

theorem emb3 (t : Fin cfg0.N) (r : Fin 1024) (q : Fin 1024) : (win0_3.rect t).emb (ix2 r q) = ix2 (row t r) (out t q) :=
  Shape.idx_ext₂ (emb_place win0_3 t _ 0 (idx3 t).1 rfl) (emb_place win0_3 t _ 1 (idx3 t).2 rfl)

/-- Block `t` of the branch, of its projection and of its gate. -/
theorem blk0 (c : Dev nD) (t : Fin cfg0.N) (r : Fin 1024) (k : Fin 4096) :
    iblk m c 0 t (ix2 r k) = flat (m ((c : Thread nD τ).loc main_arg0)) (ix2 (row t r) k) :=
  (congrFun (V_rows m c) _).trans (congrArg (flat _) (Shape.idx_ext₂ (emb_place win0_0 t _ 0 (idx0 t).1 rfl)
    ((emb_place win0_0 t _ 1 (idx0 t).2 rfl).trans (Nat.zero_add _))))

theorem blk1 (c : Dev nD) (t : Fin cfg0.N) (k : Fin 4096) (q : Fin 1024) :
    iblk m c 1 t (ix2 k q) = layer (m ((c : Thread nD τ).loc main_arg1)) (ix2 k (out t q)) :=
  (congrFun (V_weight m c) _).trans (congrArg (layer _) (Shape.idx_ext₂
    ((emb_place win0_1 t _ 0 (idx1 t).1 rfl).trans (Nat.zero_add _)) (emb_place win0_1 t _ 1 (idx1 t).2 rfl)))

theorem blk2 (c : Dev nD) (t : Fin cfg0.N) (r : Fin 1024) (q : Fin 1024) :
    iblk m c 2 t (ix2 r q) = flat (m ((c : Thread nD τ).loc main_arg2)) (ix2 (row t r) (col (out t q))) :=
  (congrFun (V_gates m c) _).trans (congrArg (flat _) (Shape.idx_ext₂
    (emb_place win0_2 t _ 0 (idx2 t).1 rfl) (emb_place win0_2 t _ 1 (idx2 t).2 rfl)))

/-- What point `t` writes back is block `t` of `val`. -/
theorem flushed_eq (c : Dev nD) (t : Fin cfg0.N) :
    (dats m 0 c).flushed 3 t = ((cfg0.win 3).blk t).view.read (Elt Ideal) (val (m ((c : Thread nD τ).loc main_arg0))
      (m ((c : Thread nD τ).loc main_arg1)) (m ((c : Thread nD τ).loc main_arg2))) := by
  rw [Value.flushed3]
  unfold out0_3
  rw [View.canon_unit_zero zero₂, View.ld_unit_zero zero₂, View.ld_unit_zero zero₂, View.ld_unit_zero zero₂]
  funext y
  obtain ⟨r, q, rfl⟩ : ∃ (r : Fin 1024) (q : Fin 1024), y = ix2 r q := ⟨y 0, y 1, eq_ix2 y⟩
  refine Eq.trans ?_ (congrArg (val _ _ _) (emb3 t r q)).symm
  show k0_pay1 (iblk m c 0 t) (iblk m c 1 t) (iblk m c 2 t) (ix2 r q) = _
  unfold k0_pay1
  simp only [shapeCast_self]
  exact mul_congr (blk2 m c t r q) (tile_dot none (iblk m c 0 t) (iblk m c 1 t) _ _ r q (row t r) (out t q)
    (fun k => blk0 m c t r k) (fun k => blk1 m c t k q))

theorem final (c : Dev nD) : (dats m 0 c).arrAt 3 cfg0.N = val (m ((c : Thread nD τ).loc main_arg0))
    (m ((c : Thread nD τ).loc main_arg1)) (m ((c : Thread nD τ).loc main_arg2)) :=
  (dats m 0 c).arrAt_eq_of_cover 3 _ (fun t _ => flushed_eq m c t)
    (Pipeline.Window.Covers.cover _ (by decide +kernel) (Memref.isWhole_whole _))

/-- The kernel and the reference leave the same rows. -/
theorem algebraic : Cert.algebraic_MergeAIdeal_MergeARefIdeal := by
  intro m ρ m' ρ' _ hagree
  refine ⟨fun c => val (m ((c : Thread nD τ).loc main_arg0)) (m ((c : Thread nD τ).loc main_arg1)) (m ((c : Thread nD τ).loc main_arg2)), ?_, ?_⟩
  · exact (θ_run Cert.MergeAIdeal.defs _ _).mono (fun _ h c => ⟨(h c).1.trans (final m c), (h c).2⟩) (Value.run_blocks m ρ)
  · refine (θ_run Cert.MergeARefIdeal.defs _ _).mono (fun _ h c => ⟨(h c).1.trans ?_, (h c).2⟩) (Cert.MergeARefIdeal.Value.run (F := Ideal) m' ρ')
    rw [(hagree c).1, (hagree c).2.1, (hagree c).2.2]
    exact (Cert.MergeARefIdeal.Read.val_main_v5_eq (F := Ideal) _ _ _).trans (ref_eq _ _ _)

end Cert.Calls.MergeA

end
-- ==== Proof.Calls.MergeB.lean ====
/-
  The second merge: the gating branch through its projection, times its gate, onto the first.
-/
module

public import proofs.«01_k».proof.Defs
public import proofs.«01_k».proof.Proof.Gen.MergeBIdeal.Value
public import proofs.«01_k».proof.Proof.Gen.MergeBRefIdeal.Read
public import proofs.«01_k».proof.Proof.Calls.Common

@[expose] public section

noncomputable section

namespace Cert.Calls.MergeB

open Idealize.ShloMosaic Idealize.ShloMosaic.TcCoe Idealize.SL.Sem Idealize.ShloMosaic.ValueIdx
open Cert.MergeBIdeal Cert.MergeBIdeal.Gen
open Idealize.ShloMosaic.Pipeline (Dat)
open scoped BigOperators

/-- Column `q` of the second gate is column `4096 + q` of the two. -/
def col (q : Fin 4096) : Fin 8192 := ⟨4096 + q.val, by omega⟩

/-- The call's result at row `i 0` and column `i 1`. -/
def val (y : FVec Ideal S2x8192x4096 .f32) (w : FVec Ideal S1x4096x4096 .f32) (g : FVec Ideal S2x8192x8192 .f32)
    (a : FVec Ideal S2x8192x4096 .f32) : FVec Ideal S16384x4096 .bf16 := fun i =>
  flat a i + flat g (ix2 (i 0) (col (i 1))) * rowDot y w (i 0) (i 1)

/-- The reference's result is `val`. -/
theorem ref_eq (y : FVec Ideal S2x8192x4096 .f32) (w : FVec Ideal S1x4096x4096 .f32) (g : FVec Ideal S2x8192x8192 .f32)
    (a : FVec Ideal S2x8192x4096 .f32) : Cert.MergeBRefIdeal.Read.val_main_v7 (F := Ideal) y w g a = val y w g a := by
  funext i
  rw [Cert.MergeBRefIdeal.Read.val_main_v7_apply, Ideal.truncf_def]
  unfold Cert.MergeBRefIdeal.Read.val_main_v6
  erw [shapeCast_flat]
  show _ = flat a _ + flat g _ * _
  unfold flat
  open Cert.MergeBRefIdeal.Read in
  rw [val_main_v5_apply, val_main_v4_apply, val_main_v3_apply, val_main_v1_apply]
  refine add_congr rfl
    (mul_congr (congrArg g (idx_ext₃ rfl rfl rfl)) (Finset.sum_congr rfl fun k _ => mul_congr ?_ ?_))
  · exact congrArg y (idx_ext₃ rfl rfl rfl)
  · unfold Cert.MergeBRefIdeal.Read.val_main_v2
    erw [shapeCast_layer]
    exact congrArg w (idx_ext₃ rfl rfl rfl)

variable (m : (ℓ : Loc nD τ sig) → Buf (Elt Ideal) ℓ)

/-- The region's arrays as it finds them: the branch, its projection, the gates, the first branch. -/
theorem V_rows (c : Dev nD) : V m c main_v1 = flat (m ((c : Thread nD τ).loc main_arg0)) := by
  refine Eq.trans ?_ (shapeCast_flat (m ((c : Thread nD τ).loc main_arg0)) shapeCasts_S2x8192x4096_S16384x4096)
  unfold V
  after_results <;> rfl

theorem V_weight (c : Dev nD) : V m c main_v3 = layer (m ((c : Thread nD τ).loc main_arg1)) := by
  refine Eq.trans ?_ (shapeCast_layer (m ((c : Thread nD τ).loc main_arg1)) shapeCasts_S1x4096x4096_S4096x4096)
  unfold V
  after_results <;> rfl

theorem V_gates (c : Dev nD) : V m c main_v5 = flat (m ((c : Thread nD τ).loc main_arg2)) := by
  refine Eq.trans ?_ (shapeCast_flat (m ((c : Thread nD τ).loc main_arg2)) shapeCasts_S2x8192x8192_S16384x8192)
  unfold V
  after_results <;> rfl

theorem V_first (c : Dev nD) : V m c main_v6 = flat (m ((c : Thread nD τ).loc main_arg3)) := by
  refine Eq.trans ?_ (shapeCast_flat (m ((c : Thread nD τ).loc main_arg3)) shapeCasts_S2x8192x4096_S16384x4096)
  unfold V
  after_results <;> rfl

/-- The blocks' places, point by point. -/
theorem idx0 : ∀ t : Fin grid0.N, win0_0.index t 0 = t.val / 4 ∧ win0_0.index t 1 = 0 := by decide +kernel
theorem idx1 : ∀ t : Fin grid0.N, win0_1.index t 0 = 0 ∧ win0_1.index t 1 = t.val % 4 := by decide +kernel
theorem idx2 : ∀ t : Fin grid0.N, win0_2.index t 0 = t.val / 4 ∧ win0_2.index t 1 = 4 + t.val % 4 := by decide +kernel
theorem idx3 : ∀ t : Fin grid0.N, win0_3.index t 0 = t.val / 4 ∧ win0_3.index t 1 = t.val % 4 := by decide +kernel
theorem idx4 : ∀ t : Fin grid0.N, win0_4.index t 0 = t.val / 4 ∧ win0_4.index t 1 = t.val % 4 := by decide +kernel

theorem bound (t : Fin cfg0.N) : t.val / 4 * 1024 + 1024 ≤ 16384 ∧ t.val % 4 * 1024 + 1024 ≤ 4096 := by
  have : t.val < 64 := N_0 ▸ t.isLt
  omega

/-- The row and the column of the result that block `t`'s element `(r, q)` is. -/
def row (t : Fin cfg0.N) (r : Fin 1024) : Fin 16384 := place (t.val / 4) r (bound t).1
def out (t : Fin cfg0.N) (q : Fin 1024) : Fin 4096 := place (t.val % 4) q (bound t).2

theorem emb4 (t : Fin cfg0.N) (r : Fin 1024) (q : Fin 1024) : (win0_4.rect t).emb (ix2 r q) = ix2 (row t r) (out t q) :=
  Shape.idx_ext₂ (emb_place win0_4 t _ 0 (idx4 t).1 rfl) (emb_place win0_4 t _ 1 (idx4 t).2 rfl)

/-- Block `t` of the branch, of its projection, of its gate and of the first branch. -/
theorem blk0 (c : Dev nD) (t : Fin cfg0.N) (r : Fin 1024) (k : Fin 4096) :
    iblk m c 0 t (ix2 r k) = flat (m ((c : Thread nD τ).loc main_arg0)) (ix2 (row t r) k) :=
  (congrFun (V_rows m c) _).trans (congrArg (flat _) (Shape.idx_ext₂ (emb_place win0_0 t _ 0 (idx0 t).1 rfl)
    ((emb_place win0_0 t _ 1 (idx0 t).2 rfl).trans (Nat.zero_add _))))

theorem blk1 (c : Dev nD) (t : Fin cfg0.N) (k : Fin 4096) (q : Fin 1024) :
    iblk m c 1 t (ix2 k q) = layer (m ((c : Thread nD τ).loc main_arg1)) (ix2 k (out t q)) :=
  (congrFun (V_weight m c) _).trans (congrArg (layer _) (Shape.idx_ext₂
    ((emb_place win0_1 t _ 0 (idx1 t).1 rfl).trans (Nat.zero_add _)) (emb_place win0_1 t _ 1 (idx1 t).2 rfl)))

theorem blk2 (c : Dev nD) (t : Fin cfg0.N) (r : Fin 1024) (q : Fin 1024) :
    iblk m c 2 t (ix2 r q) = flat (m ((c : Thread nD τ).loc main_arg2)) (ix2 (row t r) (col (out t q))) :=
  (congrFun (V_gates m c) _).trans (congrArg (flat _) (Shape.idx_ext₂ (emb_place win0_2 t _ 0 (idx2 t).1 rfl)
    ((emb_place win0_2 t _ 1 (idx2 t).2 rfl).trans
      (show (4 + t.val % 4) * 1024 + q.val = 4096 + (t.val % 4 * 1024 + q.val) by omega))))

theorem blk3 (c : Dev nD) (t : Fin cfg0.N) (r : Fin 1024) (q : Fin 1024) :
    iblk m c 3 t (ix2 r q) = flat (m ((c : Thread nD τ).loc main_arg3)) (ix2 (row t r) (out t q)) :=
  (congrFun (V_first m c) _).trans (congrArg (flat _) (Shape.idx_ext₂
    (emb_place win0_3 t _ 0 (idx3 t).1 rfl) (emb_place win0_3 t _ 1 (idx3 t).2 rfl)))

/-- What point `t` writes back is block `t` of `val`. -/
theorem flushed_eq (c : Dev nD) (t : Fin cfg0.N) :
    (dats m 0 c).flushed 4 t = ((cfg0.win 4).blk t).view.read (Elt Ideal) (val (m ((c : Thread nD τ).loc main_arg0))
      (m ((c : Thread nD τ).loc main_arg1)) (m ((c : Thread nD τ).loc main_arg2)) (m ((c : Thread nD τ).loc main_arg3))) := by
  rw [Value.flushed4]
  unfold out0_4
  rw [View.canon_unit_zero zero₂, View.ld_unit_zero zero₂, View.ld_unit_zero zero₂, View.ld_unit_zero zero₂, View.ld_unit_zero zero₂]
  funext y
  obtain ⟨r, q, rfl⟩ : ∃ (r : Fin 1024) (q : Fin 1024), y = ix2 r q := ⟨y 0, y 1, eq_ix2 y⟩
  refine Eq.trans ?_ (congrArg (val _ _ _ _) (emb4 t r q)).symm
  show k0_pay1 (iblk m c 0 t) (iblk m c 1 t) (iblk m c 3 t) (iblk m c 2 t) (ix2 r q) = _
  unfold k0_pay1
  simp only [shapeCast_self]
  exact add_congr (blk3 m c t r q) (mul_congr (blk2 m c t r q) (tile_dot none (iblk m c 0 t) (iblk m c 1 t) _ _ r q
    (row t r) (out t q) (fun k => blk0 m c t r k) (fun k => blk1 m c t k q)))

theorem final (c : Dev nD) : (dats m 0 c).arrAt 4 cfg0.N = val (m ((c : Thread nD τ).loc main_arg0))
    (m ((c : Thread nD τ).loc main_arg1)) (m ((c : Thread nD τ).loc main_arg2)) (m ((c : Thread nD τ).loc main_arg3)) :=
  (dats m 0 c).arrAt_eq_of_cover 4 _ (fun t _ => flushed_eq m c t)
    (Pipeline.Window.Covers.cover _ (by decide +kernel) (Memref.isWhole_whole _))

/-- The kernel and the reference leave the same rows. -/
theorem algebraic : Cert.algebraic_MergeBIdeal_MergeBRefIdeal := by
  intro m ρ m' ρ' _ hagree
  refine ⟨fun c => val (m ((c : Thread nD τ).loc main_arg0)) (m ((c : Thread nD τ).loc main_arg1)) (m ((c : Thread nD τ).loc main_arg2))
    (m ((c : Thread nD τ).loc main_arg3)), ?_, ?_⟩
  · exact (θ_run Cert.MergeBIdeal.defs _ _).mono (fun _ h c => ⟨(h c).1.trans (final m c), (h c).2⟩) (Value.run_blocks m ρ)
  · refine (θ_run Cert.MergeBRefIdeal.defs _ _).mono (fun _ h c => ⟨(h c).1.trans ?_, (h c).2⟩) (Cert.MergeBRefIdeal.Value.run (F := Ideal) m' ρ')
    rw [(hagree c).1, (hagree c).2.1, (hagree c).2.2.1, (hagree c).2.2.2]
    exact (Cert.MergeBRefIdeal.Read.val_main_v7_eq (F := Ideal) _ _ _ _).trans (ref_eq _ _ _ _)

end Cert.Calls.MergeB

end
-- ==== Proof.Calls.Residual.lean ====
/-
  A projection added to its input rows, the same rows times the next gain, and the rows' sums of squares kept on
  every lane: what the output projection and the down projection of the feed-forward hand on.
-/
module

public import proofs.«01_k».proof.Proof.Calls.Common
public import Idealize.ShloMosaic.Lib.Pipeline.ValueKit.Acc

@[expose] public section

noncomputable section

namespace Cert.Calls

open Idealize.ShloMosaic Idealize.ShloMosaic.ValueIdx
open scoped BigOperators

/-- The rows `x` plus the product of the rows `h` and the weight `w`. -/
def resid {K : ℕ} (h : FVec Ideal ⟨3, ![2, 8192, K]⟩ .f32) (w : FVec Ideal ⟨3, ![1, K, 4096]⟩ .f32)
    (x : FVec Ideal ⟨3, ![2, 8192, 4096]⟩ .f32) : FVec Ideal ⟨2, ![16384, 4096]⟩ .f32 :=
  fun i => flat x i + rowDot h w (i 0) (i 1)

/-- The rows `y` times the gain `g`. -/
def gained (y : FVec Ideal ⟨2, ![16384, 4096]⟩ .f32) (g : FVec Ideal ⟨2, ![1, 4096]⟩ .f32) : FVec Ideal ⟨2, ![16384, 4096]⟩ .bf16 :=
  fun i => y i * g (ix2 0 (i 1))

/-- Each row's sum of squares, on every lane. -/
def squares (y : FVec Ideal ⟨2, ![16384, 4096]⟩ .f32) : FVec Ideal ⟨2, ![16384, 128]⟩ .f32 :=
  fun i => ∑ k : Fin 4096, y (ix2 (i 0) k) * y (ix2 (i 0) k)

/-- The square of the element at two plain coordinates, zero outside the array. -/
def sqAt {n k : ℕ} (y : FVec Ideal ⟨2, ![n, k]⟩ .f32) (R j : ℕ) : EReal :=
  if h : R < n ∧ j < k then y (ix2 ⟨R, h.1⟩ ⟨j, h.2⟩) * y (ix2 ⟨R, h.1⟩ ⟨j, h.2⟩) else 0

/-- Inside the array it is the square of the element. -/
theorem sqAt_of_lt {n k : ℕ} (y : FVec Ideal ⟨2, ![n, k]⟩ .f32) (R : Fin n) (j : Fin k) :
    sqAt y R.val j.val = y (ix2 R j) * y (ix2 R j) := dif_pos ⟨R.isLt, j.isLt⟩

/-- A row's squares summed over `B` blocks of `b` columns are its squares summed over all columns. -/
theorem sum_blocks {n k B b : ℕ} (y : FVec Ideal ⟨2, ![n, k]⟩ .f32) (hk : B * b = k) (R : Fin n) :
    ∑ p ∈ Finset.range B, ∑ q : Fin b, sqAt y R.val (p * b + q.val) = ∑ j : Fin k, y (ix2 R j) * y (ix2 R j) := by
  subst hk
  rw [Finset.sum_range, ← Fintype.sum_prod_type', ← Equiv.sum_comp finProdFinEquiv]
  refine Finset.sum_congr rfl fun x _ => ?_
  refine Eq.trans ?_ (sqAt_of_lt y R (finProdFinEquiv x))
  refine congrArg (sqAt y R.val) ?_
  show x.1.val * b + x.2.val = x.2.val + b * x.1.val
  rw [Nat.mul_comm, Nat.add_comm]

/-- A quantity that starts, at each first column block of a row block, as the block's sum of squares and grows by each
    later block's sum is, at the row block's last point, the row's sum of squares. -/
theorem squares_of_steps {N M : ℕ} (y : FVec Ideal ⟨2, ![16384, 4096]⟩ .f32) (f : (n : ℕ) → n < N → EReal) (r : Fin M)
    (h0 : ∀ t : Fin N, t.val % 8 = 0 → f t.val t.isLt = ∑ q : Fin 512, sqAt y (t.val / 8 * M + r.val) (t.val % 8 * 512 + q.val))
    (hs : ∀ t : Fin N, ¬t.val % 8 = 0 → f t.val t.isLt = f (t.val - 1) (Nat.lt_of_le_of_lt (Nat.sub_le _ _) t.isLt)
      + ∑ q : Fin 512, sqAt y (t.val / 8 * M + r.val) (t.val % 8 * 512 + q.val))
    (t : Fin N) (ht : t.val % 8 = 7) (R : Fin 16384) (hR : R.val = t.val / 8 * M + r.val) (l : Fin 128) :
    f t.val t.isLt = squares y (ix2 R l) := by
  have h := Pipeline.eq_sum_of_reset_step_divmod f 8 0
    (fun a k => ∑ q : Fin 512, sqAt y (a * M + r.val) (k * 512 + q.val)) (fun t h => (h0 t h).trans (zero_add _).symm) hs t
  rw [h, ht, zero_add, ← hR]
  exact sum_blocks y (by decide) R

/-- A block of rows plus a product of a block of rows and a block of columns, at one element. -/
theorem tile_resid {M K N : ℕ} (X : FVec Ideal ⟨2, ![M, K]⟩ .bf16) (W : FVec Ideal ⟨2, ![K, N]⟩ .bf16) (A : FVec Ideal ⟨2, ![M, N]⟩ .f32)
    (h : FVec Ideal ⟨3, ![2, 8192, K]⟩ .f32) (w : FVec Ideal ⟨3, ![1, K, 4096]⟩ .f32) (x : FVec Ideal ⟨3, ![2, 8192, 4096]⟩ .f32)
    (r : Fin M) (q : Fin N) (R : Fin 16384) (Q : Fin 4096) (hX : ∀ k, X (ix2 r k) = flat h (ix2 R k))
    (hW : ∀ k, W (ix2 k q) = layer w (ix2 k Q)) (hA : A (ix2 r q) = flat x (ix2 R Q)) :
    A (ix2 r q) + FloatOps.matmul (DotDims.plain M K N) none X W (constant (F := Ideal) ⟨2, ![M, N]⟩ .f32 0x00000000#32) (ix2 r q)
      = resid h w x (ix2 R Q) :=
  add_congr hA (tile_dot none X W h w r q R Q hX hW)

/-- The sums of squares of a block's rows, spread over the lanes, at one element. -/
theorem tile_squares {M N : ℕ} (P : FVec Ideal ⟨2, ![M, N]⟩ .f32) (y : FVec Ideal ⟨2, ![16384, 4096]⟩ .f32) (acc : BitVec (FTy.f32).bits)
    (h : (⟨2, ![M, N]⟩ : Shape).Reduces [1] ⟨1, ![M]⟩) (hφ : FKind.Formats .f32) (hacc : acc = FKind.add.neutral .f32 hφ)
    (hc : (⟨1, ![M]⟩ : Shape).ShapeCasts ⟨2, ![M, 1]⟩) (hb : (⟨2, ![M, 1]⟩ : Shape).Broadcasts ⟨2, ![M, 128]⟩) (hM : M ≠ 1)
    (r : Fin M) (l : Fin 128) (R C : ℕ) (hP : ∀ q : Fin N, P (ix2 r q) * P (ix2 r q) = sqAt y R (C + q.val)) :
    broadcastTo ⟨2, ![M, 128]⟩ (shapeCast ⟨2, ![M, 1]⟩ (multiReduction (F := Ideal) .add [1] ⟨1, ![M]⟩ (mulf P P) acc h hφ hacc) hc) hb (ix2 r l)
      = ∑ q : Fin N, sqAt y R (C + q.val) :=
  (broadcastTo_col _ hM _ r l).trans ((rowSum_col _ _ _ _ _ _ r).trans (Finset.sum_congr rfl fun q _ => hP q))

end Cert.Calls

end
-- ==== Proof.Calls.Out.lean ====
/-
  The output projection: the merged mixers times the output weight, added to the layer's input; beside it those rows
  times the next gain and their sums of squares.
-/
module

public import proofs.«01_k».proof.Defs
public import proofs.«01_k».proof.Proof.Gen.OutIdeal.Value
public import proofs.«01_k».proof.Proof.Gen.OutRefIdeal.Read
public import proofs.«01_k».proof.Proof.Calls.Residual

@[expose] public section

noncomputable section

namespace Cert.Calls.Out

open Idealize.ShloMosaic Idealize.ShloMosaic.TcCoe Idealize.SL.Sem Idealize.ShloMosaic.ValueIdx
open Cert.OutIdeal Cert.OutIdeal.Gen
open Idealize.ShloMosaic.Pipeline (Dat)
open scoped BigOperators

/-- The reference's rows before they are flattened. -/
theorem ref_row (h : FVec Ideal S2x8192x4096 .f32) (w : FVec Ideal S1x4096x4096 .f32) (x : FVec Ideal S2x8192x4096 .f32)
    (i : Cert.OutRefIdeal.S2x8192x4096.Idx) (R : Fin 16384) (Q : Fin 4096) (h0 : (i 0).val = R.val / 8192) (h1 : (i 1).val = R.val % 8192)
    (h2 : (i 2).val = Q.val) :
    Cert.OutRefIdeal.Read.val_main_v2 (F := Ideal) h w x i = resid h w x (ix2 R Q) := by
  rw [Cert.OutRefIdeal.Read.val_main_v2_apply, Cert.OutRefIdeal.Read.val_main_v1_apply, Ideal.addf_def]
  refine add_congr (congrArg x (idx_ext₃ h0 h1 h2)) (Finset.sum_congr rfl fun k _ => mul_congr ?_ ?_)
  · exact congrArg h (idx_ext₃ h0 h1 rfl)
  · unfold Cert.OutRefIdeal.Read.val_main_v0
    erw [shapeCast_layer]
    exact congrArg w (idx_ext₃ rfl rfl h2)

/-- The reference's first result. -/
theorem ref_eq (h : FVec Ideal S2x8192x4096 .f32) (w : FVec Ideal S1x4096x4096 .f32) (x : FVec Ideal S2x8192x4096 .f32) :
    Cert.OutRefIdeal.Read.val_main_v7 (F := Ideal) h w x = resid h w x := by
  funext i
  unfold Cert.OutRefIdeal.Read.val_main_v7
  erw [shapeCast_flat]
  exact (ref_row h w x _ (i 0) (i 1) rfl rfl rfl).trans (congrArg (resid h w x) (eq_ix2 i).symm)

/-- The reference's second result. -/
theorem ref_gained (h : FVec Ideal S2x8192x4096 .f32) (w : FVec Ideal S1x4096x4096 .f32) (x : FVec Ideal S2x8192x4096 .f32)
    (g : FVec Ideal S1x4096 .f32) : Cert.OutRefIdeal.Read.val_main_v13 (F := Ideal) h w x g = gained (resid h w x) g := by
  funext i
  rw [Cert.OutRefIdeal.Read.val_main_v13_apply, Ideal.truncf_def]
  unfold Cert.OutRefIdeal.Read.val_main_v12
  erw [shapeCast_flat]
  unfold flat
  rw [Cert.OutRefIdeal.Read.val_main_v11_apply, Ideal.mulf_def]
  refine mul_congr ((ref_row h w x _ (i 0) (i 1) rfl rfl rfl).trans (congrArg (resid h w x) (eq_ix2 i).symm)) ?_
  rw [Cert.OutRefIdeal.Read.val_main_v10_apply, Cert.OutRefIdeal.Read.val_main_v9_apply, Cert.OutRefIdeal.Read.val_main_v8_apply]
  exact congrArg g (Shape.idx_ext₂ rfl (Nat.mod_eq_of_lt (i 1).isLt))

/-- The reference's third result. -/
theorem ref_squares (h : FVec Ideal S2x8192x4096 .f32) (w : FVec Ideal S1x4096x4096 .f32) (x : FVec Ideal S2x8192x4096 .f32) :
    Cert.OutRefIdeal.Read.val_main_v14 (F := Ideal) h w x = squares (resid h w x) := by
  funext i
  unfold Cert.OutRefIdeal.Read.val_main_v14
  erw [shapeCast_flat]
  unfold flat
  rw [Cert.OutRefIdeal.Read.val_main_v6_apply, Cert.OutRefIdeal.Read.val_main_v5_apply, Cert.OutRefIdeal.Read.val_main_v4_apply,
    Cert.OutRefIdeal.Read.val_main_cst_apply, Ideal.ofBits_def, Ideal.ofBits_zero_f32, zero_add]
  refine Finset.sum_congr rfl fun k _ => ?_
  rw [Cert.OutRefIdeal.Read.val_main_v3_apply, Ideal.mulf_def]
  exact mul_congr (ref_row h w x _ (i 0) k rfl rfl rfl) (ref_row h w x _ (i 0) k rfl rfl rfl)

variable (m : (ℓ : Loc nD τ sig) → Buf (Elt Ideal) ℓ)

/-- The rows to project as the region finds them. -/
theorem V_rows (c : Dev nD) : V m c main_v1 = flat (m ((c : Thread nD τ).loc main_arg0)) := by
  refine Eq.trans ?_ (shapeCast_flat (m ((c : Thread nD τ).loc main_arg0)) shapeCasts_S2x8192x4096_S16384x4096)
  unfold V
  after_results <;> rfl

/-- The weight as the region finds it. -/
theorem V_weight (c : Dev nD) : V m c main_v3 = layer (m ((c : Thread nD τ).loc main_arg1)) := by
  refine Eq.trans ?_ (shapeCast_layer (m ((c : Thread nD τ).loc main_arg1)) shapeCasts_S1x4096x4096_S4096x4096)
  unfold V
  after_results <;> rfl

/-- The rows to add to as the region finds them. -/
theorem V_base (c : Dev nD) : V m c main_v4 = flat (m ((c : Thread nD τ).loc main_arg2)) := by
  refine Eq.trans ?_ (shapeCast_flat (m ((c : Thread nD τ).loc main_arg2)) shapeCasts_S2x8192x4096_S16384x4096)
  unfold V
  after_results <;> rfl

/-- The gain as the region finds it. -/
theorem V_gain (c : Dev nD) : V m c main_v6 = m ((c : Thread nD τ).loc main_arg3) := by
  refine Eq.trans (b := shapeCast S1x4096 (shapeCast S4096 (m ((c : Thread nD τ).loc main_arg3)) shapeCasts_S1x4096_S4096) shapeCasts_S4096_S1x4096) ?_ ?_
  · unfold V
    after_results <;> rfl
  · exact shapeCast_shapeCast _ _ _

/-- The blocks' places, point by point. -/
theorem idx_facts : ∀ t : Fin grid0.N, win0_0.index t 0 = t.val / 8 ∧ win0_0.index t 1 = 0 ∧ win0_1.index t 0 = 0 ∧ win0_1.index t 1 = t.val % 8
    ∧ win0_2.index t 0 = t.val / 8 ∧ win0_2.index t 1 = t.val % 8 ∧ win0_3.index t 0 = 0 ∧ win0_3.index t 1 = t.val % 8 := by
  decide +kernel

/-- The places of the results' blocks, point by point. -/
theorem out_facts : ∀ t : Fin grid0.N, win0_4.index t 0 = t.val / 8 ∧ win0_4.index t 1 = t.val % 8
    ∧ win0_5.index t 0 = t.val / 8 ∧ win0_5.index t 1 = t.val % 8 ∧ win0_6.index t 0 = t.val / 8 ∧ win0_6.index t 1 = 0 := by
  decide +kernel

/-- Where block `t` of the results lies. -/
theorem bound (t : Fin cfg0.N) : t.val / 8 * 1024 + 1024 ≤ 16384 ∧ t.val % 8 * 512 + 512 ≤ 4096 := by
  have : t.val < 128 := N_0 ▸ t.isLt
  omega

/-- The row of the results that block `t`'s row `r` is. -/
def row (t : Fin cfg0.N) (r : Fin 1024) : Fin 16384 := place (t.val / 8) r (bound t).1
/-- The column of the results that block `t`'s column `q` is. -/
def col (t : Fin cfg0.N) (q : Fin 512) : Fin 4096 := place (t.val % 8) q (bound t).2

theorem emb4 (t : Fin cfg0.N) (r : Fin 1024) (q : Fin 512) : (win0_4.rect t).emb (ix2 r q) = ix2 (row t r) (col t q) :=
  Shape.idx_ext₂ (emb_place win0_4 t _ 0 (out_facts t).1 rfl) (emb_place win0_4 t _ 1 (out_facts t).2.1 rfl)

theorem emb5 (t : Fin cfg0.N) (r : Fin 1024) (q : Fin 512) : (win0_5.rect t).emb (ix2 r q) = ix2 (row t r) (col t q) :=
  Shape.idx_ext₂ (emb_place win0_5 t _ 0 (out_facts t).2.2.1 rfl) (emb_place win0_5 t _ 1 (out_facts t).2.2.2.1 rfl)

theorem emb6 (t : Fin cfg0.N) (r : Fin 1024) (l : Fin 128) : (win0_6.rect t).emb (ix2 r l) = ix2 (row t r) l :=
  Shape.idx_ext₂ (emb_place win0_6 t _ 0 (out_facts t).2.2.2.2.1 rfl) ((emb_place win0_6 t _ 1 (out_facts t).2.2.2.2.2 rfl).trans (Nat.zero_add _))

/-- Block `t` of the rows to project. -/
theorem blk0 (c : Dev nD) (t : Fin cfg0.N) (r : Fin 1024) (k : Fin 4096) :
    iblk m c 0 t (ix2 r k) = flat (m ((c : Thread nD τ).loc main_arg0)) (ix2 (row t r) k) :=
  (congrFun (V_rows m c) _).trans (congrArg (flat _) (Shape.idx_ext₂ (emb_place win0_0 t _ 0 (idx_facts t).1 rfl)
    ((emb_place win0_0 t _ 1 (idx_facts t).2.1 rfl).trans (Nat.zero_add _))))

/-- Block `t` of the weight. -/
theorem blk1 (c : Dev nD) (t : Fin cfg0.N) (k : Fin 4096) (q : Fin 512) :
    iblk m c 1 t (ix2 k q) = layer (m ((c : Thread nD τ).loc main_arg1)) (ix2 k (col t q)) :=
  (congrFun (V_weight m c) _).trans (congrArg (layer _) (Shape.idx_ext₂
    ((emb_place win0_1 t _ 0 (idx_facts t).2.2.1 rfl).trans (Nat.zero_add _)) (emb_place win0_1 t _ 1 (idx_facts t).2.2.2.1 rfl)))

/-- Block `t` of the rows to add to. -/
theorem blk2 (c : Dev nD) (t : Fin cfg0.N) (r : Fin 1024) (q : Fin 512) :
    iblk m c 2 t (ix2 r q) = flat (m ((c : Thread nD τ).loc main_arg2)) (ix2 (row t r) (col t q)) :=
  (congrFun (V_base m c) _).trans (congrArg (flat _) (Shape.idx_ext₂ (emb_place win0_2 t _ 0 (idx_facts t).2.2.2.2.1 rfl)
    (emb_place win0_2 t _ 1 (idx_facts t).2.2.2.2.2.1 rfl)))

/-- Block `t` of the gain. -/
theorem blk3 (c : Dev nD) (t : Fin cfg0.N) (q : Fin 512) :
    iblk m c 3 t (ix2 0 q) = m ((c : Thread nD τ).loc main_arg3) (ix2 0 (col t q)) :=
  (congrFun (V_gain m c) _).trans (congrArg (m ((c : Thread nD τ).loc main_arg3)) (Shape.idx_ext₂ (emb_place win0_3 t _ 0 (idx_facts t).2.2.2.2.2.2.1 rfl)
    (emb_place win0_3 t _ 1 (idx_facts t).2.2.2.2.2.2.2 rfl)))

/-- The rows the program leaves, from the arguments. -/
abbrev rows (c : Dev nD) : FVec Ideal S16384x4096 .f32 :=
  resid (m ((c : Thread nD τ).loc main_arg0)) (m ((c : Thread nD τ).loc main_arg1)) (m ((c : Thread nD τ).loc main_arg2))

/-- What the body computes first, at one element. -/
theorem pay1 (c : Dev nD) (t : Fin cfg0.N) (r : Fin 1024) (q : Fin 512) :
    k0_pay1 (iblk m c 0 t) (iblk m c 1 t) (iblk m c 2 t) (ix2 r q) = rows m c (ix2 (row t r) (col t q)) := by
  unfold k0_pay1
  simp only [shapeCast_self]
  exact tile_resid (iblk m c 0 t) (iblk m c 1 t) (iblk m c 2 t) _ _ _ r q (row t r) (col t q)
    (fun k => blk0 m c t r k) (fun k => blk1 m c t k q) (blk2 m c t r q)

/-- The block's rows times the gain, at one element. -/
theorem pay2 (c : Dev nD) (t : Fin cfg0.N) (r : Fin 1024) (q : Fin 512) :
    k0_pay2 (iblk m c 0 t) (iblk m c 1 t) (iblk m c 2 t) (iblk m c 3 t) (ix2 r q)
      = gained (rows m c) (m ((c : Thread nD τ).loc main_arg3)) (ix2 (row t r) (col t q)) := by
  unfold k0_pay2
  simp only [shapeCast_self]
  exact mul_congr (pay1 m c t r q) ((broadcastTo_row (iblk m c 3 t) (by decide) _ r q).trans (blk3 m c t q))

/-- The block's sums of squares, at one element. -/
theorem pay3 (c : Dev nD) (t : Fin cfg0.N) (r : Fin 1024) (l : Fin 128) :
    k0_pay3 (iblk m c 0 t) (iblk m c 1 t) (iblk m c 2 t) (ix2 r l)
      = ∑ q : Fin 512, sqAt (rows m c) (t.val / 8 * 1024 + r.val) (t.val % 8 * 512 + q.val) := by
  unfold k0_pay3
  simp only [shapeCast_self]
  exact tile_squares _ (rows m c) _ _ _ _ _ _ (by decide) r l _ _ fun q =>
    (mul_congr (pay1 m c t r q) (pay1 m c t r q)).trans (sqAt_of_lt (rows m c) (row t r) (col t q)).symm

/-- What point `t` leaves in the first two results' buffers. -/
theorem outs45 (c : Dev nD) (t : Fin cfg0.N) :
    (outsAt0 m c t.val t.isLt).1 = k0_pay1 (iblk m c 0 t) (iblk m c 1 t) (iblk m c 2 t)
    ∧ (outsAt0 m c t.val t.isLt).2.1 = k0_pay2 (iblk m c 0 t) (iblk m c 1 t) (iblk m c 2 t) (iblk m c 3 t) := by
  by_cases h0 : t.val % 8 = 0
  · rw [outsAt0_A m c t h0 (by omega)]
    exact ⟨by frame_out, by frame_out⟩
  · rw [outsAt0_B m c t h0 (by omega)]
    exact ⟨by frame_out, by frame_out⟩

/-- At a row block's first point the third buffer holds the block's sums of squares. -/
theorem outs6_first (c : Dev nD) (t : Fin cfg0.N) (h0 : t.val % 8 = 0) :
    (outsAt0 m c t.val t.isLt).2.2 = k0_pay3 (iblk m c 0 t) (iblk m c 1 t) (iblk m c 2 t) := by
  rw [outsAt0_A m c t h0 (by omega)]
  frame_out

/-- At every later point it grows by the block's sums of squares. -/
theorem outs6_later (c : Dev nD) (t : Fin cfg0.N) (h0 : ¬t.val % 8 = 0) :
    (outsAt0 m c t.val t.isLt).2.2 = k0_pay4 (iblk m c 0 t) (iblk m c 1 t) (iblk m c 2 t)
      (outsAt0 m c (t.val - 1) (Nat.lt_of_le_of_lt (Nat.sub_le _ _) t.isLt)).2.2 := by
  rw [outsAt0_B m c t h0 (by omega)]
  frame_out

/-- What the last point of a row block leaves in the third buffer. -/
theorem outs6 (c : Dev nD) (t : Fin cfg0.N) (ht : t.val % 8 = 7) (r : Fin 1024) (l : Fin 128) :
    (outsAt0 m c t.val t.isLt).2.2 (ix2 r l) = squares (rows m c) (ix2 (row t r) l) :=
  squares_of_steps (rows m c) (fun n h => (outsAt0 m c n h).2.2 (ix2 r l)) r
    (fun t h => (congrFun (outs6_first m c t h) _).trans (pay3 m c t r l))
    (fun t h => (congrFun (outs6_later m c t h) _).trans (by
      unfold k0_pay4
      simp only [shapeCast_self]
      exact add_congr rfl (pay3 m c t r l))) t ht (row t r) rfl l

/-- What point `t` writes back to the first result. -/
theorem flushed4 (c : Dev nD) (t : Fin cfg0.N) :
    (dats m 0 c).flushed 4 t = ((cfg0.win 4).blk t).view.read (Elt Ideal) (rows m c) := by
  rw [Value.flushed4, (outs45 m c t).1]
  funext y
  obtain ⟨r, q, rfl⟩ : ∃ (r : Fin 1024) (q : Fin 512), y = ix2 r q := ⟨y 0, y 1, eq_ix2 y⟩
  exact (pay1 m c t r q).trans (congrArg (rows m c) (emb4 t r q)).symm

/-- What point `t` writes back to the second result. -/
theorem flushed5 (c : Dev nD) (t : Fin cfg0.N) :
    (dats m 0 c).flushed 5 t = ((cfg0.win 5).blk t).view.read (Elt Ideal) (gained (rows m c) (m ((c : Thread nD τ).loc main_arg3))) := by
  rw [Value.flushed5, (outs45 m c t).2]
  funext y
  obtain ⟨r, q, rfl⟩ : ∃ (r : Fin 1024) (q : Fin 512), y = ix2 r q := ⟨y 0, y 1, eq_ix2 y⟩
  exact (pay2 m c t r q).trans (congrArg (gained (rows m c) (m ((c : Thread nD τ).loc main_arg3))) (emb5 t r q)).symm

/-- What a row block's last point writes back to the third result. -/
theorem flushed6 (c : Dev nD) (t : Fin cfg0.N) (ht : t.val % 8 = 7) :
    (dats m 0 c).flushed 6 t = ((cfg0.win 6).blk t).view.read (Elt Ideal) (squares (rows m c)) := by
  rw [Value.flushed6]
  funext y
  obtain ⟨r, l, rfl⟩ : ∃ (r : Fin 1024) (l : Fin 128), y = ix2 r l := ⟨y 0, y 1, eq_ix2 y⟩
  exact (outs6 m c t ht r l).trans (congrArg (squares (rows m c)) (emb6 t r l)).symm

theorem final4 (c : Dev nD) : (dats m 0 c).arrAt 4 cfg0.N = rows m c :=
  (dats m 0 c).arrAt_eq_of_cover 4 _ (fun t _ => flushed4 m c t)
    (Pipeline.Window.Covers.cover _ (by decide +kernel) (Memref.isWhole_whole _))

theorem final5 (c : Dev nD) : (dats m 0 c).arrAt 5 cfg0.N = gained (rows m c) (m ((c : Thread nD τ).loc main_arg3)) :=
  (dats m 0 c).arrAt_eq_of_cover 5 _ (fun t _ => flushed5 m c t)
    (Pipeline.Window.Covers.cover _ (by decide +kernel) (Memref.isWhole_whole _))

theorem final6 (c : Dev nD) : (dats m 0 c).arrAt 6 cfg0.N = squares (rows m c) :=
  (dats m 0 c).arrAt_eq_of_cover 6 _ (fun t hf => flushed6 m c t ((flush0_6 t).mp hf))
    (Pipeline.Window.Covers.cover _ (by decide +kernel) (Memref.isWhole_whole _))

/-- The kernel and the reference leave the same three results. -/
theorem algebraic : Cert.algebraic_OutIdeal_OutRefIdeal := by
  intro m ρ m' ρ' _ hagree
  refine ⟨fun c => rows m c, fun c => gained (rows m c) (m ((c : Thread nD τ).loc main_arg3)), fun c => squares (rows m c), ?_, ?_⟩
  · exact (θ_run Cert.OutIdeal.defs _ _).mono (fun _ h c => ⟨(h c).1.trans (final4 m c), (h c).2.1.trans (final5 m c),
      (h c).2.2.1.trans (final6 m c), (h c).2.2.2⟩) (Value.run_blocks m ρ)
  · refine (θ_run Cert.OutRefIdeal.defs _ _).mono (fun _ h c => ⟨(h c).1.trans ?_, (h c).2.1.trans ?_, (h c).2.2.1.trans ?_, (h c).2.2.2⟩)
      (Cert.OutRefIdeal.Value.run (F := Ideal) m' ρ') <;> rw [(hagree c).1, (hagree c).2.1, (hagree c).2.2.1]
    · exact (Cert.OutRefIdeal.Read.val_main_v7_eq (F := Ideal) _ _ _).trans (ref_eq _ _ _)
    · rw [(hagree c).2.2.2]
      exact (Cert.OutRefIdeal.Read.val_main_v13_eq (F := Ideal) _ _ _ _).trans (ref_gained _ _ _ _)
    · exact (Cert.OutRefIdeal.Read.val_main_v14_eq (F := Ideal) _ _ _).trans (ref_squares _ _ _)

end Cert.Calls.Out

end
-- ==== Proof.Calls.Rms.lean ====
/-
  A row's reciprocal root mean square, and a matrix product of normalised rows: multiplying by the reciprocal after
  the sum is multiplying every term by it, because it is a nonnegative number below infinity.
-/
module

public import proofs.«01_k».proof.Proof.Calls.Common

@[expose] public section

noncomputable section

namespace Cert.Calls

open Idealize.ShloMosaic Idealize.ShloMosaic.ValueIdx
open scoped BigOperators

/-- The f32 pattern of the epsilon is a positive real. -/
theorem eps_pos : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- The f32 pattern of the row length is the real 4096. -/
theorem len_eq : Ideal.ofBits .f32 0x45800000#32 = ((4096 : ℝ) : EReal) := by
  simp [Ideal.ofBits, Ideal.ieee, -EReal.coe_mul]; norm_num

/-- A square is nonnegative. -/
theorem sq_nonneg' (a : EReal) : 0 ≤ a * a := by
  induction a with
  | bot => simp
  | top => simp
  | coe x => rw [← EReal.coe_mul]; exact_mod_cast mul_self_nonneg x

/-- A nonnegative quantity over the row length is nonnegative. -/
theorem div_len_nonneg {s : EReal} (h : 0 ≤ s) : 0 ≤ Ideal.div s (Ideal.ofBits .f32 0x45800000#32) := by
  rw [len_eq]
  unfold Ideal.div
  rw [if_neg (by norm_num), ← EReal.coe_inv]
  exact mul_nonneg h (by exact_mod_cast (by norm_num : (0 : ℝ) ≤ 4096⁻¹))

/-- The reciprocal root of a nonnegative quantity plus a positive real is nonnegative and below infinity. -/
theorem rsqrt_bounds {s : EReal} (hs : 0 ≤ s) {e : ℝ} (he : 0 < e) : 0 ≤ Ideal.rsqrt (s + e) ∧ Ideal.rsqrt (s + e) ≠ ⊤ := by
  induction s with
  | bot => simp at hs
  | top => rw [EReal.top_add_coe]; exact ⟨le_refl 0, EReal.zero_ne_top⟩
  | coe x =>
    have hx : 0 ≤ x := by exact_mod_cast hs
    rw [← EReal.coe_add, Ideal.rsqrt_coe, if_neg (by linarith), if_neg (by linarith)]
    exact ⟨by exact_mod_cast inv_nonneg.mpr (Real.sqrt_nonneg _), EReal.coe_ne_top _⟩

/-- A nonnegative number below infinity multiplies into a sum. -/
theorem mul_sum_of_bounds {ι : Type} {r : EReal} (h0 : 0 ≤ r) (h1 : r ≠ ⊤) (s : Finset ι) (f : ι → EReal) :
    r * ∑ k ∈ s, f k = ∑ k ∈ s, r * f k := by
  classical
  induction s using Finset.induction_on with
  | empty => simp
  | insert a s ha ih => rw [Finset.sum_insert ha, Finset.sum_insert ha, EReal.left_distrib_of_nonneg_of_ne_top h0 h1, ih]

/-- The reciprocal root mean square of row `R`. -/
def rstd (x : FVec Ideal ⟨2, ![16384, 4096]⟩ .f32) (R : Fin 16384) : EReal :=
  Ideal.rsqrt (Ideal.div (∑ k : Fin 4096, x (ix2 R k) * x (ix2 R k)) (Ideal.ofBits .f32 0x45800000#32) + Ideal.ofBits .f32 0x358637BD#32)

theorem rstd_bounds (x : FVec Ideal ⟨2, ![16384, 4096]⟩ .f32) (R : Fin 16384) : 0 ≤ rstd x R ∧ rstd x R ≠ ⊤ := by
  obtain ⟨e, he, h⟩ := eps_pos
  unfold rstd
  rw [h]
  exact rsqrt_bounds (div_len_nonneg (Finset.sum_nonneg fun k _ => sq_nonneg' _)) he

/-- Row `R`, normalised and times the gain, times column `Q` of the weight. -/
def normDot {N : ℕ} (x : FVec Ideal ⟨2, ![16384, 4096]⟩ .f32) (g : FVec Ideal ⟨2, ![1, 4096]⟩ .f32) (w : FVec Ideal ⟨3, ![1, 4096, N]⟩ .f32)
    (R : Fin 16384) (Q : Fin N) : EReal :=
  ∑ k : Fin 4096, x (ix2 R k) * rstd x R * g (ix2 0 k) * layer w (ix2 k Q)

/-- Normalising after the product is normalising before it. -/
theorem rstd_mul_dot {N : ℕ} (x : FVec Ideal ⟨2, ![16384, 4096]⟩ .f32) (g : FVec Ideal ⟨2, ![1, 4096]⟩ .f32) (w : FVec Ideal ⟨3, ![1, 4096, N]⟩ .f32)
    (R : Fin 16384) (Q : Fin N) :
    rstd x R * ∑ k : Fin 4096, x (ix2 R k) * g (ix2 0 k) * layer w (ix2 k Q) = normDot x g w R Q := by
  rw [mul_sum_of_bounds (rstd_bounds x R).1 (rstd_bounds x R).2]
  refine Finset.sum_congr rfl fun k _ => ?_
  rw [← mul_assoc, ← mul_assoc, mul_comm (rstd x R)]

/-- The gain broadcast down all rows by the host, at one element. -/
theorem host_gain (g : FVec Ideal ⟨2, ![1, 4096]⟩ .f32) (h : (⟨2, ![1, 4096]⟩ : Shape).BroadcastsInDim ⟨2, ![16384, 4096]⟩ ![0, 1])
    (R : Fin 16384) (k : Fin 4096) : broadcastInDim ⟨2, ![16384, 4096]⟩ ![0, 1] h g (ix2 R k) = g (ix2 0 k) :=
  broadcastInDim_apply _ h g (ix2 R k) (ix2 0 k) fun a => match a with
    | ⟨0, _⟩ => (if_pos rfl).symm
    | ⟨1, _⟩ => (if_neg (show ¬(4096 : ℕ) = 1 by decide)).symm

/-- The rows' sums of squares spread over the lanes by the host, at one element. -/
theorem host_squares (x : FVec Ideal ⟨2, ![16384, 4096]⟩ .f32) (hr : (⟨2, ![16384, 4096]⟩ : Shape).ReducesTo [1] ⟨1, ![16384]⟩)
    (hs : 0 < (⟨0, ![]⟩ : Shape).numel) (h1 : (⟨1, ![16384]⟩ : Shape).BroadcastsInDim ⟨2, ![16384, 1]⟩ ![0])
    (h2 : (⟨2, ![16384, 1]⟩ : Shape).BroadcastsInDim ⟨2, ![16384, 128]⟩ ![0, 1]) (R : Fin 16384) (l : Fin 128) :
    broadcastInDim ⟨2, ![16384, 128]⟩ ![0, 1] h2 (broadcastInDim ⟨2, ![16384, 1]⟩ ![0] h1
      (Host.reduceAdd (mulf x x) (constant (F := Ideal) ⟨0, ![]⟩ .f32 0x00000000#32) hr hs)) (ix2 R l) = ∑ k : Fin 4096, x (ix2 R k) * x (ix2 R k) := by
  refine (broadcastInDim_apply _ h2 _ (ix2 R l) (ix2 R 0) fun a => match a with
    | ⟨0, _⟩ => (if_neg (show ¬(16384 : ℕ) = 1 by decide)).symm
    | ⟨1, _⟩ => (if_pos rfl).symm).trans ?_
  refine (broadcastInDim_apply _ h1 _ (ix2 R 0) (ix1 R) fun a => match a with
    | ⟨0, _⟩ => (if_neg (show ¬(16384 : ℕ) = 1 by decide)).symm).trans ?_
  simp only [Host.reduceAdd, Ideal.hostReduceAdd_def]
  rw [Ideal.hostReduceAdd_single hr (by decide), constant_apply, Ideal.ofBits_zero_f32, zero_add]
  exact Finset.sum_congr rfl fun k _ => mul_congr (congrArg x (Shape.idx_ext₂ rfl rfl)) (congrArg x (Shape.idx_ext₂ rfl rfl))

end Cert.Calls

end
-- ==== Proof.Calls.Up.lean ====
/-
  The up projection of the feed-forward: the normalised rows times the gate half and the up half of the weight, joined
  as silu(gate) times up. The program multiplies the gained rows first and normalises the products; it copies the two
  column blocks of the weight into one scratch buffer at the first row block and keeps them for the others.
-/
module

public import proofs.«01_k».proof.Defs
public import proofs.«01_k».proof.Proof.Gen.UpIdeal.Value
public import proofs.«01_k».proof.Proof.Gen.UpRefIdeal.Read
public import proofs.«01_k».proof.Proof.Calls.Rms
public import Idealize.ShloMosaic.Lib.Pipeline.ValueKit.Tiles
public import Idealize.ShloMosaic.Lib.Pipeline.ValueKit.Held

@[expose] public section

noncomputable section

namespace Cert.Calls.Up

open Idealize.ShloMosaic Idealize.ShloMosaic.TcCoe Idealize.SL.Sem Idealize.ShloMosaic.ValueIdx
open Cert.UpIdeal Cert.UpIdeal.Gen
open Idealize.ShloMosaic.Pipeline (Dat)
open scoped BigOperators

/-- Column `q` of the gate half. -/
def gcol (q : Fin 11008) : Fin 22016 := ⟨q.val, by omega⟩
/-- Column `q` of the up half. -/
def ucol (q : Fin 11008) : Fin 22016 := ⟨11008 + q.val, by omega⟩

/-- Silu of the gate product times the up product. -/
def val (x : FVec Ideal S2x8192x4096 .f32) (g : FVec Ideal S1x4096 .f32) (w : FVec Ideal S1x4096x22016 .f32) :
    FVec Ideal S16384x11008 .bf16 := fun i =>
  normDot (flat x) g w (i 0) (gcol (i 1)) * Ideal.logistic (normDot (flat x) g w (i 0) (gcol (i 1))) * normDot (flat x) g w (i 0) (ucol (i 1))

/-- The reference's product before it is split. -/
theorem ref_dot (x : FVec Ideal S2x8192x4096 .f32) (g : FVec Ideal S1x4096 .f32) (w : FVec Ideal S1x4096x22016 .f32)
    (i : Cert.UpRefIdeal.S2x8192x22016.Idx) (R : Fin 16384) (Q : Fin 22016) (h0 : (i 0).val = R.val / 8192) (h1 : (i 1).val = R.val % 8192)
    (h2 : (i 2).val = Q.val) :
    Cert.UpRefIdeal.Read.val_main_v15 (F := Ideal) x g w i = normDot (flat x) g w R Q := by
  rw [Cert.UpRefIdeal.Read.val_main_v15_apply]
  refine Finset.sum_congr rfl fun k _ => mul_congr ?_ ?_
  · open Cert.UpRefIdeal.Read in
    rw [val_main_v13_apply, val_main_v10_apply, val_main_v9_apply, val_main_v8_apply, val_main_v7_apply, val_main_v6_apply, val_main_cst_1_apply,
      val_main_v5_apply, val_main_v4_apply, val_main_cst_0_apply, val_main_v3_apply, val_main_v2_apply, val_main_cst_apply,
      val_main_v12_apply, val_main_v11_apply, val_main_v0_apply]
    simp only [Ideal.mulf_def, Ideal.addf_def, Ideal.hostDivf_def, Ideal.hostUnary_rsqrt_def, Ideal.ofBits_def, Cert.UpRefIdeal.Read.val_main_v1_apply,
      Ideal.ofBits_zero_f32, zero_add]
    refine mul_congr (mul_congr (congrArg x (idx_ext₃ h0 h1 rfl)) (congrArg (fun s => Ideal.rsqrt (Ideal.div s _ + _)) ?_)) (congrArg g ?_)
    · exact Finset.sum_congr rfl fun k _ => mul_congr (congrArg x (idx_ext₃ h0 h1 rfl)) (congrArg x (idx_ext₃ h0 h1 rfl))
    · exact Shape.idx_ext₂ rfl (Nat.mod_eq_of_lt k.isLt)
  · unfold Cert.UpRefIdeal.Read.val_main_v14
    erw [shapeCast_layer]
    exact congrArg w (idx_ext₃ rfl rfl h2)

/-- The reference's result. -/
theorem ref_eq (x : FVec Ideal S2x8192x4096 .f32) (g : FVec Ideal S1x4096 .f32) (w : FVec Ideal S1x4096x22016 .f32) :
    Cert.UpRefIdeal.Read.val_main_v21 (F := Ideal) x g w = val x g w := by
  funext i
  rw [Cert.UpRefIdeal.Read.val_main_v21_apply, Ideal.truncf_def]
  unfold Cert.UpRefIdeal.Read.val_main_v20
  erw [shapeCast_flat]
  have e1 := ref_dot x g w (Cert.UpRefIdeal.Read.idx_main_v16 (ix3 (seqOf (i 0)) (posOf (i 0)) (i 1))) (i 0) (gcol (i 1)) rfl rfl rfl
  have e2 := ref_dot x g w (Cert.UpRefIdeal.Read.idx_main_v17 (ix3 (seqOf (i 0)) (posOf (i 0)) (i 1))) (i 0) (ucol (i 1)) rfl rfl rfl
  unfold flat
  open Cert.UpRefIdeal.Read in
  rw [val_main_v19_apply, val_main_v18_apply, val_main_call0_v5_apply, val_main_call0_v4_apply, val_main_call0_cst_0_apply,
    val_main_call0_v3_apply, val_main_call0_v2_apply, val_main_call0_cst_apply, val_main_call0_v1_apply, val_main_call0_v0_apply,
    val_main_v16_apply, val_main_v17_apply]
  simp only [Ideal.mulf_def, Ideal.hostDivf_def, Ideal.addf_def, Ideal.hostUnary_exp_def, Ideal.hostNegf_def, Ideal.negf_def, Ideal.ofBits_def, Ideal.ofBits_one_f32]
  refine mul_congr (mul_congr e1 ?_) e2
  exact congrArg (fun s => Ideal.div 1 (1 + Ideal.exp (-s))) e1

variable (m : (ℓ : Loc nD τ sig) → Buf (Elt Ideal) ℓ)

/-- The arguments. -/
abbrev argX (c : Dev nD) : FVec Ideal S2x8192x4096 .f32 := m ((c : Thread nD τ).loc main_arg0)
abbrev argG (c : Dev nD) : FVec Ideal S1x4096 .f32 := m ((c : Thread nD τ).loc main_arg1)
abbrev argW (c : Dev nD) : FVec Ideal S1x4096x22016 .f32 := m ((c : Thread nD τ).loc main_arg2)

/-- The gained rows as the region finds them. -/
theorem V_gained (c : Dev nD) (R : Fin 16384) (k : Fin 4096) :
    V m c main_v5 (ix2 R k) = flat (argX m c) (ix2 R k) * argG m c (ix2 0 k) := by
  refine Eq.trans (b := (mulf (shapeCast S16384x4096 (argX m c) shapeCasts_S2x8192x4096_S16384x4096)
    (broadcastInDim S16384x4096 ![0, 1] bcast_S1x4096_S16384x4096_0_1
      (shapeCast S1x4096 (shapeCast S4096 (argG m c) shapeCasts_S1x4096_S4096) shapeCasts_S4096_S1x4096))) (ix2 R k)) ?_ ?_
  · refine congrFun ?_ _
    unfold V
    after_results <;> rfl
  rw [shapeCast_flat, shapeCast_shapeCast]
  exact mul_congr rfl (host_gain _ _ R k)

/-- The rows' sums of squares as the region finds them. -/
theorem V_squares (c : Dev nD) (R : Fin 16384) (l : Fin 128) :
    V m c main_v9 (ix2 R l) = ∑ k : Fin 4096, flat (argX m c) (ix2 R k) * flat (argX m c) (ix2 R k) := by
  refine Eq.trans (b := broadcastInDim S16384x128 ![0, 1] bcast_S16384x1_S16384x128_0_1 (broadcastInDim S16384x1 ![0] bcast_S16384_S16384x1_0
    (Host.reduceAdd (mulf (shapeCast S16384x4096 (argX m c) shapeCasts_S2x8192x4096_S16384x4096) (shapeCast S16384x4096 (argX m c) shapeCasts_S2x8192x4096_S16384x4096))
      (constant (F := Ideal) S_ .f32 0x00000000#32) reducesTo_S16384x4096_S16384_d1 h_S_)) (ix2 R l)) ?_ ?_
  · refine congrFun ?_ _
    unfold V
    after_results <;> rfl
  rw [shapeCast_flat]
  exact host_squares _ _ _ _ _ R l

/-- The weight as the region finds it. -/
theorem V_weight (c : Dev nD) : V m c main_v10 = layer (argW m c) := by
  refine Eq.trans ?_ (shapeCast_layer (argW m c) shapeCasts_S1x4096x22016_S4096x22016)
  unfold V
  after_results <;> rfl

/-- The blocks' places, point by point. -/
theorem idx_facts : ∀ t : Fin grid0.N, win0_0.index t 0 = t.val % 16 ∧ win0_0.index t 1 = 0 ∧ win0_1.index t 0 = 0 ∧ win0_1.index t 1 = t.val / 16
    ∧ win0_2.index t 0 = 0 ∧ win0_2.index t 1 = 43 + t.val / 16 ∧ win0_3.index t 0 = t.val % 16 ∧ win0_3.index t 1 = 0
    ∧ win0_4.index t 0 = t.val % 16 ∧ win0_4.index t 1 = t.val / 16 := by
  decide +kernel

/-- Where block `t` of the result lies. -/
theorem bound (t : Fin cfg0.N) : t.val % 16 * 1024 + 1024 ≤ 16384 ∧ t.val / 16 * 256 + 256 ≤ 11008 := by
  have : t.val < 688 := N_0 ▸ t.isLt
  omega

/-- The row of the result that block `t`'s row `r` is. -/
def row (t : Fin cfg0.N) (r : Fin 1024) : Fin 16384 := place (t.val % 16) r (bound t).1
/-- The column of the result that block `t`'s column `q` is. -/
def col (t : Fin cfg0.N) (q : Fin 256) : Fin 11008 := place (t.val / 16) q (bound t).2

theorem emb4 (t : Fin cfg0.N) (r : Fin 1024) (q : Fin 256) : (win0_4.rect t).emb (ix2 r q) = ix2 (row t r) (col t q) :=
  Shape.idx_ext₂ (emb_place win0_4 t _ 0 (idx_facts t).2.2.2.2.2.2.2.2.1 rfl) (emb_place win0_4 t _ 1 (idx_facts t).2.2.2.2.2.2.2.2.2 rfl)

/-- Block `t` of the gained rows. -/
theorem blk0 (c : Dev nD) (t : Fin cfg0.N) (r : Fin 1024) (k : Fin 4096) :
    iblk m c 0 t (ix2 r k) = flat (argX m c) (ix2 (row t r) k) * argG m c (ix2 0 k) :=
  (congrArg (V m c main_v5) (Shape.idx_ext₂ (emb_place win0_0 t _ 0 (idx_facts t).1 rfl)
    ((emb_place win0_0 t _ 1 (idx_facts t).2.1 rfl).trans (Nat.zero_add _)))).trans (V_gained m c (row t r) k)

/-- Block `t` of the weight's gate half. -/
theorem blk1 (c : Dev nD) (t : Fin cfg0.N) (k : Fin 4096) (q : Fin 256) :
    iblk m c 1 t (ix2 k q) = layer (argW m c) (ix2 k (gcol (col t q))) :=
  (congrFun (V_weight m c) _).trans (congrArg (layer _) (Shape.idx_ext₂
    ((emb_place win0_1 t _ 0 (idx_facts t).2.2.1 rfl).trans (Nat.zero_add _)) (emb_place win0_1 t _ 1 (idx_facts t).2.2.2.1 rfl)))

/-- Block `t` of the weight's up half. -/
theorem blk2 (c : Dev nD) (t : Fin cfg0.N) (k : Fin 4096) (q : Fin 256) :
    iblk m c 2 t (ix2 k q) = layer (argW m c) (ix2 k (ucol (col t q))) :=
  (congrFun (V_weight m c) _).trans (congrArg (layer _) (Shape.idx_ext₂
    ((emb_place win0_2 t _ 0 (idx_facts t).2.2.2.2.1 rfl).trans (Nat.zero_add _))
    ((emb_place win0_2 t _ 1 (idx_facts t).2.2.2.2.2.1 rfl).trans
      (show (43 + t.val / 16) * 256 + q.val = 11008 + (t.val / 16 * 256 + q.val) by omega))))

/-- Block `t` of the sums of squares. -/
theorem blk3 (c : Dev nD) (t : Fin cfg0.N) (r : Fin 1024) (l : Fin 128) :
    iblk m c 3 t (ix2 r l) = ∑ k : Fin 4096, flat (argX m c) (ix2 (row t r) k) * flat (argX m c) (ix2 (row t r) k) :=
  (congrArg (V m c main_v9) (Shape.idx_ext₂ (emb_place win0_3 t _ 0 (idx_facts t).2.2.2.2.2.2.1 rfl)
    ((emb_place win0_3 t _ 1 (idx_facts t).2.2.2.2.2.2.2.1 rfl).trans (Nat.zero_add _)))).trans (V_squares m c (row t r) l)

/-- The two column blocks of the weight side by side, as point `t` stores them. -/
def stored (c : Dev nD) (t : Fin cfg0.N) : FVec Ideal S4096x512 .bf16 :=
  View.canon (Val := Elt Ideal) (s := S4096x512) (e := .bf16) [⟨Rect.unit ![0, 256] ![4096, 256] inb_S4096x512_S4096x256_0_256, k0_pay2 (iblk m c 2 t)⟩,
    ⟨Rect.unit ![0, 0] ![4096, 256] inb_S4096x512_S4096x256_0_0, k0_pay1 (iblk m c 1 t)⟩]

/-- The left half of what is stored is the gate block. -/
theorem stored_left (c : Dev nD) (t : Fin cfg0.N) (k : Fin 4096) (q : Fin 256) :
    stored m c t (ix2 k ⟨q.val, by omega⟩) = layer (argW m c) (ix2 k (gcol (col t q))) := by
  unfold stored
  canon_tiles x h
  · exfalso
    have h1' : q.val = 256 + (x 1).val := h1
    omega
  · unfold k0_pay1
    simp only [shapeCast_self]
    refine Eq.trans ?_ (blk1 m c t k q)
    exact congrArg (iblk m c 1 t) (Shape.idx_ext₂ h0.symm h1.symm)

/-- The right half of what is stored is the up block. -/
theorem stored_right (c : Dev nD) (t : Fin cfg0.N) (k : Fin 4096) (q : Fin 256) :
    stored m c t (ix2 k ⟨256 + q.val, by omega⟩) = layer (argW m c) (ix2 k (ucol (col t q))) := by
  unfold stored
  canon_tiles x h
  · unfold k0_pay2
    simp only [shapeCast_self]
    refine Eq.trans ?_ (blk2 m c t k q)
    refine congrArg (iblk m c 2 t) (Shape.idx_ext₂ h0.symm ?_)
    have h1' : 256 + q.val = 256 + (x 1).val := h1
    show (x 1).val = q.val
    omega
  · exfalso
    have h1' : 256 + q.val = (x 1).val := h1
    omega

/-- After every point the scratch buffer holds what the first point of its column block stored. -/
theorem scratch_eq (c : Dev nD) (t : Fin cfg0.N) :
    (outsAt0 m c t.val t.isLt).2 = stored m c ⟨16 * (t.val / 16), Pipeline.run_start_lt t⟩ :=
  Pipeline.eq_of_write_hold (fun n h => (outsAt0 m c n h).2) 16 (stored m c)
    (fun t h => by
      show (outsAt0 m c t.val t.isLt).2 = _
      rw [outsAt0_A m c t h]
      unfold stored
      frame_out)
    (fun t h => by
      show (outsAt0 m c t.val t.isLt).2 = (outsAt0 m c (t.val - 1) _).2
      rw [outsAt0_B m c t h]
      rfl) t

/-- The column block of the run's first point is that of every point of the run. -/
theorem col_first (t : Fin cfg0.N) (q : Fin 256) : col ⟨16 * (t.val / 16), Pipeline.run_start_lt t⟩ q = col t q := by
  apply Fin.ext
  show 16 * (t.val / 16) / 16 * 256 + q.val = t.val / 16 * 256 + q.val
  omega

/-- What every point leaves in the result's buffer, from the scratch buffer after it. -/
theorem out_eq (c : Dev nD) (t : Fin cfg0.N) : (outsAt0 m c t.val t.isLt).1
    = k0_pay3 (iblk m c 0 t) (outsAt0 m c t.val t.isLt).2 (View.ld (iblk m c 3 t) (Rect.unit ![0, 0] ![1024, 1] inb_S1024x128_S1024x1_0_0)) := by
  by_cases h0 : t.val % 16 = 0
  · rw [outsAt0_A m c t h0]
    frame_out
    refine congrArg (fun W => k0_pay3 (iblk m c 0 t) W _) ?_
    rw [View.readCov_eq_canon_ld _ _ _ (fun y => View.cover_of_tiled_head _ _ _ (by rfl) y)]
    exact View.ld_unit_zero zero₂ _ _
  · rw [outsAt0_B m c t h0]
    frame_out
    exact congrArg (fun W => k0_pay3 (iblk m c 0 t) W _) (Memref.IsWhole.read_unread _ _)

/-- A product of the point's rows with a column of the scratch buffer, normalised. -/
theorem scaled_dot (c : Dev nD) (t : Fin cfg0.N) (W : FVec Ideal S4096x512 .bf16) (r : Fin 1024) (p : Fin 512) (Q : Fin 22016)
    (hW : ∀ k, W (ix2 k p) = layer (argW m c) (ix2 k Q)) :
    rstd (flat (argX m c)) (row t r) * FloatOps.matmul (φ₁ := .bf16) (φ₂ := .bf16) (DotDims.plain 1024 4096 512) none (iblk m c 0 t) W (constant (F := Ideal) S1024x512 .f32 0x00000000#32) (ix2 r p)
      = normDot (flat (argX m c)) (argG m c) (argW m c) (row t r) Q :=
  (mul_congr rfl ((matmul_zero_apply none (iblk m c 0 t) W r p).trans
    (Finset.sum_congr rfl fun k _ => mul_congr (blk0 m c t r k) (hW k)))).trans (rstd_mul_dot _ _ _ _ _)

/-- The scale of row `r`, spread along the row. -/
theorem scale_col (v : FVec Ideal S1024x1 .f32) (h : S1024x1.Broadcasts S1024x256) (r : Fin 1024) (q : Fin 256) (s : EReal) (hv : v (ix2 r 0) = s) :
    broadcastTo S1024x256 (rsqrt (addf (divf v (broadcast S1024x1 (Scalar.ofBits (F := Ideal) .f32 0x45800000#32)))
      (broadcast S1024x1 (Scalar.ofBits (F := Ideal) .f32 0x358637BD#32)))) h (ix2 r q)
      = Ideal.rsqrt (Ideal.div s (Ideal.ofBits .f32 0x45800000#32) + Ideal.ofBits .f32 0x358637BD#32) := by
  subst hv
  exact broadcastTo_col _ (by decide) h r q

/-- What a point's result block holds, at one element. -/
theorem pay3 (c : Dev nD) (t : Fin cfg0.N) (r : Fin 1024) (q : Fin 256) :
    (outsAt0 m c t.val t.isLt).1 (ix2 r q) = val (argX m c) (argG m c) (argW m c) (ix2 (row t r) (col t q)) := by
  rw [out_eq, scratch_eq]
  unfold k0_pay3
  simp only [shapeCast_self]
  have hs : broadcastTo S1024x256 (rsqrt (addf (divf (View.ld (iblk m c 3 t) (Rect.unit ![0, 0] ![1024, 1] inb_S1024x128_S1024x1_0_0))
      (broadcast S1024x1 (Scalar.ofBits (F := Ideal) .f32 0x45800000#32))) (broadcast S1024x1 (Scalar.ofBits (F := Ideal) .f32 0x358637BD#32))))
      broadcasts_S1024x1_S1024x256 (ix2 r q) = rstd (flat (argX m c)) (row t r) := by
    refine scale_col _ _ r q _ (Eq.trans (congrArg (iblk m c 3 t) ?_) (blk3 m c t r 0))
    exact Shape.idx_ext₂ (show 0 + 1 * r.val = r.val by omega) rfl
  have e1 := scaled_dot m c t (stored m c ⟨16 * (t.val / 16), Pipeline.run_start_lt t⟩) r ⟨q.val, by omega⟩ (gcol (col t q))
    (fun k => (stored_left m c _ k q).trans (by rw [col_first]))
  have e2 := scaled_dot m c t (stored m c ⟨16 * (t.val / 16), Pipeline.run_start_lt t⟩) r ⟨256 + q.val, by omega⟩ (ucol (col t q))
    (fun k => (stored_right m c _ k q).trans (by rw [col_first]))
  have s1 : ∀ y : FVec Ideal S1024x512 .f32, extractStridedSlice S1024x256 ![0, 0] y slices_S1024x512_o0_0_S1024x256 (ix2 r q) = y (ix2 r ⟨q.val, by omega⟩) :=
    fun y => extractStridedSlice_apply _ y _ (ix2 r q) (ix2 r ⟨q.val, by omega⟩) fun a => match a with
      | ⟨0, _⟩ => (Nat.zero_add _).symm
      | ⟨1, _⟩ => (Nat.zero_add _).symm
  have s2 : ∀ y : FVec Ideal S1024x512 .f32, extractStridedSlice S1024x256 ![0, 256] y slices_S1024x512_o0_256_S1024x256 (ix2 r q) = y (ix2 r ⟨256 + q.val, by omega⟩) :=
    fun y => extractStridedSlice_apply _ y _ (ix2 r q) (ix2 r ⟨256 + q.val, by omega⟩) fun a => match a with
      | ⟨0, _⟩ => (Nat.zero_add _).symm
      | ⟨1, _⟩ => rfl
  have a1 := (mul_congr hs (s1 _)).trans e1
  exact mul_congr (mul_congr a1 (congrArg Ideal.logistic a1)) ((mul_congr hs (s2 _)).trans e2)

/-- What point `t` writes back. -/
theorem flushed_eq (c : Dev nD) (t : Fin cfg0.N) :
    (dats m 0 c).flushed 4 t = ((cfg0.win 4).blk t).view.read (Elt Ideal) (val (argX m c) (argG m c) (argW m c)) := by
  rw [Value.flushed4]
  funext y
  obtain ⟨r, q, rfl⟩ : ∃ (r : Fin 1024) (q : Fin 256), y = ix2 r q := ⟨y 0, y 1, eq_ix2 y⟩
  exact (pay3 m c t r q).trans (congrArg (val _ _ _) (emb4 t r q)).symm

/-- After the run the result array holds the joined products. -/
theorem final (c : Dev nD) : (dats m 0 c).arrAt 4 cfg0.N = val (argX m c) (argG m c) (argW m c) :=
  (dats m 0 c).arrAt_eq_of_cover 4 _ (fun t _ => flushed_eq m c t)
    (Pipeline.Window.Covers.cover _ (by decide +kernel) (Memref.isWhole_whole _))

/-- The kernel and the reference leave the same result. -/
theorem algebraic : Cert.algebraic_UpIdeal_UpRefIdeal := by
  intro m ρ m' ρ' _ hagree
  refine ⟨fun c => val (argX m c) (argG m c) (argW m c), ?_, ?_⟩
  · exact (θ_run Cert.UpIdeal.defs _ _).mono (fun _ h c => ⟨(h c).1.trans (final m c), (h c).2⟩) (Value.run_blocks m ρ)
  · refine (θ_run Cert.UpRefIdeal.defs _ _).mono (fun _ h c => ⟨(h c).1.trans ?_, (h c).2⟩) (Cert.UpRefIdeal.Value.run (F := Ideal) m' ρ')
    rw [(hagree c).1, (hagree c).2.1, (hagree c).2.2]
    exact (Cert.UpRefIdeal.Read.val_main_v21_eq (F := Ideal) _ _ _).trans (ref_eq _ _ _)

end Cert.Calls.Up

end
-- ==== Proof.Calls.Down.lean ====
/-
  The down projection of the feed-forward: the activations times the down weight, added to the rows before the
  feed-forward; beside it those rows times the next gain and their sums of squares.
-/
module

public import proofs.«01_k».proof.Defs
public import proofs.«01_k».proof.Proof.Gen.DownIdeal.Value
public import proofs.«01_k».proof.Proof.Gen.DownRefIdeal.Read
public import proofs.«01_k».proof.Proof.Calls.Residual

@[expose] public section

noncomputable section

namespace Cert.Calls.Down

open Idealize.ShloMosaic Idealize.ShloMosaic.TcCoe Idealize.SL.Sem Idealize.ShloMosaic.ValueIdx
open Cert.DownIdeal Cert.DownIdeal.Gen
open Idealize.ShloMosaic.Pipeline (Dat)
open scoped BigOperators

/-- The reference's rows before they are flattened. -/
theorem ref_row (h : FVec Ideal S2x8192x11008 .f32) (w : FVec Ideal S1x11008x4096 .f32) (x : FVec Ideal S2x8192x4096 .f32)
    (i : Cert.DownRefIdeal.S2x8192x4096.Idx) (R : Fin 16384) (Q : Fin 4096) (h0 : (i 0).val = R.val / 8192) (h1 : (i 1).val = R.val % 8192)
    (h2 : (i 2).val = Q.val) :
    Cert.DownRefIdeal.Read.val_main_v2 (F := Ideal) h w x i = resid h w x (ix2 R Q) := by
  rw [Cert.DownRefIdeal.Read.val_main_v2_apply, Cert.DownRefIdeal.Read.val_main_v1_apply, Ideal.addf_def]
  refine add_congr (congrArg x (idx_ext₃ h0 h1 h2)) (Finset.sum_congr rfl fun k _ => mul_congr ?_ ?_)
  · exact congrArg h (idx_ext₃ h0 h1 rfl)
  · unfold Cert.DownRefIdeal.Read.val_main_v0
    erw [shapeCast_layer]
    exact congrArg w (idx_ext₃ rfl rfl h2)

/-- The reference's first result. -/
theorem ref_eq (h : FVec Ideal S2x8192x11008 .f32) (w : FVec Ideal S1x11008x4096 .f32) (x : FVec Ideal S2x8192x4096 .f32) :
    Cert.DownRefIdeal.Read.val_main_v7 (F := Ideal) h w x = resid h w x := by
  funext i
  unfold Cert.DownRefIdeal.Read.val_main_v7
  erw [shapeCast_flat]
  exact (ref_row h w x _ (i 0) (i 1) rfl rfl rfl).trans (congrArg (resid h w x) (eq_ix2 i).symm)

/-- The reference's second result. -/
theorem ref_gained (h : FVec Ideal S2x8192x11008 .f32) (w : FVec Ideal S1x11008x4096 .f32) (x : FVec Ideal S2x8192x4096 .f32)
    (g : FVec Ideal S1x4096 .f32) : Cert.DownRefIdeal.Read.val_main_v13 (F := Ideal) h w x g = gained (resid h w x) g := by
  funext i
  rw [Cert.DownRefIdeal.Read.val_main_v13_apply, Ideal.truncf_def]
  unfold Cert.DownRefIdeal.Read.val_main_v12
  erw [shapeCast_flat]
  unfold flat
  rw [Cert.DownRefIdeal.Read.val_main_v11_apply, Ideal.mulf_def]
  refine mul_congr ((ref_row h w x _ (i 0) (i 1) rfl rfl rfl).trans (congrArg (resid h w x) (eq_ix2 i).symm)) ?_
  rw [Cert.DownRefIdeal.Read.val_main_v10_apply, Cert.DownRefIdeal.Read.val_main_v9_apply, Cert.DownRefIdeal.Read.val_main_v8_apply]
  exact congrArg g (Shape.idx_ext₂ rfl (Nat.mod_eq_of_lt (i 1).isLt))

/-- The reference's third result. -/
theorem ref_squares (h : FVec Ideal S2x8192x11008 .f32) (w : FVec Ideal S1x11008x4096 .f32) (x : FVec Ideal S2x8192x4096 .f32) :
    Cert.DownRefIdeal.Read.val_main_v14 (F := Ideal) h w x = squares (resid h w x) := by
  funext i
  unfold Cert.DownRefIdeal.Read.val_main_v14
  erw [shapeCast_flat]
  unfold flat
  rw [Cert.DownRefIdeal.Read.val_main_v6_apply, Cert.DownRefIdeal.Read.val_main_v5_apply, Cert.DownRefIdeal.Read.val_main_v4_apply,
    Cert.DownRefIdeal.Read.val_main_cst_apply, Ideal.ofBits_def, Ideal.ofBits_zero_f32, zero_add]
  refine Finset.sum_congr rfl fun k _ => ?_
  rw [Cert.DownRefIdeal.Read.val_main_v3_apply, Ideal.mulf_def]
  exact mul_congr (ref_row h w x _ (i 0) k rfl rfl rfl) (ref_row h w x _ (i 0) k rfl rfl rfl)

variable (m : (ℓ : Loc nD τ sig) → Buf (Elt Ideal) ℓ)

/-- The rows to project as the region finds them. -/
theorem V_rows (c : Dev nD) : V m c main_v1 = flat (m ((c : Thread nD τ).loc main_arg0)) := by
  refine Eq.trans ?_ (shapeCast_flat (m ((c : Thread nD τ).loc main_arg0)) shapeCasts_S2x8192x11008_S16384x11008)
  unfold V
  after_results <;> rfl

/-- The weight as the region finds it. -/
theorem V_weight (c : Dev nD) : V m c main_v3 = layer (m ((c : Thread nD τ).loc main_arg1)) := by
  refine Eq.trans ?_ (shapeCast_layer (m ((c : Thread nD τ).loc main_arg1)) shapeCasts_S1x11008x4096_S11008x4096)
  unfold V
  after_results <;> rfl

/-- The rows to add to as the region finds them. -/
theorem V_base (c : Dev nD) : V m c main_v4 = flat (m ((c : Thread nD τ).loc main_arg2)) := by
  refine Eq.trans ?_ (shapeCast_flat (m ((c : Thread nD τ).loc main_arg2)) shapeCasts_S2x8192x4096_S16384x4096)
  unfold V
  after_results <;> rfl

/-- The gain as the region finds it. -/
theorem V_gain (c : Dev nD) : V m c main_v6 = m ((c : Thread nD τ).loc main_arg3) := by
  refine Eq.trans (b := shapeCast S1x4096 (shapeCast S4096 (m ((c : Thread nD τ).loc main_arg3)) shapeCasts_S1x4096_S4096) shapeCasts_S4096_S1x4096) ?_ ?_
  · unfold V
    after_results <;> rfl
  · exact shapeCast_shapeCast _ _ _

/-- The blocks' places, point by point. -/
theorem idx_facts : ∀ t : Fin grid0.N, win0_0.index t 0 = t.val / 8 ∧ win0_0.index t 1 = 0 ∧ win0_1.index t 0 = 0 ∧ win0_1.index t 1 = t.val % 8
    ∧ win0_2.index t 0 = t.val / 8 ∧ win0_2.index t 1 = t.val % 8 ∧ win0_3.index t 0 = 0 ∧ win0_3.index t 1 = t.val % 8 := by
  decide +kernel

/-- The places of the results' blocks, point by point. -/
theorem out_facts : ∀ t : Fin grid0.N, win0_4.index t 0 = t.val / 8 ∧ win0_4.index t 1 = t.val % 8
    ∧ win0_5.index t 0 = t.val / 8 ∧ win0_5.index t 1 = t.val % 8 ∧ win0_6.index t 0 = t.val / 8 ∧ win0_6.index t 1 = 0 := by
  decide +kernel

/-- Where block `t` of the results lies. -/
theorem bound (t : Fin cfg0.N) : t.val / 8 * 512 + 512 ≤ 16384 ∧ t.val % 8 * 512 + 512 ≤ 4096 := by
  have : t.val < 256 := N_0 ▸ t.isLt
  omega

/-- The row of the results that block `t`'s row `r` is. -/
def row (t : Fin cfg0.N) (r : Fin 512) : Fin 16384 := place (t.val / 8) r (bound t).1
/-- The column of the results that block `t`'s column `q` is. -/
def col (t : Fin cfg0.N) (q : Fin 512) : Fin 4096 := place (t.val % 8) q (bound t).2

theorem emb4 (t : Fin cfg0.N) (r : Fin 512) (q : Fin 512) : (win0_4.rect t).emb (ix2 r q) = ix2 (row t r) (col t q) :=
  Shape.idx_ext₂ (emb_place win0_4 t _ 0 (out_facts t).1 rfl) (emb_place win0_4 t _ 1 (out_facts t).2.1 rfl)

theorem emb5 (t : Fin cfg0.N) (r : Fin 512) (q : Fin 512) : (win0_5.rect t).emb (ix2 r q) = ix2 (row t r) (col t q) :=
  Shape.idx_ext₂ (emb_place win0_5 t _ 0 (out_facts t).2.2.1 rfl) (emb_place win0_5 t _ 1 (out_facts t).2.2.2.1 rfl)

theorem emb6 (t : Fin cfg0.N) (r : Fin 512) (l : Fin 128) : (win0_6.rect t).emb (ix2 r l) = ix2 (row t r) l :=
  Shape.idx_ext₂ (emb_place win0_6 t _ 0 (out_facts t).2.2.2.2.1 rfl) ((emb_place win0_6 t _ 1 (out_facts t).2.2.2.2.2 rfl).trans (Nat.zero_add _))

/-- Block `t` of the rows to project. -/
theorem blk0 (c : Dev nD) (t : Fin cfg0.N) (r : Fin 512) (k : Fin 11008) :
    iblk m c 0 t (ix2 r k) = flat (m ((c : Thread nD τ).loc main_arg0)) (ix2 (row t r) k) :=
  (congrFun (V_rows m c) _).trans (congrArg (flat _) (Shape.idx_ext₂ (emb_place win0_0 t _ 0 (idx_facts t).1 rfl)
    ((emb_place win0_0 t _ 1 (idx_facts t).2.1 rfl).trans (Nat.zero_add _))))

/-- Block `t` of the weight. -/
theorem blk1 (c : Dev nD) (t : Fin cfg0.N) (k : Fin 11008) (q : Fin 512) :
    iblk m c 1 t (ix2 k q) = layer (m ((c : Thread nD τ).loc main_arg1)) (ix2 k (col t q)) :=
  (congrFun (V_weight m c) _).trans (congrArg (layer _) (Shape.idx_ext₂
    ((emb_place win0_1 t _ 0 (idx_facts t).2.2.1 rfl).trans (Nat.zero_add _)) (emb_place win0_1 t _ 1 (idx_facts t).2.2.2.1 rfl)))

/-- Block `t` of the rows to add to. -/
theorem blk2 (c : Dev nD) (t : Fin cfg0.N) (r : Fin 512) (q : Fin 512) :
    iblk m c 2 t (ix2 r q) = flat (m ((c : Thread nD τ).loc main_arg2)) (ix2 (row t r) (col t q)) :=
  (congrFun (V_base m c) _).trans (congrArg (flat _) (Shape.idx_ext₂ (emb_place win0_2 t _ 0 (idx_facts t).2.2.2.2.1 rfl)
    (emb_place win0_2 t _ 1 (idx_facts t).2.2.2.2.2.1 rfl)))

/-- Block `t` of the gain. -/
theorem blk3 (c : Dev nD) (t : Fin cfg0.N) (q : Fin 512) :
    iblk m c 3 t (ix2 0 q) = m ((c : Thread nD τ).loc main_arg3) (ix2 0 (col t q)) :=
  (congrFun (V_gain m c) _).trans (congrArg (m ((c : Thread nD τ).loc main_arg3)) (Shape.idx_ext₂ (emb_place win0_3 t _ 0 (idx_facts t).2.2.2.2.2.2.1 rfl)
    (emb_place win0_3 t _ 1 (idx_facts t).2.2.2.2.2.2.2 rfl)))

/-- The rows the program leaves, from the arguments. -/
abbrev rows (c : Dev nD) : FVec Ideal S16384x4096 .f32 :=
  resid (m ((c : Thread nD τ).loc main_arg0)) (m ((c : Thread nD τ).loc main_arg1)) (m ((c : Thread nD τ).loc main_arg2))

/-- What the body computes first, at one element. -/
theorem pay1 (c : Dev nD) (t : Fin cfg0.N) (r : Fin 512) (q : Fin 512) :
    k0_pay1 (iblk m c 0 t) (iblk m c 1 t) (iblk m c 2 t) (ix2 r q) = rows m c (ix2 (row t r) (col t q)) := by
  unfold k0_pay1
  simp only [shapeCast_self]
  exact tile_resid (iblk m c 0 t) (iblk m c 1 t) (iblk m c 2 t) _ _ _ r q (row t r) (col t q)
    (fun k => blk0 m c t r k) (fun k => blk1 m c t k q) (blk2 m c t r q)

/-- The block's rows times the gain, at one element. -/
theorem pay2 (c : Dev nD) (t : Fin cfg0.N) (r : Fin 512) (q : Fin 512) :
    k0_pay2 (iblk m c 0 t) (iblk m c 1 t) (iblk m c 2 t) (iblk m c 3 t) (ix2 r q)
      = gained (rows m c) (m ((c : Thread nD τ).loc main_arg3)) (ix2 (row t r) (col t q)) := by
  unfold k0_pay2
  simp only [shapeCast_self]
  exact mul_congr (pay1 m c t r q) ((broadcastTo_row (iblk m c 3 t) (by decide) _ r q).trans (blk3 m c t q))

/-- The block's sums of squares, at one element. -/
theorem pay3 (c : Dev nD) (t : Fin cfg0.N) (r : Fin 512) (l : Fin 128) :
    k0_pay3 (iblk m c 0 t) (iblk m c 1 t) (iblk m c 2 t) (ix2 r l)
      = ∑ q : Fin 512, sqAt (rows m c) (t.val / 8 * 512 + r.val) (t.val % 8 * 512 + q.val) := by
  unfold k0_pay3
  simp only [shapeCast_self]
  exact tile_squares _ (rows m c) _ _ _ _ _ _ (by decide) r l _ _ fun q =>
    (mul_congr (pay1 m c t r q) (pay1 m c t r q)).trans (sqAt_of_lt (rows m c) (row t r) (col t q)).symm

/-- What point `t` leaves in the first two results' buffers. -/
theorem outs45 (c : Dev nD) (t : Fin cfg0.N) :
    (outsAt0 m c t.val t.isLt).1 = k0_pay1 (iblk m c 0 t) (iblk m c 1 t) (iblk m c 2 t)
    ∧ (outsAt0 m c t.val t.isLt).2.1 = k0_pay2 (iblk m c 0 t) (iblk m c 1 t) (iblk m c 2 t) (iblk m c 3 t) := by
  by_cases h0 : t.val % 8 = 0
  · rw [outsAt0_A m c t h0 (by omega)]
    exact ⟨by frame_out, by frame_out⟩
  · rw [outsAt0_B m c t h0 (by omega)]
    exact ⟨by frame_out, by frame_out⟩

/-- At a row block's first point the third buffer holds the block's sums of squares. -/
theorem outs6_first (c : Dev nD) (t : Fin cfg0.N) (h0 : t.val % 8 = 0) :
    (outsAt0 m c t.val t.isLt).2.2 = k0_pay3 (iblk m c 0 t) (iblk m c 1 t) (iblk m c 2 t) := by
  rw [outsAt0_A m c t h0 (by omega)]
  frame_out

/-- At every later point it grows by the block's sums of squares. -/
theorem outs6_later (c : Dev nD) (t : Fin cfg0.N) (h0 : ¬t.val % 8 = 0) :
    (outsAt0 m c t.val t.isLt).2.2 = k0_pay4 (iblk m c 0 t) (iblk m c 1 t) (iblk m c 2 t)
      (outsAt0 m c (t.val - 1) (Nat.lt_of_le_of_lt (Nat.sub_le _ _) t.isLt)).2.2 := by
  rw [outsAt0_B m c t h0 (by omega)]
  frame_out

/-- What the last point of a row block leaves in the third buffer. -/
theorem outs6 (c : Dev nD) (t : Fin cfg0.N) (ht : t.val % 8 = 7) (r : Fin 512) (l : Fin 128) :
    (outsAt0 m c t.val t.isLt).2.2 (ix2 r l) = squares (rows m c) (ix2 (row t r) l) :=
  squares_of_steps (rows m c) (fun n h => (outsAt0 m c n h).2.2 (ix2 r l)) r
    (fun t h => (congrFun (outs6_first m c t h) _).trans (pay3 m c t r l))
    (fun t h => (congrFun (outs6_later m c t h) _).trans (by
      unfold k0_pay4
      simp only [shapeCast_self]
      exact add_congr rfl (pay3 m c t r l))) t ht (row t r) rfl l

/-- What point `t` writes back to the first result. -/
theorem flushed4 (c : Dev nD) (t : Fin cfg0.N) :
    (dats m 0 c).flushed 4 t = ((cfg0.win 4).blk t).view.read (Elt Ideal) (rows m c) := by
  rw [Value.flushed4, (outs45 m c t).1]
  funext y
  obtain ⟨r, q, rfl⟩ : ∃ (r : Fin 512) (q : Fin 512), y = ix2 r q := ⟨y 0, y 1, eq_ix2 y⟩
  exact (pay1 m c t r q).trans (congrArg (rows m c) (emb4 t r q)).symm

/-- What point `t` writes back to the second result. -/
theorem flushed5 (c : Dev nD) (t : Fin cfg0.N) :
    (dats m 0 c).flushed 5 t = ((cfg0.win 5).blk t).view.read (Elt Ideal) (gained (rows m c) (m ((c : Thread nD τ).loc main_arg3))) := by
  rw [Value.flushed5, (outs45 m c t).2]
  funext y
  obtain ⟨r, q, rfl⟩ : ∃ (r : Fin 512) (q : Fin 512), y = ix2 r q := ⟨y 0, y 1, eq_ix2 y⟩
  exact (pay2 m c t r q).trans (congrArg (gained (rows m c) (m ((c : Thread nD τ).loc main_arg3))) (emb5 t r q)).symm

/-- What a row block's last point writes back to the third result. -/
theorem flushed6 (c : Dev nD) (t : Fin cfg0.N) (ht : t.val % 8 = 7) :
    (dats m 0 c).flushed 6 t = ((cfg0.win 6).blk t).view.read (Elt Ideal) (squares (rows m c)) := by
  rw [Value.flushed6]
  funext y
  obtain ⟨r, l, rfl⟩ : ∃ (r : Fin 512) (l : Fin 128), y = ix2 r l := ⟨y 0, y 1, eq_ix2 y⟩
  exact (outs6 m c t ht r l).trans (congrArg (squares (rows m c)) (emb6 t r l)).symm

theorem final4 (c : Dev nD) : (dats m 0 c).arrAt 4 cfg0.N = rows m c :=
  (dats m 0 c).arrAt_eq_of_cover 4 _ (fun t _ => flushed4 m c t)
    (Pipeline.Window.Covers.cover _ (by decide +kernel) (Memref.isWhole_whole _))

theorem final5 (c : Dev nD) : (dats m 0 c).arrAt 5 cfg0.N = gained (rows m c) (m ((c : Thread nD τ).loc main_arg3)) :=
  (dats m 0 c).arrAt_eq_of_cover 5 _ (fun t _ => flushed5 m c t)
    (Pipeline.Window.Covers.cover _ (by decide +kernel) (Memref.isWhole_whole _))

theorem final6 (c : Dev nD) : (dats m 0 c).arrAt 6 cfg0.N = squares (rows m c) :=
  (dats m 0 c).arrAt_eq_of_cover 6 _ (fun t hf => flushed6 m c t ((flush0_6 t).mp hf))
    (Pipeline.Window.Covers.cover _ (by decide +kernel) (Memref.isWhole_whole _))

/-- The kernel and the reference leave the same three results. -/
theorem algebraic : Cert.algebraic_DownIdeal_DownRefIdeal := by
  intro m ρ m' ρ' _ hagree
  refine ⟨fun c => rows m c, fun c => gained (rows m c) (m ((c : Thread nD τ).loc main_arg3)), fun c => squares (rows m c), ?_, ?_⟩
  · exact (θ_run Cert.DownIdeal.defs _ _).mono (fun _ h c => ⟨(h c).1.trans (final4 m c), (h c).2.1.trans (final5 m c),
      (h c).2.2.1.trans (final6 m c), (h c).2.2.2⟩) (Value.run_blocks m ρ)
  · refine (θ_run Cert.DownRefIdeal.defs _ _).mono (fun _ h c => ⟨(h c).1.trans ?_, (h c).2.1.trans ?_, (h c).2.2.1.trans ?_, (h c).2.2.2⟩)
      (Cert.DownRefIdeal.Value.run (F := Ideal) m' ρ') <;> rw [(hagree c).1, (hagree c).2.1, (hagree c).2.2.1]
    · exact (Cert.DownRefIdeal.Read.val_main_v7_eq (F := Ideal) _ _ _).trans (ref_eq _ _ _)
    · rw [(hagree c).2.2.2]
      exact (Cert.DownRefIdeal.Read.val_main_v13_eq (F := Ideal) _ _ _ _).trans (ref_gained _ _ _ _)
    · exact (Cert.DownRefIdeal.Read.val_main_v14_eq (F := Ideal) _ _ _).trans (ref_squares _ _ _)

end Cert.Calls.Down

end
-- ==== Proof.Calls.PlePoint.lean ====
/-
  The last call's grid point, written out: the column strip that it computes, the sums of squares of the strip's
  rows, and the whole rows once they are scaled. These are values only; the runs that leave them are in PleRun.
-/
module

public import proofs.«01_k».proof.Proof.Gen.PleIdeal.Frame
public import proofs.«01_k».proof.Proof.Gen.PleIdeal.Skeleton
public import proofs.«01_k».proof.Proof.Calls.Common
public import Idealize.ShloMosaic.Lib.Pipeline.FrameBody
public import Idealize.ShloMosaic.Lib.VecWindow
public import Idealize.ShloMosaic.Lib.Ring

@[expose] public section

set_option maxRecDepth 16384

noncomputable section

namespace Cert.Calls.Ple

open Cert.PleIdeal Cert.PleIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- The first lane of every row. -/
def lane0 (s : Vec F S512x128 .f32) : Vec F S512x1 .f32 := View.ld s (Rect.unit (s := S512x128) ![0, 0] S512x1.size inb_S512x128_S512x1_0_0)

/-- The column strip that a point computes from its blocks. -/
def strip (x0 : Vec F S512x4096 .bf16) (x1 : Vec F S512x256 .f32) (x2 : Vec F S4096x1024 .bf16) (x3 : Vec F S256x1024 .bf16)
    (x4 : Vec F S512x1024 .f32) (x5 : Vec F S512x128 .f32) : Vec F S512x1024 .f32 := k0_pay42 x0 x2 x1 x3 (lane0 x5) x4

/-- The sums of squares of the strip's rows, on every lane. -/
def sums (x0 : Vec F S512x4096 .bf16) (x1 : Vec F S512x256 .f32) (x2 : Vec F S4096x1024 .bf16) (x3 : Vec F S256x1024 .bf16)
    (x4 : Vec F S512x1024 .f32) (x5 : Vec F S512x128 .f32) : Vec F S512x128 .f32 := k0_pay43 x0 x2 x1 x3 (lane0 x5) x4

/-- The block of rows with the point's strip put in. -/
def filled (i : grid0.Coords) (A : Vec F S512x4096 .f32) (w : Vec F S512x1024 .f32) : Vec F S512x4096 .f32 :=
  VecWindow.put (s := S512x4096) A (k0_off1 i) S512x1024.size w

/-- One element of the rows, scaled by its row's scale and times its column's gain. -/
def scaled (r : FVec F S512x1 .f32) (g : Vec F S1x4096 .f32) (a : F .f32) (y : S512x4096.Idx) : F .f32 :=
  FloatOps.mulf (FloatOps.mulf a (r (ix2 (y 0) 0))) (g (ix2 0 (y 1)))

/-- The rows, scaled by the reciprocal root mean square that their sums of squares give. -/
def finished (A : Vec F S512x4096 .f32) (s : Vec F S512x128 .f32) (g : Vec F S1x4096 .f32) : Vec F S512x4096 .f32 :=
  fun y => scaled (k0_pay6 (lane0 s)) g (A y) y

/-- A strip computed from what is loaded of whole buffers. -/
theorem strip_loads (arg2 : Memref sig .tc .vmem S512x4096 .bf16) (harg2 : arg2.IsWhole) (arg3 : Memref sig .tc .vmem S512x256 .f32) (harg3 : arg3.IsWhole)
    (arg4 : Memref sig .tc .vmem S4096x1024 .bf16) (harg4 : arg4.IsWhole) (arg5 : Memref sig .tc .vmem S256x1024 .bf16) (harg5 : arg5.IsWhole)
    (arg6 : Memref sig .tc .vmem S512x1024 .f32) (harg6 : arg6.IsWhole) (arg7 : Memref sig .tc .vmem S512x128 .f32) (harg7 : arg7.IsWhole)
    (x0 : Vec F S512x4096 .bf16) (x1 : Vec F S512x256 .f32) (x2 : Vec F S4096x1024 .bf16) (x3 : Vec F S256x1024 .bf16)
    (x4 : Vec F S512x1024 .f32) (x5 : Vec F S512x128 .f32) :
    (k0_pay42 (View.readAt (Elt F) arg2.view (Rect.unit ![0, 0] S512x4096.size inb_S512x4096_S512x4096_0_0).toLoadRect (harg2.unread x0))
      (View.readAt (Elt F) arg4.view (Rect.unit ![0, 0] S4096x1024.size inb_S4096x1024_S4096x1024_0_0).toLoadRect (harg4.unread x2))
      (View.readAt (Elt F) arg3.view (Rect.unit ![0, 0] S512x256.size inb_S512x256_S512x256_0_0).toLoadRect (harg3.unread x1))
      (View.readAt (Elt F) arg5.view (Rect.unit ![0, 0] S256x1024.size inb_S256x1024_S256x1024_0_0).toLoadRect (harg5.unread x3))
      (View.readAt (Elt F) arg7.view (Rect.unit (s := S512x128) ![0, 0] S512x1.size inb_S512x128_S512x1_0_0).toLoadRect (harg7.unread x5))
      (View.readAt (Elt F) arg6.view (Rect.unit ![0, 0] S512x1024.size inb_S512x1024_S512x1024_0_0).toLoadRect (harg6.unread x4)))
    = strip x0 x1 x2 x3 x4 x5 := by
  unfold strip lane0
  rw [View.readAt_full, View.readAt_full, View.readAt_full, View.readAt_full, View.readAt_full, View.readAt_eq_ld,
    harg2.read_unread, harg3.read_unread, harg4.read_unread, harg5.read_unread, harg6.read_unread, harg7.read_unread]

/-- The strip's sums of squares, computed from what is loaded of whole buffers. -/
theorem sums_loads (arg2 : Memref sig .tc .vmem S512x4096 .bf16) (harg2 : arg2.IsWhole) (arg3 : Memref sig .tc .vmem S512x256 .f32) (harg3 : arg3.IsWhole)
    (arg4 : Memref sig .tc .vmem S4096x1024 .bf16) (harg4 : arg4.IsWhole) (arg5 : Memref sig .tc .vmem S256x1024 .bf16) (harg5 : arg5.IsWhole)
    (arg6 : Memref sig .tc .vmem S512x1024 .f32) (harg6 : arg6.IsWhole) (arg7 : Memref sig .tc .vmem S512x128 .f32) (harg7 : arg7.IsWhole)
    (x0 : Vec F S512x4096 .bf16) (x1 : Vec F S512x256 .f32) (x2 : Vec F S4096x1024 .bf16) (x3 : Vec F S256x1024 .bf16)
    (x4 : Vec F S512x1024 .f32) (x5 : Vec F S512x128 .f32) :
    (k0_pay43 (View.readAt (Elt F) arg2.view (Rect.unit ![0, 0] S512x4096.size inb_S512x4096_S512x4096_0_0).toLoadRect (harg2.unread x0))
      (View.readAt (Elt F) arg4.view (Rect.unit ![0, 0] S4096x1024.size inb_S4096x1024_S4096x1024_0_0).toLoadRect (harg4.unread x2))
      (View.readAt (Elt F) arg3.view (Rect.unit ![0, 0] S512x256.size inb_S512x256_S512x256_0_0).toLoadRect (harg3.unread x1))
      (View.readAt (Elt F) arg5.view (Rect.unit ![0, 0] S256x1024.size inb_S256x1024_S256x1024_0_0).toLoadRect (harg5.unread x3))
      (View.readAt (Elt F) arg7.view (Rect.unit (s := S512x128) ![0, 0] S512x1.size inb_S512x128_S512x1_0_0).toLoadRect (harg7.unread x5))
      (View.readAt (Elt F) arg6.view (Rect.unit ![0, 0] S512x1024.size inb_S512x1024_S512x1024_0_0).toLoadRect (harg6.unread x4)))
    = sums x0 x1 x2 x3 x4 x5 := by
  unfold sums lane0
  rw [View.readAt_full, View.readAt_full, View.readAt_full, View.readAt_full, View.readAt_full, View.readAt_eq_ld,
    harg2.read_unread, harg3.read_unread, harg4.read_unread, harg5.read_unread, harg6.read_unread, harg7.read_unread]

/-- One chunk of 128 columns of the rows, scaled, at one element. -/
theorem chunk_apply (r : FVec F S512x1 .f32) (v : Vec F S512x128 .f32) (g : Vec F S1x128 .f32) (p : Fin 512) (q : Fin 128) :
    k0_pay5 r v g (ix2 p q) = FloatOps.mulf (FloatOps.mulf (v (ix2 p q)) (r (ix2 p 0))) (g (ix2 0 q)) := by
  unfold k0_pay5
  simp only [shapeCast_self]
  exact congrArg₂ FloatOps.mulf (congrArg (FloatOps.mulf (v (ix2 p q))) (broadcastTo_col r (by decide) _ p q)) (broadcastTo_row g (by decide) _ p q)

/-- The first `k` chunks of the rows are scaled, the others are as `A` has them. -/
def Upto (v : View sig .tc .vmem S512x4096 .f32) (f : v.ty.Contents (Elt F)) (r : FVec F S512x1 .f32) (g : Vec F S1x4096 .f32) (A : Vec F S512x4096 .f32)
    (L : List (View.Piece (Elt F) S512x4096 .f32)) (k : ℕ) : Prop :=
  ∀ y, v.read (Elt F) (v.writes (Elt F) f L) y = if (y 1).val < 128 * k then scaled r g (A y) y else A y

/-- Scaling the next chunk in place, from what is loaded of it. -/
theorem Upto.step {v : View sig .tc .vmem S512x4096 .f32} {f : v.ty.Contents (Elt F)} {r : FVec F S512x1 .f32} {g : Vec F S1x4096 .f32}
    {A : Vec F S512x4096 .f32} {L : List (View.Piece (Elt F) S512x4096 .f32)} {k : ℕ} (o : ℕ) (h : Upto v f r g A L k)
    (arg8 : Memref sig .tc .vmem S1x4096 .f32) (harg8 : arg8.IsWhole) (inb : ∀ a : Fin 2, (![0, o] : Fin 2 → ℕ) a + S512x128.size a ≤ S512x4096.size a)
    (inb' : ∀ a : Fin 2, (![0, o] : Fin 2 → ℕ) a + S1x128.size a ≤ S1x4096.size a) (ho : o = 128 * k) (w : Vec F S512x128 .f32)
    (hw : w = k0_pay5 r (v.readAt (Elt F) (Rect.unit (s := S512x4096) ![0, o] S512x128.size inb).toLoadRect (v.writes (Elt F) f L))
      (arg8.view.readAt (Elt F) (Rect.unit (s := S1x4096) ![0, o] S1x128.size inb').toLoadRect (harg8.unread g))) :
    Upto v f r g A (⟨Rect.unit (s := S512x4096) ![0, o] S512x128.size inb, w⟩ :: L) (k + 1) := by
  intro y
  subst hw
  rw [View.read_writes_cons_unit v f inb _ L y rfl]
  by_cases hy : 128 * k ≤ (y 1).val ∧ (y 1).val < 128 * k + 128
  · have h0 : (y 0).val < 512 := (y 0).isLt
    have hm : ∀ a : Fin 2, (![0, o] : Fin 2 → ℕ) a ≤ (y a).val ∧ (y a).val < (![0, o] : Fin 2 → ℕ) a + S512x128.size a := fun a => match a with
      | ⟨0, _⟩ => ⟨Nat.zero_le _, show (y 0).val < 0 + 512 by omega⟩
      | ⟨1, _⟩ => ⟨show o ≤ (y 1).val by omega, show (y 1).val < o + 128 by omega⟩
    rw [dif_pos hm, if_pos (show (y 1).val < 128 * (k + 1) by omega)]
    have e : (Rect.unit (s := S512x4096) ![0, o] S512x128.size inb).emb (Rect.unitLocal (s := S512x4096) (off := ![0, o]) (size := S512x128.size) y hm) = y :=
      funext fun a => Fin.ext (by
        show (![0, o] : Fin 2 → ℕ) a + 1 * ((y a).val - (![0, o] : Fin 2 → ℕ) a) = (y a).val
        have := hm a
        omega)
    have e2 := eq_ix2 (show S512x128.Idx from Rect.unitLocal (s := S512x4096) (off := ![0, o]) (size := S512x128.size) y hm)
    refine (congrArg _ e2).trans ((chunk_apply r _ _ _ _).trans ?_)
    refine congrArg₂ FloatOps.mulf (congrArg₂ FloatOps.mulf ?_ (congrArg r ?_)) ?_
    · refine (congrArg (View.readAt (Elt F) v _ _) e2.symm).trans ?_
      refine (congrArg (v.read (Elt F) (v.writes (Elt F) f L)) e).trans ((h y).trans ?_)
      rw [if_neg (by omega)]
    · exact Shape.idx_ext₂ (Nat.sub_zero _) rfl
    · refine (congrFun (harg8.read_unread g) _).trans (congrArg g ?_)
      exact Shape.idx_ext₂ rfl (show o + 1 * ((y 1).val - o) = (y 1).val by omega)
  · have hm : ¬ ∀ a : Fin 2, (![0, o] : Fin 2 → ℕ) a ≤ (y a).val ∧ (y a).val < (![0, o] : Fin 2 → ℕ) a + S512x128.size a := fun hm =>
      hy (by
        have h1 : o ≤ (y 1).val ∧ (y 1).val < o + 128 := hm 1
        omega)
    rw [dif_neg hm, h y]
    by_cases hk : (y 1).val < 128 * k
    · rw [if_pos hk, if_pos (by omega)]
    · rw [if_neg hk, if_neg (by omega)]

/-- Before the first chunk the rows are what the strip was put into. -/
theorem Upto.zero {v : View sig .tc .vmem S512x4096 .f32} {f : v.ty.Contents (Elt F)} {r : FVec F S512x1 .f32} {g : Vec F S1x4096 .f32}
    (i : grid0.Coords) {inb : ∀ a, k0_off1 i a + S512x1024.size a ≤ S512x4096.size a} {w w' : Vec F S512x1024 .f32} (hw : w = w') :
    Upto v f r g (filled i (v.read (Elt F) f) w') [⟨Rect.unit (s := S512x4096) (k0_off1 i) S512x1024.size inb, w⟩] 0 := by
  intro y
  subst hw
  rw [if_neg (by omega), View.read_writes_cons_put v f inb w [] rfl]
  rfl

/-- After the last chunk all rows are scaled. -/
theorem Upto.all {v : View sig .tc .vmem S512x4096 .f32} {f : v.ty.Contents (Elt F)} {r : FVec F S512x1 .f32} {g : Vec F S1x4096 .f32}
    {A A' : Vec F S512x4096 .f32} {s : Vec F S512x128 .f32} {L : List (View.Piece (Elt F) S512x4096 .f32)} (hr : r = k0_pay6 (lane0 s)) (hA : A = A')
    (h : Upto v f r g A L 32) : v.read (Elt F) (v.writes (Elt F) f L) = finished A' s g := by
  subst hr hA
  funext y
  have : (y 1).val < 4096 := (y 1).isLt
  exact (h y).trans (if_pos (by omega))

/-- The rows' scales, computed from what is loaded back of the row sums. -/
theorem scale_loads (arg2 : Memref sig .tc .vmem S512x4096 .bf16) (harg2 : arg2.IsWhole) (arg3 : Memref sig .tc .vmem S512x256 .f32) (harg3 : arg3.IsWhole)
    (arg4 : Memref sig .tc .vmem S4096x1024 .bf16) (harg4 : arg4.IsWhole) (arg5 : Memref sig .tc .vmem S256x1024 .bf16) (harg5 : arg5.IsWhole)
    (arg6 : Memref sig .tc .vmem S512x1024 .f32) (harg6 : arg6.IsWhole) (arg7 : Memref sig .tc .vmem S512x128 .f32) (harg7 : arg7.IsWhole)
    (arg10 : Memref sig .tc .vmem S512x128 .f32) (harg10 : arg10.IsWhole)
    (x0 : Vec F S512x4096 .bf16) (x1 : Vec F S512x256 .f32) (x2 : Vec F S4096x1024 .bf16) (x3 : Vec F S256x1024 .bf16)
    (x4 : Vec F S512x1024 .f32) (x5 : Vec F S512x128 .f32) (s : Vec F S512x128 .f32) :
    k0_pay6 (arg10.view.readCov [⟨Rect.unit (s := S512x128) ![0, 0] S512x128.size inb_S512x128_S512x128_0_0, k0_pay2
      (k0_pay43 (View.readAt (Elt F) arg2.view (Rect.unit ![0, 0] S512x4096.size inb_S512x4096_S512x4096_0_0).toLoadRect (harg2.unread x0))
        (View.readAt (Elt F) arg4.view (Rect.unit ![0, 0] S4096x1024.size inb_S4096x1024_S4096x1024_0_0).toLoadRect (harg4.unread x2))
        (View.readAt (Elt F) arg3.view (Rect.unit ![0, 0] S512x256.size inb_S512x256_S512x256_0_0).toLoadRect (harg3.unread x1))
        (View.readAt (Elt F) arg5.view (Rect.unit ![0, 0] S256x1024.size inb_S256x1024_S256x1024_0_0).toLoadRect (harg5.unread x3))
        (View.readAt (Elt F) arg7.view (Rect.unit (s := S512x128) ![0, 0] S512x1.size inb_S512x128_S512x1_0_0).toLoadRect (harg7.unread x5))
        (View.readAt (Elt F) arg6.view (Rect.unit ![0, 0] S512x1024.size inb_S512x1024_S512x1024_0_0).toLoadRect (harg6.unread x4)))
      (View.readAt (Elt F) arg10.view (Rect.unit ![0, 0] S512x128.size inb_S512x128_S512x128_0_0).toLoadRect (harg10.unread s))⟩]
      (Rect.unit (s := S512x128) ![0, 0] S512x1.size inb_S512x128_S512x1_0_0).toLoadRect)
    = k0_pay6 (lane0 (k0_pay2 (sums x0 x1 x2 x3 x4 x5) s)) := by
  refine congrArg k0_pay6 ((View.readAt_eq_ld arg10.view _ _).trans (congrArg (fun x => View.ld x _) ?_))
  refine (View.read_writes_full arg10.view _ _ _ _).trans ?_
  exact congrArg₂ k0_pay2 (sums_loads arg2 harg2 arg3 harg3 arg4 harg4 arg5 harg5 arg6 harg6 arg7 harg7 x0 x1 x2 x3 x4 x5)
    ((View.readAt_full arg10.view _ _).trans (harg10.read_unread s))

end Cert.Calls.Ple

end
-- ==== Proof.Calls.PleRun.lean ====
/-
  The last call's body run: what a grid point leaves in the output block and in the row sums, from what it finds
  there. The first strip of a block of rows starts the row sums, a later one adds to them, and the last one scales
  the whole rows.
-/
module

public import proofs.«01_k».proof.Proof.Gen.PleIdeal.Points
public import proofs.«01_k».proof.Proof.Calls.PlePoint
public import Idealize.ShloMosaic.Lib.Tactic
public import Idealize.ShloMosaic.Lib.WholeRead

@[expose] public section

set_option maxRecDepth 16384

noncomputable section

namespace Cert.Calls.Ple

open Cert.PleIdeal Cert.PleIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- The grid point is the first column strip of its rows. -/
abbrev isFirst (i : grid0.Coords) : Prop := Scalar.cmpi .ne (Scalar.extui (Scalar.cmpi .eq (BitVec.ofNat 32 (i 1).val) 0#32) : BitVec 32) 0#32 = 1#1
/-- The grid point is a later column strip. -/
abbrev isLater (i : grid0.Coords) : Prop := Scalar.cmpi .ne (Scalar.extui (Scalar.cmpi .ne (BitVec.ofNat 32 (i 1).val) 0#32) : BitVec 32) 0#32 = 1#1
/-- The grid point is the last column strip. -/
abbrev isLast (i : grid0.Coords) : Prop := Scalar.cmpi .ne (Scalar.extui (Scalar.cmpi .eq (BitVec.ofNat 32 (i 1).val) 3#32) : BitVec 32) 0#32 = 1#1

set_option maxHeartbeats 1000000 in
/-- A block of rows' first strip: the strip is put into the block, and its sums of squares start the row sums. -/
theorem run_first (c : Dev nD) (i : grid0.Coords)
    (arg2 : Memref sig .tc .vmem S512x4096 .bf16) (harg2 : arg2.IsWhole) (arg3 : Memref sig .tc .vmem S512x256 .f32) (harg3 : arg3.IsWhole) (arg4 : Memref sig .tc .vmem S4096x1024 .bf16) (harg4 : arg4.IsWhole)
    (arg5 : Memref sig .tc .vmem S256x1024 .bf16) (harg5 : arg5.IsWhole) (arg6 : Memref sig .tc .vmem S512x1024 .f32) (harg6 : arg6.IsWhole) (arg7 : Memref sig .tc .vmem S512x128 .f32) (harg7 : arg7.IsWhole)
    (arg8 : Memref sig .tc .vmem S1x4096 .f32) (harg8 : arg8.IsWhole) (arg9 : Memref sig .tc .vmem S512x4096 .f32) (harg9 : arg9.IsWhole) (arg10 : Memref sig .tc .vmem S512x128 .f32) (harg10 : arg10.IsWhole)
    (hc0 : isFirst i) (hc1 : ¬isLater i) (hc2 : ¬isLast i)
    (x0 : Vec F S512x4096 .bf16) (x1 : Vec F S512x256 .f32) (x2 : Vec F S4096x1024 .bf16) (x3 : Vec F S256x1024 .bf16) (x4 : Vec F S512x1024 .f32) (x5 : Vec F S512x128 .f32) (x6 : Vec F S1x4096 .f32) (x7 : Vec F S512x4096 .f32) (s : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (filled i x7 (strip x0 x1 x2 x3 x4 x5))
            ∗ owns (c : Thread nD τ) arg10 fullShare (k0_pay1 (sums x0 x1 x2 x3 x4 x5))) -∗ K ⟨⟩))
      ⊢ wp frame (wpE (defs₀ (F := F)) Variants.none c none) E (cc0_ple i arg2 harg2 arg3 harg3 arg4 harg4 arg5 harg5 arg6 harg6 arg7 harg7 arg8 harg8 arg9 harg9 arg10 harg10) K := by
  simp only [cc0_ple_eq_skeleton]; unfold cc0_ple_skel
  simp only [k0_part9_eq_skeleton]; unfold k0_part9_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7; obtain rfl := harg10.eq_unread hfs
  sl_exec (disch := first | sl_exact hc0 | sl_exact hc1 | sl_exact hc2)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    swap
    · iexact H7
    · ipureintro
      refine (View.read_writes_cons_put arg9.view _ _ _ [] rfl).trans ?_
      exact congrArg₂ (fun A w => VecWindow.put (s := S512x4096) A (k0_off1 i) S512x1024.size w) hf7 (strip_loads arg2 harg2 arg3 harg3 arg4 harg4 arg5 harg5 arg6 harg6 arg7 harg7 x0 x1 x2 x3 x4 x5)
  · iexists _; isplitr
    swap
    · iexact HS
    · ipureintro
      refine (View.read_writes_full arg10.view _ _ _ _).trans ?_
      exact congrArg k0_pay1 (sums_loads arg2 harg2 arg3 harg3 arg4 harg4 arg5 harg5 arg6 harg6 arg7 harg7 x0 x1 x2 x3 x4 x5)

set_option maxHeartbeats 1000000 in
/-- A strip between the first and the last: the strip is put into the block, and its sums of squares are added to the row sums. -/
theorem run_middle (c : Dev nD) (i : grid0.Coords)
    (arg2 : Memref sig .tc .vmem S512x4096 .bf16) (harg2 : arg2.IsWhole) (arg3 : Memref sig .tc .vmem S512x256 .f32) (harg3 : arg3.IsWhole) (arg4 : Memref sig .tc .vmem S4096x1024 .bf16) (harg4 : arg4.IsWhole)
    (arg5 : Memref sig .tc .vmem S256x1024 .bf16) (harg5 : arg5.IsWhole) (arg6 : Memref sig .tc .vmem S512x1024 .f32) (harg6 : arg6.IsWhole) (arg7 : Memref sig .tc .vmem S512x128 .f32) (harg7 : arg7.IsWhole)
    (arg8 : Memref sig .tc .vmem S1x4096 .f32) (harg8 : arg8.IsWhole) (arg9 : Memref sig .tc .vmem S512x4096 .f32) (harg9 : arg9.IsWhole) (arg10 : Memref sig .tc .vmem S512x128 .f32) (harg10 : arg10.IsWhole)
    (hc0 : ¬isFirst i) (hc1 : isLater i) (hc2 : ¬isLast i)
    (x0 : Vec F S512x4096 .bf16) (x1 : Vec F S512x256 .f32) (x2 : Vec F S4096x1024 .bf16) (x3 : Vec F S256x1024 .bf16) (x4 : Vec F S512x1024 .f32) (x5 : Vec F S512x128 .f32) (x6 : Vec F S1x4096 .f32) (x7 : Vec F S512x4096 .f32) (s : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (filled i x7 (strip x0 x1 x2 x3 x4 x5))
            ∗ owns (c : Thread nD τ) arg10 fullShare (k0_pay2 (sums x0 x1 x2 x3 x4 x5) s)) -∗ K ⟨⟩))
      ⊢ wp frame (wpE (defs₀ (F := F)) Variants.none c none) E (cc0_ple i arg2 harg2 arg3 harg3 arg4 harg4 arg5 harg5 arg6 harg6 arg7 harg7 arg8 harg8 arg9 harg9 arg10 harg10) K := by
  simp only [cc0_ple_eq_skeleton]; unfold cc0_ple_skel
  simp only [k0_part9_eq_skeleton]; unfold k0_part9_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7; obtain rfl := harg10.eq_unread hfs
  sl_exec (disch := first | sl_exact hc0 | sl_exact hc1 | sl_exact hc2)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    swap
    · iexact H7
    · ipureintro
      refine (View.read_writes_cons_put arg9.view _ _ _ [] rfl).trans ?_
      exact congrArg₂ (fun A w => VecWindow.put (s := S512x4096) A (k0_off1 i) S512x1024.size w) hf7 (strip_loads arg2 harg2 arg3 harg3 arg4 harg4 arg5 harg5 arg6 harg6 arg7 harg7 x0 x1 x2 x3 x4 x5)
  · iexists _; isplitr
    swap
    · iexact HS
    · ipureintro
      refine (View.read_writes_full arg10.view _ _ _ _).trans ?_
      exact congrArg₂ k0_pay2 (sums_loads arg2 harg2 arg3 harg3 arg4 harg4 arg5 harg5 arg6 harg6 arg7 harg7 x0 x1 x2 x3 x4 x5) ((View.readAt_full arg10.view _ _).trans hfs)

end Cert.Calls.Ple

end
-- ==== Proof.Calls.PleLast.lean ====
/-
  The last call's body run: what a grid point leaves in the output block and in the row sums, from what it finds
  there. The first strip of a block of rows starts the row sums, a later one adds to them, and the last one scales
  the whole rows.
-/
module

public import proofs.«01_k».proof.Proof.Gen.PleIdeal.Points
public import proofs.«01_k».proof.Proof.Calls.PleRun
public import Idealize.ShloMosaic.Lib.Tactic
public import Idealize.ShloMosaic.Lib.WholeRead

@[expose] public section

set_option maxRecDepth 16384

noncomputable section

namespace Cert.Calls.Ple

open Cert.PleIdeal Cert.PleIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

set_option maxHeartbeats 1000000 in
/-- The last strip: as a later one, and then all the rows are scaled by what the row sums give. -/
theorem run_last (c : Dev nD) (i : grid0.Coords)
    (arg2 : Memref sig .tc .vmem S512x4096 .bf16) (harg2 : arg2.IsWhole) (arg3 : Memref sig .tc .vmem S512x256 .f32) (harg3 : arg3.IsWhole) (arg4 : Memref sig .tc .vmem S4096x1024 .bf16) (harg4 : arg4.IsWhole)
    (arg5 : Memref sig .tc .vmem S256x1024 .bf16) (harg5 : arg5.IsWhole) (arg6 : Memref sig .tc .vmem S512x1024 .f32) (harg6 : arg6.IsWhole) (arg7 : Memref sig .tc .vmem S512x128 .f32) (harg7 : arg7.IsWhole)
    (arg8 : Memref sig .tc .vmem S1x4096 .f32) (harg8 : arg8.IsWhole) (arg9 : Memref sig .tc .vmem S512x4096 .f32) (harg9 : arg9.IsWhole) (arg10 : Memref sig .tc .vmem S512x128 .f32) (harg10 : arg10.IsWhole)
    (hc0 : ¬isFirst i) (hc1 : isLater i) (hc2 : isLast i)
    (x0 : Vec F S512x4096 .bf16) (x1 : Vec F S512x256 .f32) (x2 : Vec F S4096x1024 .bf16) (x3 : Vec F S256x1024 .bf16) (x4 : Vec F S512x1024 .f32) (x5 : Vec F S512x128 .f32) (x6 : Vec F S1x4096 .f32) (x7 : Vec F S512x4096 .f32) (s : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (finished (filled i x7 (strip x0 x1 x2 x3 x4 x5)) (k0_pay2 (sums x0 x1 x2 x3 x4 x5) s) x6)
            ∗ owns (c : Thread nD τ) arg10 fullShare (k0_pay2 (sums x0 x1 x2 x3 x4 x5) s)) -∗ K ⟨⟩))
      ⊢ wp frame (wpE (defs₀ (F := F)) Variants.none c none) E (cc0_ple i arg2 harg2 arg3 harg3 arg4 harg4 arg5 harg5 arg6 harg6 arg7 harg7 arg8 harg8 arg9 harg9 arg10 harg10) K := by
  simp only [cc0_ple_eq_skeleton]; unfold cc0_ple_skel
  simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]; unfold k0_part9_skel k0_part1_skel k0_part2_skel k0_part3_skel k0_part4_skel k0_part5_skel k0_part6_skel k0_part7_skel k0_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7; obtain rfl := harg10.eq_unread hfs
  sl_exec (disch := first | sl_exact hc0 | sl_exact hc1 | sl_exact hc2)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    · ipureintro; exact hf5
    · iexact H5
  isplitl [H6]
  · iexists _; isplitr
    · ipureintro; exact hf6
    · iexact H6
  isplitl [H7]
  · iexists _; isplitr
    swap
    · iexact H7
    · ipureintro
      refine Upto.all (scale_loads arg2 harg2 arg3 harg3 arg4 harg4 arg5 harg5 arg6 harg6 arg7 harg7 arg10 harg10 x0 x1 x2 x3 x4 x5 s)
        (congrArg (fun A => filled i A (strip x0 x1 x2 x3 x4 x5)) hf7) ?_
      repeat refine Upto.step _ ?_ arg8 harg8 _ (by decide) (by rfl) _ (by rfl)
      exact Upto.zero i (strip_loads arg2 harg2 arg3 harg3 arg4 harg4 arg5 harg5 arg6 harg6 arg7 harg7 x0 x1 x2 x3 x4 x5)
  · iexists _; isplitr
    swap
    · iexact HS
    · ipureintro
      refine (View.read_writes_full arg10.view _ _ _ _).trans ?_
      exact congrArg₂ k0_pay2 (sums_loads arg2 harg2 arg3 harg3 arg4 harg4 arg5 harg5 arg6 harg6 arg7 harg7 x0 x1 x2 x3 x4 x5) ((View.readAt_full arg10.view _ _).trans hfs)

end Cert.Calls.Ple

end
-- ==== Proof.Calls.PleFrame.lean ====
/-
  The last call run whole: what the output block and the row sums hold after every grid point, the body at a generic
  point, and the run of the program from any memory. Each block of 512 rows takes four points, one per column strip of
  1024; the output block holds the strips computed so far, and after the fourth the rows scaled.
-/
module

public import proofs.«01_k».proof.Proof.Calls.PleLast
public import proofs.«01_k».proof.Proof.Gen.PleIdeal.Launch
public import Idealize.ShloMosaic.Lib.Pipeline.DatRel
public import Idealize.ShloMosaic.Lib.Pipeline.ArrRel
public import Idealize.ShloMosaic.Lib.WordCmp

@[expose] public section

set_option maxRecDepth 16384

noncomputable section

namespace Cert.Calls.Ple

open Cert.PleIdeal Cert.PleIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem lt_128 (t : Fin cfg0.N) : t.val < 128 := lt_of_lt_of_eq t.isLt (show cfg0.N = 128 from N_0)

/-- The column strip of point `t`. -/
theorem coord_one (t : Fin cfg0.N) : (grid0.coords t 1).val = t.val % 4 := by
  have e : (grid0.coords t 1).val = t.val / 1 % 4 := Pipeline.Grid.coords_val t 1 (by decide) rfl
  rw [e, Nat.div_one]

theorem first_iff (t : Fin cfg0.N) : isFirst (grid0.coords t) ↔ t.val % 4 = 0 := by
  have e := coord_one t
  have h : t.val % 4 < 4 := Nat.mod_lt _ (by decide)
  simp only [isFirst, e]
  generalize t.val % 4 = j at h
  interval_cases j <;> decide

theorem later_iff (t : Fin cfg0.N) : isLater (grid0.coords t) ↔ ¬t.val % 4 = 0 := by
  have e := coord_one t
  have h : t.val % 4 < 4 := Nat.mod_lt _ (by decide)
  simp only [isLater, e]
  generalize t.val % 4 = j at h
  interval_cases j <;> decide

theorem last_iff (t : Fin cfg0.N) : isLast (grid0.coords t) ↔ t.val % 4 = 3 := by
  have e := coord_one t
  have h : t.val % 4 < 4 := Nat.mod_lt _ (by decide)
  simp only [isLast, e]
  generalize t.val % 4 = j at h
  interval_cases j <;> decide

/-- Where point `t` stores its strip. -/
theorem off_eq (t : Fin cfg0.N) : k0_off1 (grid0.coords t) = ![0, 1024 * (t.val % 4)] := by
  have e := coord_one t
  have h : t.val % 4 < 4 := Nat.mod_lt _ (by decide)
  simp only [k0_off1, e]
  generalize t.val % 4 = j at h
  interval_cases j <;> decide

/-! ## What the buffers hold -/

/-- The strip that point `t` computes. -/
def ptStrip (c : Dev nD) (t : Fin cfg0.N) : Vec F S512x1024 .f32 :=
  strip (iblk m c 0 t) (iblk m c 1 t) (iblk m c 2 t) (iblk m c 3 t) (iblk m c 4 t) (iblk m c 5 t)

/-- The sums of squares of its rows. -/
def ptSums (c : Dev nD) (t : Fin cfg0.N) : Vec F S512x128 .f32 :=
  sums (iblk m c 0 t) (iblk m c 1 t) (iblk m c 2 t) (iblk m c 3 t) (iblk m c 4 t) (iblk m c 5 t)

/-- The row sums after the point at position `n`. -/
def rowSums (c : Dev nD) : (n : ℕ) → n < cfg0.N → Vec F S512x128 .f32
  | 0, h => k0_pay1 (ptSums m c ⟨0, h⟩)
  | n + 1, h => if (n + 1) % 4 = 0 then k0_pay1 (ptSums m c ⟨n + 1, h⟩)
      else k0_pay2 (ptSums m c ⟨n + 1, h⟩) (rowSums c n (Nat.lt_of_succ_lt h))

theorem rowSums_first (c : Dev nD) (t : Fin cfg0.N) (h : t.val % 4 = 0) : rowSums m c t.val t.isLt = k0_pay1 (ptSums m c t) := by
  obtain ⟨n, hn⟩ := t
  cases n with
  | zero => rfl
  | succ n => exact if_pos h

theorem rowSums_later (c : Dev nD) (t : Fin cfg0.N) (h : ¬t.val % 4 = 0) :
    rowSums m c t.val t.isLt = k0_pay2 (ptSums m c t) (rowSums m c (t.val - 1) (Nat.lt_of_le_of_lt (Nat.sub_le _ _) t.isLt)) := by
  obtain ⟨n, hn⟩ := t
  cases n with
  | zero => exact absurd (Nat.zero_mod _) h
  | succ n => exact if_neg h

/-- The point that computes strip `k` of point `t`'s rows. -/
def ptOf (t : Fin cfg0.N) (k : Fin 4) : Fin cfg0.N :=
  ⟨4 * (t.val / 4) + k.val, by have := lt_128 t; have : cfg0.N = 128 := N_0; omega⟩

/-- The whole rows of point `t`, before they are scaled: four strips side by side. -/
def rows (c : Dev nD) (t : Fin cfg0.N) : Vec F S512x4096 .f32 :=
  fun y => ptStrip m c (ptOf t ⟨(y 1).val / 1024, by have : (y 1).val < 4096 := (y 1).isLt; omega⟩) (ix2 (y 0) ⟨(y 1).val % 1024, Nat.mod_lt _ (by decide)⟩)

/-- What the output block may hold after point `t`: the strips so far, and after the last one the rows scaled. -/
def Held (c : Dev nD) (t : Fin cfg0.N) (X : Vec F S512x4096 .f32) : Prop :=
  if t.val % 4 = 3 then X = finished (rows m c t) (rowSums m c t.val t.isLt) (iblk m c 6 t)
  else ∀ y, (y 1).val < 1024 * (t.val % 4 + 1) → X y = rows m c t y

/-- A strip put into rows that hold the earlier ones gives rows that hold it too. -/
theorem filled_rows (c : Dev nD) (t : Fin cfg0.N) (A : Vec F S512x4096 .f32)
    (hA : ∀ y, (y 1).val < 1024 * (t.val % 4) → A y = rows m c t y) (y : S512x4096.Idx) (hy : (y 1).val < 1024 * (t.val % 4 + 1)) :
    filled (grid0.coords t) A (ptStrip m c t) y = rows m c t y := by
  unfold filled
  rw [off_eq t]
  have h0 : (y 0).val < 512 := (y 0).isLt
  by_cases h : 1024 * (t.val % 4) ≤ (y 1).val
  · have hm : ∀ a : Fin 2, (![0, 1024 * (t.val % 4)] : Fin 2 → ℕ) a ≤ (y a).val ∧ (y a).val < (![0, 1024 * (t.val % 4)] : Fin 2 → ℕ) a + S512x1024.size a :=
      fun a => match a with
        | ⟨0, _⟩ => ⟨Nat.zero_le _, show (y 0).val < 0 + 512 by omega⟩
        | ⟨1, _⟩ => ⟨h, show (y 1).val < 1024 * (t.val % 4) + 1024 by omega⟩
    refine (dif_pos hm).trans ?_
    have e : ptOf t ⟨(y 1).val / 1024, by have : (y 1).val < 4096 := (y 1).isLt; omega⟩ = t := Fin.ext (show 4 * (t.val / 4) + (y 1).val / 1024 = t.val by omega)
    unfold rows
    rw [e]
    exact congrArg (ptStrip m c t) (Shape.idx_ext₂ (Nat.sub_zero _) (show (y 1).val - 1024 * (t.val % 4) = (y 1).val % 1024 by omega))
  · have hm : ¬ ∀ a : Fin 2, (![0, 1024 * (t.val % 4)] : Fin 2 → ℕ) a ≤ (y a).val ∧ (y a).val < (![0, 1024 * (t.val % 4)] : Fin 2 → ℕ) a + S512x1024.size a :=
      fun hm => h (hm 1).1
    exact (dif_neg hm).trans (hA y (by omega))

/-- The point before, in the same rows. -/
theorem rows_pred (c : Dev nD) (t : Fin cfg0.N) (h : ¬t.val % 4 = 0) (p : t.val - 1 < cfg0.N) : rows m c ⟨t.val - 1, p⟩ = rows m c t := by
  have e : ∀ k, ptOf ⟨t.val - 1, p⟩ k = ptOf t k := fun k => Fin.ext (show 4 * ((t.val - 1) / 4) + k.val = 4 * (t.val / 4) + k.val by omega)
  unfold rows
  simp only [e]

/-- What the point before left holds the strips before point `t`'s. -/
theorem Held.pred {c : Dev nD} {t : Fin cfg0.N} (h : ¬t.val % 4 = 0) {p : t.val - 1 < cfg0.N} {X : Vec F S512x4096 .f32} (hX : Held m c ⟨t.val - 1, p⟩ X)
    (y : S512x4096.Idx) (hy : (y 1).val < 1024 * (t.val % 4)) : X y = rows m c t y := by
  unfold Held at hX
  rw [if_neg (show ¬(t.val - 1) % 4 = 3 by omega), rows_pred m c t h p] at hX
  exact hX y (show (y 1).val < 1024 * ((t.val - 1) % 4 + 1) by omega)

/-! ## The proof data -/

abbrev ms0 (t : Fin cfg0.N) : Memref sig .tc .vmem S512x4096 .bf16 := win0_0.stage (cfg0.slots t 0)
abbrev ms1 (t : Fin cfg0.N) : Memref sig .tc .vmem S512x256 .f32 := win0_1.stage (cfg0.slots t 1)
abbrev ms2 (t : Fin cfg0.N) : Memref sig .tc .vmem S4096x1024 .bf16 := win0_2.stage (cfg0.slots t 2)
abbrev ms3 (t : Fin cfg0.N) : Memref sig .tc .vmem S256x1024 .bf16 := win0_3.stage (cfg0.slots t 3)
abbrev ms4 (t : Fin cfg0.N) : Memref sig .tc .vmem S512x1024 .f32 := win0_4.stage (cfg0.slots t 4)
abbrev ms5 (t : Fin cfg0.N) : Memref sig .tc .vmem S512x128 .f32 := win0_5.stage (cfg0.slots t 5)
abbrev ms6 (t : Fin cfg0.N) : Memref sig .tc .vmem S1x4096 .f32 := win0_6.stage (cfg0.slots t 6)
abbrev ms7 (t : Fin cfg0.N) : Memref sig .tc .vmem S512x4096 .f32 := win0_7.stage (cfg0.slots t 7)
abbrev acc : Memref sig .tc .vmem S512x128 .f32 := Memref.whole cc0_scratch0

/-- What the region is entered and left with: the row sums at anything, and the generator register. -/
theorem PhiA0_eq (c : Dev nD) :
    (Pipeline.ΦA spec0 c : sProp 𝕄) = iprop(iprop((∃ d, owns (c : Thread nD τ) acc fullShare d)) ∗ (∃ r, prngReg c r)) := by
  unfold Pipeline.ΦA; rw [scopedRest0_eq]; simp only [acc, owns_whole]; try rfl

/-- Before position `n`: the row sums at what the point before left. -/
def PhiS (c : Dev nD) : (n : ℕ) → n ≤ cfg0.N → sProp 𝕄
  | 0, _ => Pipeline.ΦA spec0 c
  | n + 1, hn => iprop(iprop(owns (c : Thread nD τ) acc fullShare (rowSums m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) acc fullShare (rowSums m c n hn)) ∗ (∃ r, prngReg c r)) := rfl

theorem PhiS_pos (c : Dev nD) (n : ℕ) (h : n ≤ cfg0.N) (hz : n ≠ 0) :
    PhiS m c n h = iprop(iprop(owns (c : Thread nD τ) acc fullShare (rowSums m c (n - 1) (by omega))) ∗ (∃ r, prngReg c r)) := by
  cases n with
  | zero => exact absurd rfl hz
  | succ n => rfl

/-- The inputs' buffers hold their blocks; of the output's buffer only `Held` is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => rows m c t
  Φ t := PhiS m c t.val (Nat.le_of_lt_succ t.isLt)
  q _ := fullShare
  owed _ := 0

/-- The output's window. -/
def marked (w : Fin cfg0.W) : Bool := match w with
  | ⟨7, _⟩ => true
  | _ => false

/-- What is said of the output's buffer after each point. -/
def said (c : Dev nD) (w : Fin cfg0.W) (t : Fin cfg0.N) : ((cfg0.win w).block.Idx → Elt F (cfg0.win w).elt) → Prop := match w with
  | ⟨7, _⟩ => fun X => Held m c t X
  | ⟨0, _⟩ | ⟨1, _⟩ | ⟨2, _⟩ | ⟨3, _⟩ | ⟨4, _⟩ | ⟨5, _⟩ | ⟨6, _⟩ => fun _ => True

/-- The proof data with the output's window held to `said`. -/
abbrev rdat (c : Dev nD) : RDat τ (Elt F) Unit ℕ (UR sig nD τ) ℕ cfg0 c := (dats m 0 c).toRRel marked (said m c)

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d

/-- What a later point finds in the output's buffer is what the point before left there. -/
theorem finds_7 (c : Dev nD) (t : Fin cfg0.N) (h : ¬t.val % 4 = 0) (X : Vec F S512x4096 .f32) (hX : (rdat m c).Finds 7 t X)
    (y : S512x4096.Idx) (hy : (y 1).val < 1024 * (t.val % 4)) : X y = rows m c t y := by
  have hz : t.val ≠ 0 := fun e => h (by rw [e])
  rcases ((rdat m c).finds_of_pos (w := 7) (t := t) rfl hz X).mp hX with hf | hl
  · exact absurd ((flush0_7 _).mp hf) (show ¬(t.val - 1) % 4 = 3 by omega)
  · exact Held.pred m h ((dats m 0 c).toRRel_leaves (show marked 7 = true from rfl) hl) y hy

/-! ## The body at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ Y, ⌜(rdat m c).Finds 7 t Y⌝ ∗ owns (c : Thread nD τ) (ms7 t) fullShare Y))

/-- What the body returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (∃ X, ⌜Held m c t X⌝ ∗ owns (c : Thread nD τ) (ms7 t) fullShare X))

/-- The row sums as the body finds them: at something, and at a later point at what the point before left. -/
theorem Phi_in (c : Dev nD) (t : Fin cfg0.N) : (dats m 0 c).Φ t.castSucc
    ⊢ iprop(∃ s, ⌜¬t.val % 4 = 0 → s = rowSums m c (t.val - 1) (Nat.lt_of_le_of_lt (Nat.sub_le _ _) t.isLt)⌝
        ∗ owns (c : Thread nD τ) acc fullShare s ∗ (∃ r, prngReg c r)) := by
  rw [PhiS_castSucc]
  by_cases hz : t.val = 0
  · rw [PhiS_zero m c _ _ hz, PhiA0_eq]
    iintro ⟨⟨%s, HS⟩, Hg⟩
    iexists s
    isplitr
    · ipureintro; intro h; exact absurd (by rw [hz]) h
    isplitl [HS]
    · iexact HS
    iexact Hg
  · rw [PhiS_pos m c _ _ hz]
    iintro ⟨HS, Hg⟩
    iexists _
    isplitr
    · ipureintro; intro _; rfl
    isplitl [HS]
    · iexact HS
    iexact Hg

/-- From a run of the body to what it must return: the run's row sums are the point's, and its output block is one the point may leave. -/
theorem sound_of_run (c : Dev nD) (t : Fin cfg0.N) (s : Vec F S512x128 .f32) (Y X : Vec F S512x4096 .f32) (S : Vec F S512x128 .f32)
    (hS : S = rowSums m c t.val t.isLt) (hX : Held m c t X)
    (run : ∀ K : PUnit → sProp 𝕄, iprop(owns (c : Thread nD τ) (ms0 t) fullShare (iblk m c 0 t) ∗ owns (c : Thread nD τ) (ms1 t) fullShare (iblk m c 1 t)
        ∗ owns (c : Thread nD τ) (ms2 t) fullShare (iblk m c 2 t) ∗ owns (c : Thread nD τ) (ms3 t) fullShare (iblk m c 3 t)
        ∗ owns (c : Thread nD τ) (ms4 t) fullShare (iblk m c 4 t) ∗ owns (c : Thread nD τ) (ms5 t) fullShare (iblk m c 5 t)
        ∗ owns (c : Thread nD τ) (ms6 t) fullShare (iblk m c 6 t) ∗ owns (c : Thread nD τ) (ms7 t) fullShare Y ∗ owns (c : Thread nD τ) acc fullShare s
        ∗ (iprop(owns (c : Thread nD τ) (ms0 t) fullShare (iblk m c 0 t) ∗ owns (c : Thread nD τ) (ms1 t) fullShare (iblk m c 1 t)
          ∗ owns (c : Thread nD τ) (ms2 t) fullShare (iblk m c 2 t) ∗ owns (c : Thread nD τ) (ms3 t) fullShare (iblk m c 3 t)
          ∗ owns (c : Thread nD τ) (ms4 t) fullShare (iblk m c 4 t) ∗ owns (c : Thread nD τ) (ms5 t) fullShare (iblk m c 5 t)
          ∗ owns (c : Thread nD τ) (ms6 t) fullShare (iblk m c 6 t) ∗ owns (c : Thread nD τ) (ms7 t) fullShare X ∗ owns (c : Thread nD τ) acc fullShare S) -∗ K ⟨⟩))
      ⊢ wp frame (wpE (defs₀ (F := F)) Variants.none c none) Set.univ (bodyAt0 t) K) :
    iprop((owns (c : Thread nD τ) acc fullShare s ∗ (∃ r, prngReg c r)) ∗ (dats m 0 c).owesAt () t.castSucc
      ∗ owns (c : Thread nD τ) (ms0 t) fullShare (iblk m c 0 t) ∗ owns (c : Thread nD τ) (ms1 t) fullShare (iblk m c 1 t)
      ∗ owns (c : Thread nD τ) (ms2 t) fullShare (iblk m c 2 t) ∗ owns (c : Thread nD τ) (ms3 t) fullShare (iblk m c 3 t)
      ∗ owns (c : Thread nD τ) (ms4 t) fullShare (iblk m c 4 t) ∗ owns (c : Thread nD τ) (ms5 t) fullShare (iblk m c 5 t)
      ∗ owns (c : Thread nD τ) (ms6 t) fullShare (iblk m c 6 t) ∗ owns (c : Thread nD τ) (ms7 t) fullShare Y)
    ⊢ wp frame (wpE (defs₀ (F := F)) Variants.none c none) Set.univ (bodyAt0 t) (fun _ => bodyPost m c t) := by
  unfold bodyPost
  rw [show (dats m 0 c).owesAt () t.succ = (dats m 0 c).owesAt () t.castSucc from rfl,
    after_0, after_1, after_2, after_3, after_4, after_5, after_6]
  rw [show (dats m 0 c).Φ t.succ = PhiS m c (t.val + 1) t.isLt from rfl, PhiS_succ]
  iintro ⟨⟨HS, Hg⟩, Ho, H0, H1, H2, H3, H4, H5, H6, H7⟩
  iapply (run _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]
    · rw [← hS]; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists X
  isplitr
  · ipureintro; exact hX
  iexact H7

/-- The body at any point, from row sums and an output block that hold what the points before left. -/
theorem sound_at (c : Dev nD) (t : Fin cfg0.N) (s : Vec F S512x128 .f32) (Y : Vec F S512x4096 .f32)
    (hs : ¬t.val % 4 = 0 → s = rowSums m c (t.val - 1) (Nat.lt_of_le_of_lt (Nat.sub_le _ _) t.isLt))
    (hY : ¬t.val % 4 = 0 → ∀ y, (y 1).val < 1024 * (t.val % 4) → Y y = rows m c t y) :
    iprop((owns (c : Thread nD τ) acc fullShare s ∗ (∃ r, prngReg c r)) ∗ (dats m 0 c).owesAt () t.castSucc
      ∗ owns (c : Thread nD τ) (ms0 t) fullShare (iblk m c 0 t) ∗ owns (c : Thread nD τ) (ms1 t) fullShare (iblk m c 1 t)
      ∗ owns (c : Thread nD τ) (ms2 t) fullShare (iblk m c 2 t) ∗ owns (c : Thread nD τ) (ms3 t) fullShare (iblk m c 3 t)
      ∗ owns (c : Thread nD τ) (ms4 t) fullShare (iblk m c 4 t) ∗ owns (c : Thread nD τ) (ms5 t) fullShare (iblk m c 5 t)
      ∗ owns (c : Thread nD τ) (ms6 t) fullShare (iblk m c 6 t) ∗ owns (c : Thread nD τ) (ms7 t) fullShare Y)
    ⊢ wp frame (wpE (defs₀ (F := F)) Variants.none c none) Set.univ (bodyAt0 t) (fun _ => bodyPost m c t) := by
  by_cases h0 : t.val % 4 = 0
  · refine sound_of_run m c t s Y (filled (grid0.coords t) Y (ptStrip m c t)) (k0_pay1 (ptSums m c t)) (rowSums_first m c t h0).symm ?_ fun K => ?_
    · unfold Held
      rw [if_neg (by omega)]
      exact filled_rows m c t Y fun y hy => absurd hy (by rw [h0]; exact Nat.not_lt_zero _)
    · exact run_first c (grid0.coords t) _ _ _ _ _ _ _ _ _ _ _ _ _ _ _ _ _ _ ((first_iff t).mpr h0) (fun h => (later_iff t).mp h h0)
        (fun h => by have := (last_iff t).mp h; omega) _ _ _ _ _ _ _ Y s Set.univ K
  · have e := hs h0
    subst e
    have p : t.val - 1 < cfg0.N := Nat.lt_of_le_of_lt (Nat.sub_le _ _) t.isLt
    by_cases h3 : t.val % 4 = 3
    · refine sound_of_run m c t _ Y (finished (filled (grid0.coords t) Y (ptStrip m c t)) (k0_pay2 (ptSums m c t) (rowSums m c (t.val - 1) p)) (iblk m c 6 t))
        (k0_pay2 (ptSums m c t) (rowSums m c (t.val - 1) p)) (rowSums_later m c t h0).symm ?_ fun K => ?_
      · unfold Held
        rw [if_pos h3, rowSums_later m c t h0]
        exact congrArg (fun A => finished A _ _) (funext fun y => filled_rows m c t Y (hY h0) y (by have : (y 1).val < 4096 := (y 1).isLt; rw [h3]; omega))
      · exact run_last c (grid0.coords t) _ _ _ _ _ _ _ _ _ _ _ _ _ _ _ _ _ _ (fun h => h0 ((first_iff t).mp h)) ((later_iff t).mpr h0)
          ((last_iff t).mpr h3) _ _ _ _ _ _ _ Y _ Set.univ K
    · refine sound_of_run m c t _ Y (filled (grid0.coords t) Y (ptStrip m c t)) (k0_pay2 (ptSums m c t) (rowSums m c (t.val - 1) p)) (rowSums_later m c t h0).symm ?_ fun K => ?_
      · unfold Held
        rw [if_neg h3]
        exact filled_rows m c t Y (hY h0)
      · exact run_middle c (grid0.coords t) _ _ _ _ _ _ _ _ _ _ _ _ _ _ _ _ _ _ (fun h => h0 ((first_iff t).mp h)) ((later_iff t).mpr h0)
          (fun h => h3 ((last_iff t).mp h)) _ _ _ _ _ _ _ Y _ Set.univ K

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  simp only [before_0, before_1, before_2, before_3, before_4, before_5, before_6]
  refine (sep_mono (Phi_in m c t) .rfl).trans ?_
  iintro ⟨⟨%s, %hs, HS, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  iapply (sound_at m c t s Y hs fun h => finds_7 m c t h Y hY)
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body the pipeline calls. -/
theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (c : Dev nD) : BodyObligationRel (dats (F := F) m 0 c) (defs₀ (F := F)) Variants.none () Set.univ marked (said m c) := fun t => by
  rw [bigSep_W0, bigSep_W0, defs₀_row]
  exact triple_restated (sound_body m c t) rfl .rfl fun _ => .rfl

/-! ## The run -/

theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the row sums may hold anything again. -/
theorem hout (c : Dev nD) : (dats m 0 c).Φ (Fin.last cfg0.N) ⊢ Pipeline.ΦA spec0 c := by
  have hn : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ hn, PhiA0_eq]
  iintro ⟨HS, Hg⟩
  isplitl [HS]
  · iexists _; iexact HS
  iexact Hg

set_option backward.isDefEq.respectTransparency.types false in
/-- The launch at any proof data that hold the marked windows to a predicate. -/
theorem launch (dats : (p : Fin 1) → (c : Dev nD) → Dat τ (Elt F) Unit ℕ (UR sig nD τ) ℕ (cfgs p) c) (fgt : Fin cfg0.W → Bool)
    (Rl : (c : Dev nD) → (w : Fin cfg0.W) → Fin cfg0.N → ((cfg0.win w).block.Idx → Elt F (cfg0.win w).elt) → Prop)
    (hbody : ∀ c, BodyObligationRel (dats 0 c) (defs₀ (F := F)) Variants.none () Set.univ fgt (Rl c))
    (hshare : ∀ c w, (dats 0 c).share w = fullShare) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (fun r => RDat.FramePost cfg0 (fun c => (dats 0 c).toRRel fgt (Rl c)) (V m) r ∧ r.2.sem = fun _ => 0) :=
  RDat.θ_run_frame_track (Q' := _) cfgs (0 : Fin 1) launch0 defs₀ Variants.none (fun c => (dats 0 c).toRRel fgt (Rl c)) m ρ main
    (fun c => (hbody c).toRRel) hshare howed (V m) (hmain m Variants.none) hA hin hout

theorem share_eq (c : Dev nD) (w : Fin cfg0.W) : (dats m 0 c).share w = fullShare := by
  unfold Pipeline.Dat.share; split <;> rfl

/-- Every run ends with the arrays at what the points may leave, and the counters at zero. -/
theorem run_quiescent : θ_run defs (onTc (τ := τ) (main (F := F))) (s₀ m ρ)
    (fun r => RDat.FramePost cfg0 (rdat m) (V m) r ∧ r.2.sem = fun _ => 0) :=
  launch m ρ (dats m) marked (said m) (body_obligation m) (share_eq m) (fun _ _ => rfl) (A_eq m) (hin m) (hout m)

/-- No argument is changed. -/
theorem args_eq {r : PUnit × MemSt nD τ sig (Elt F)} (h : RDat.FramePost cfg0 (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- From any memory with the counters at zero, every run of the program ends, with its arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_eq m h.1 c, h.2⟩) (run_quiescent m ρ)

/-- A point that flushes has computed the last strip: it leaves the rows scaled. -/
theorem leaves_last (c : Dev nD) (t : Fin cfg0.N) (h : t.val % 4 = 3) {X : Vec F S512x4096 .f32} (hX : (rdat m c).Leaves 7 t X) :
    X = finished (rows m c t) (rowSums m c t.val t.isLt) (iblk m c 6 t) := by
  have hH : Held m c t X := (dats m 0 c).toRRel_leaves (show marked 7 = true from rfl) hX
  unfold Held at hH
  rwa [if_pos h] at hH

end Cert.Calls.Ple

end
-- ==== Proof.Calls.PleValue.lean ====
/-
  The last call's values: the rows plus the logistic gate of the normalised rows times the projected per-layer features,
  and then these rows normalised and times the last gain. The program multiplies the gained rows first and normalises the
  products, and it collects each row's sum of squares strip by strip.
-/
module

public import proofs.«01_k».proof.Defs
public import proofs.«01_k».proof.Proof.Calls.PleFrame
public import proofs.«01_k».proof.Proof.Gen.PleRefIdeal.Read
public import proofs.«01_k».proof.Proof.Calls.Rms
public import proofs.«01_k».proof.Proof.Calls.Residual
public import Idealize.ShloMosaic.Lib.Pipeline.ValueKit.Tiles
public import Idealize.ShloMosaic.Lib.Pipeline.ValueKit.Held

@[expose] public section

noncomputable section

namespace Cert.Calls.Ple

open Idealize.ShloMosaic Idealize.ShloMosaic.TcCoe Idealize.SL.Sem Idealize.ShloMosaic.ValueIdx
open Cert.PleIdeal Cert.PleIdeal.Gen
open Idealize.ShloMosaic.Pipeline (Dat RDat)
open scoped BigOperators

/-! ## What both programs compute -/

/-- The rows plus the gate times the projected features. -/
def mixed (x : FVec Ideal S2x8192x4096 .f32) (p : FVec Ideal S2x8192x256 .f32) (g : FVec Ideal S1x4096 .f32) (wg : FVec Ideal S1x4096x4096 .f32)
    (wp : FVec Ideal S1x256x4096 .f32) : FVec Ideal S16384x4096 .f32 :=
  fun i => flat x i + Ideal.logistic (normDot (flat x) g wg (i 0) (i 1)) * rowDot p wp (i 0) (i 1)

/-- Rows times their reciprocal root mean square and times the last gain. -/
def normed (y : FVec Ideal S16384x4096 .f32) (g : FVec Ideal S4096 .f32) : FVec Ideal S16384x4096 .f32 :=
  fun i => y i * rstd y (i 0) * g (ix1 (i 1))

/-- The result of the call. -/
def val (x : FVec Ideal S2x8192x4096 .f32) (p : FVec Ideal S1x2x8192x256 .f32) (g : FVec Ideal S1x4096 .f32) (wg : FVec Ideal S1x4096x4096 .f32)
    (wp : FVec Ideal S1x256x4096 .f32) (gf : FVec Ideal S4096 .f32) : FVec Ideal S16384x4096 .f32 :=
  normed (mixed x (shapeCast S2x8192x256 p shapeCasts_S1x2x8192x256_S2x8192x256) g wg wp) gf

/-! ## The reference -/

variable (x : FVec Ideal S2x8192x4096 .f32) (p : FVec Ideal S1x2x8192x256 .f32) (g : FVec Ideal S1x4096 .f32) (wg : FVec Ideal S1x4096x4096 .f32)
  (wp : FVec Ideal S1x256x4096 .f32) (gf : FVec Ideal S4096 .f32)

/-- The features without their leading unit axis. -/
abbrev feats : FVec Ideal S2x8192x256 .f32 := shapeCast S2x8192x256 p shapeCasts_S1x2x8192x256_S2x8192x256

/-- The reference's product of the normalised rows with the gate's weight. -/
theorem ref_dot (i : Cert.PleRefIdeal.S2x8192x4096.Idx) (R : Fin 16384) (Q : Fin 4096) (h0 : (i 0).val = R.val / 8192) (h1 : (i 1).val = R.val % 8192)
    (h2 : (i 2).val = Q.val) : Cert.PleRefIdeal.Read.val_main_v15 (F := Ideal) x g wg i = normDot (flat x) g wg R Q := by
  rw [Cert.PleRefIdeal.Read.val_main_v15_apply]
  refine Finset.sum_congr rfl fun k _ => mul_congr ?_ ?_
  · open Cert.PleRefIdeal.Read in
    rw [val_main_v13_apply, val_main_v10_apply, val_main_v9_apply, val_main_v8_apply, val_main_v7_apply, val_main_v6_apply, val_main_cst_1_apply,
      val_main_v5_apply, val_main_v4_apply, val_main_cst_0_apply, val_main_v3_apply, val_main_v2_apply, val_main_cst_apply,
      val_main_v12_apply, val_main_v11_apply, val_main_v0_apply]
    simp only [Ideal.mulf_def, Ideal.addf_def, Ideal.hostDivf_def, Ideal.hostUnary_rsqrt_def, Ideal.ofBits_def, Cert.PleRefIdeal.Read.val_main_v1_apply,
      Ideal.ofBits_zero_f32, zero_add]
    refine mul_congr (mul_congr (congrArg x (idx_ext₃ h0 h1 rfl)) (congrArg (fun s => Ideal.rsqrt (Ideal.div s _ + _)) ?_)) (congrArg g ?_)
    · exact Finset.sum_congr rfl fun k _ => mul_congr (congrArg x (idx_ext₃ h0 h1 rfl)) (congrArg x (idx_ext₃ h0 h1 rfl))
    · exact Shape.idx_ext₂ rfl (Nat.mod_eq_of_lt k.isLt)
  · unfold Cert.PleRefIdeal.Read.val_main_v14
    erw [shapeCast_layer]
    exact congrArg wg (idx_ext₃ rfl rfl h2)

/-- The reference's projected features. -/
theorem ref_proj (i : Cert.PleRefIdeal.S2x8192x4096.Idx) (R : Fin 16384) (Q : Fin 4096) (h0 : (i 0).val = R.val / 8192) (h1 : (i 1).val = R.val % 8192)
    (h2 : (i 2).val = Q.val) : Cert.PleRefIdeal.Read.val_main_v24 (F := Ideal) p wp i = rowDot (feats p) wp R Q := by
  rw [Cert.PleRefIdeal.Read.val_main_v24_apply]
  refine Finset.sum_congr rfl fun k _ => mul_congr ?_ ?_
  · exact congrArg (feats p) (idx_ext₃ h0 h1 rfl)
  · unfold Cert.PleRefIdeal.Read.val_main_v23
    erw [shapeCast_layer]
    exact congrArg wp (idx_ext₃ rfl rfl h2)

/-- The reference's rows before the last normalisation. -/
theorem ref_row (i : Cert.PleRefIdeal.S2x8192x4096.Idx) (R : Fin 16384) (Q : Fin 4096) (h0 : (i 0).val = R.val / 8192) (h1 : (i 1).val = R.val % 8192)
    (h2 : (i 2).val = Q.val) : Cert.PleRefIdeal.Read.val_main_v26 (F := Ideal) x p g wg wp i = mixed x (feats p) g wg wp (ix2 R Q) := by
  open Cert.PleRefIdeal.Read in
  rw [val_main_v26_apply, val_main_v25_apply, val_main_v21_apply, val_main_v20_apply, val_main_cst_3_apply, val_main_v19_apply, val_main_v18_apply,
    val_main_cst_2_apply, val_main_v17_apply, val_main_v16_apply]
  simp only [Ideal.mulf_def, Ideal.hostDivf_def, Ideal.addf_def, Ideal.hostUnary_exp_def, Ideal.hostNegf_def, Ideal.negf_def, Ideal.ofBits_def, Ideal.ofBits_one_f32]
  exact add_congr (congrArg x (idx_ext₃ h0 h1 h2))
    (mul_congr (congrArg (fun s => Ideal.div 1 (1 + Ideal.exp (-s))) (ref_dot x g wg i R Q h0 h1 h2)) (ref_proj p wp i R Q h0 h1 h2))

/-- The reference's result. -/
theorem ref_eq : Cert.PleRefIdeal.Read.val_main_v40 (F := Ideal) x p g wg wp gf = val x p g wg wp gf := by
  funext i
  unfold Cert.PleRefIdeal.Read.val_main_v40
  erw [shapeCast_flat]
  unfold flat
  open Cert.PleRefIdeal.Read in
  rw [val_main_v39_apply, val_main_v36_apply, val_main_v35_apply, val_main_v34_apply, val_main_v33_apply, val_main_v32_apply, val_main_cst_6_apply,
    val_main_v31_apply, val_main_v30_apply, val_main_cst_5_apply, val_main_v29_apply, val_main_v28_apply, val_main_cst_4_apply,
    val_main_v38_apply, val_main_v37_apply]
  simp only [Ideal.mulf_def, Ideal.addf_def, Ideal.hostDivf_def, Ideal.hostUnary_rsqrt_def, Ideal.ofBits_def, Cert.PleRefIdeal.Read.val_main_v27_apply,
    Ideal.ofBits_zero_f32, zero_add]
  refine mul_congr (mul_congr ((ref_row x p g wg wp _ (i 0) (i 1) rfl rfl rfl).trans (congrArg (mixed x (feats p) g wg wp) (eq_ix2 i).symm))
    (congrArg (fun s => Ideal.rsqrt (Ideal.div s _ + _)) ?_)) (congrArg gf ?_)
  · exact Finset.sum_congr rfl fun k _ => mul_congr (ref_row x p g wg wp _ (i 0) k rfl rfl rfl) (ref_row x p g wg wp _ (i 0) k rfl rfl rfl)
  · funext a
    match a with
    | ⟨0, _⟩ => rfl

/-! ## The arrays as the region finds them -/

variable (m : (ℓ : Loc nD τ sig) → Buf (Elt Ideal) ℓ)

/-- The arguments. -/
abbrev argX (c : Dev nD) : FVec Ideal S2x8192x4096 .f32 := m ((c : Thread nD τ).loc main_arg0)
abbrev argP (c : Dev nD) : FVec Ideal S1x2x8192x256 .f32 := m ((c : Thread nD τ).loc main_arg1)
abbrev argG (c : Dev nD) : FVec Ideal S1x4096 .f32 := m ((c : Thread nD τ).loc main_arg2)
abbrev argWg (c : Dev nD) : FVec Ideal S1x4096x4096 .f32 := m ((c : Thread nD τ).loc main_arg3)
abbrev argWp (c : Dev nD) : FVec Ideal S1x256x4096 .f32 := m ((c : Thread nD τ).loc main_arg4)
abbrev argGf (c : Dev nD) : FVec Ideal S4096 .f32 := m ((c : Thread nD τ).loc main_arg5)

/-- The rows before the last normalisation, from the arguments. -/
abbrev mix (c : Dev nD) : FVec Ideal S16384x4096 .f32 := mixed (argX m c) (feats (argP m c)) (argG m c) (argWg m c) (argWp m c)

/-- The gained rows. -/
theorem V_gained (c : Dev nD) (R : Fin 16384) (k : Fin 4096) :
    V m c main_v5 (ix2 R k) = flat (argX m c) (ix2 R k) * argG m c (ix2 0 k) := by
  refine Eq.trans (b := (mulf (shapeCast S16384x4096 (argX m c) shapeCasts_S2x8192x4096_S16384x4096)
    (broadcastInDim S16384x4096 ![0, 1] bcast_S1x4096_S16384x4096_0_1
      (shapeCast S1x4096 (shapeCast S4096 (argG m c) shapeCasts_S1x4096_S4096) shapeCasts_S4096_S1x4096))) (ix2 R k)) ?_ ?_
  · refine congrFun ?_ _
    unfold V
    after_results <;> rfl
  rw [shapeCast_flat, shapeCast_shapeCast]
  exact mul_congr rfl (host_gain _ _ R k)

/-- The rows' sums of squares. -/
theorem V_squares (c : Dev nD) (R : Fin 16384) (l : Fin 128) :
    V m c main_v9 (ix2 R l) = ∑ k : Fin 4096, flat (argX m c) (ix2 R k) * flat (argX m c) (ix2 R k) := by
  refine Eq.trans (b := broadcastInDim S16384x128 ![0, 1] bcast_S16384x1_S16384x128_0_1 (broadcastInDim S16384x1 ![0] bcast_S16384_S16384x1_0
    (Host.reduceAdd (mulf (shapeCast S16384x4096 (argX m c) shapeCasts_S2x8192x4096_S16384x4096) (shapeCast S16384x4096 (argX m c) shapeCasts_S2x8192x4096_S16384x4096))
      (constant (F := Ideal) S_ .f32 0x00000000#32) reducesTo_S16384x4096_S16384_d1 h_S_)) (ix2 R l)) ?_ ?_
  · refine congrFun ?_ _
    unfold V
    after_results <;> rfl
  rw [shapeCast_flat]
  exact host_squares _ _ _ _ _ R l

/-- The features. -/
theorem V_feats (c : Dev nD) : V m c main_v11 = flat (feats (argP m c)) := by
  refine Eq.trans ?_ (shapeCast_flat (feats (argP m c)) shapeCasts_S2x8192x256_S16384x256)
  unfold V
  after_results <;> rfl

/-- The gate's weight. -/
theorem V_gate (c : Dev nD) : V m c main_v13 = layer (argWg m c) := by
  refine Eq.trans ?_ (shapeCast_layer (argWg m c) shapeCasts_S1x4096x4096_S4096x4096)
  unfold V
  after_results <;> rfl

/-- The projection's weight. -/
theorem V_proj (c : Dev nD) : V m c main_v15 = layer (argWp m c) := by
  refine Eq.trans ?_ (shapeCast_layer (argWp m c) shapeCasts_S1x256x4096_S256x4096)
  unfold V
  after_results <;> rfl

/-- The rows to add to. -/
theorem V_base (c : Dev nD) : V m c main_v16 = flat (argX m c) := by
  refine Eq.trans ?_ (shapeCast_flat (argX m c) shapeCasts_S2x8192x4096_S16384x4096)
  unfold V
  after_results <;> rfl

/-- The last gain. -/
theorem V_gain (c : Dev nD) (k : Fin 4096) : V m c main_v17 (ix2 0 k) = argGf m c (ix1 k) := by
  refine Eq.trans (b := shapeCast S1x4096 (argGf m c) shapeCasts_S4096_S1x4096 (ix2 0 k)) ?_ ?_
  · refine congrFun ?_ _
    unfold V
    after_results <;> rfl
  · refine shapeCast_apply _ _ _ (ix1 k) ?_
    rewrite [Shape.rowMajor_val_one, Shape.rowMajor_val_two]
    show k.val = 0 * 4096 + k.val
    omega

/-! ## The blocks -/

/-- The places of the first four inputs' blocks, point by point. -/
theorem idx_facts : ∀ t : Fin grid0.N, win0_0.index t 0 = t.val / 4 ∧ win0_0.index t 1 = 0 ∧ win0_1.index t 0 = t.val / 4 ∧ win0_1.index t 1 = 0
    ∧ win0_2.index t 0 = 0 ∧ win0_2.index t 1 = t.val % 4 ∧ win0_3.index t 0 = 0 ∧ win0_3.index t 1 = t.val % 4 := by
  decide +kernel

/-- The places of the other inputs' and the result's blocks. -/
theorem idx_facts' : ∀ t : Fin grid0.N, win0_4.index t 0 = t.val / 4 ∧ win0_4.index t 1 = t.val % 4 ∧ win0_5.index t 0 = t.val / 4 ∧ win0_5.index t 1 = 0
    ∧ win0_6.index t 0 = 0 ∧ win0_6.index t 1 = 0 ∧ win0_7.index t 0 = t.val / 4 ∧ win0_7.index t 1 = 0 := by
  decide +kernel

/-- Where point `t`'s strip lies. -/
theorem bound (t : Fin cfg0.N) : t.val / 4 * 512 + 512 ≤ 16384 ∧ t.val % 4 * 1024 + 1024 ≤ 4096 := by
  have := lt_128 t
  omega

/-- The row of the result that the strip's row `r` is. -/
def row (t : Fin cfg0.N) (r : Fin 512) : Fin 16384 := place (t.val / 4) r (bound t).1
/-- The column of the result that the strip's column `q` is. -/
def col (t : Fin cfg0.N) (q : Fin 1024) : Fin 4096 := place (t.val % 4) q (bound t).2

theorem emb7 (t : Fin cfg0.N) (r : Fin 512) (j : Fin 4096) : (win0_7.rect t).emb (ix2 r j) = ix2 (row t r) j :=
  Shape.idx_ext₂ (emb_place win0_7 t _ 0 (idx_facts' t).2.2.2.2.2.2.1 rfl) ((emb_place win0_7 t _ 1 (idx_facts' t).2.2.2.2.2.2.2 rfl).trans (Nat.zero_add _))

/-- Point `t`'s gained rows. -/
theorem blk0 (c : Dev nD) (t : Fin cfg0.N) (r : Fin 512) (k : Fin 4096) :
    iblk m c 0 t (ix2 r k) = flat (argX m c) (ix2 (row t r) k) * argG m c (ix2 0 k) :=
  (congrArg (V m c main_v5) (Shape.idx_ext₂ (emb_place win0_0 t _ 0 (idx_facts t).1 rfl)
    ((emb_place win0_0 t _ 1 (idx_facts t).2.1 rfl).trans (Nat.zero_add _)))).trans (V_gained m c (row t r) k)

/-- Point `t`'s features. -/
theorem blk1 (c : Dev nD) (t : Fin cfg0.N) (r : Fin 512) (k : Fin 256) :
    iblk m c 1 t (ix2 r k) = flat (feats (argP m c)) (ix2 (row t r) k) :=
  (congrFun (V_feats m c) _).trans (congrArg (flat _) (Shape.idx_ext₂ (emb_place win0_1 t _ 0 (idx_facts t).2.2.1 rfl)
    ((emb_place win0_1 t _ 1 (idx_facts t).2.2.2.1 rfl).trans (Nat.zero_add _))))

/-- Point `t`'s columns of the gate's weight. -/
theorem blk2 (c : Dev nD) (t : Fin cfg0.N) (k : Fin 4096) (q : Fin 1024) :
    iblk m c 2 t (ix2 k q) = layer (argWg m c) (ix2 k (col t q)) :=
  (congrFun (V_gate m c) _).trans (congrArg (layer _) (Shape.idx_ext₂
    ((emb_place win0_2 t _ 0 (idx_facts t).2.2.2.2.1 rfl).trans (Nat.zero_add _)) (emb_place win0_2 t _ 1 (idx_facts t).2.2.2.2.2.1 rfl)))

/-- Point `t`'s columns of the projection's weight. -/
theorem blk3 (c : Dev nD) (t : Fin cfg0.N) (k : Fin 256) (q : Fin 1024) :
    iblk m c 3 t (ix2 k q) = layer (argWp m c) (ix2 k (col t q)) :=
  (congrFun (V_proj m c) _).trans (congrArg (layer _) (Shape.idx_ext₂
    ((emb_place win0_3 t _ 0 (idx_facts t).2.2.2.2.2.2.1 rfl).trans (Nat.zero_add _)) (emb_place win0_3 t _ 1 (idx_facts t).2.2.2.2.2.2.2 rfl)))

/-- Point `t`'s strip of the rows to add to. -/
theorem blk4 (c : Dev nD) (t : Fin cfg0.N) (r : Fin 512) (q : Fin 1024) :
    iblk m c 4 t (ix2 r q) = flat (argX m c) (ix2 (row t r) (col t q)) :=
  (congrFun (V_base m c) _).trans (congrArg (flat _) (Shape.idx_ext₂ (emb_place win0_4 t _ 0 (idx_facts' t).1 rfl)
    (emb_place win0_4 t _ 1 (idx_facts' t).2.1 rfl)))

/-- Point `t`'s sums of squares of the rows to normalise. -/
theorem blk5 (c : Dev nD) (t : Fin cfg0.N) (r : Fin 512) (l : Fin 128) :
    iblk m c 5 t (ix2 r l) = ∑ k : Fin 4096, flat (argX m c) (ix2 (row t r) k) * flat (argX m c) (ix2 (row t r) k) :=
  (congrArg (V m c main_v9) (Shape.idx_ext₂ (emb_place win0_5 t _ 0 (idx_facts' t).2.2.1 rfl)
    ((emb_place win0_5 t _ 1 (idx_facts' t).2.2.2.1 rfl).trans (Nat.zero_add _)))).trans (V_squares m c (row t r) l)

/-- The last gain, the same at every point. -/
theorem blk6 (c : Dev nD) (t : Fin cfg0.N) (j : Fin 4096) : iblk m c 6 t (ix2 0 j) = argGf m c (ix1 j) :=
  (congrArg (V m c main_v17) (Shape.idx_ext₂ ((emb_place win0_6 t _ 0 (idx_facts' t).2.2.2.2.1 rfl).trans (Nat.zero_add _))
    ((emb_place win0_6 t _ 1 (idx_facts' t).2.2.2.2.2.1 rfl).trans (Nat.zero_add _)))).trans (V_gain m c j)

/-! ## What the points compute -/

/-- The first lane of a row's sums. -/
theorem lane0_apply (s : FVec Ideal S512x128 .f32) (r : Fin 512) : lane0 (F := Ideal) s (ix2 r 0) = s (ix2 r 0) :=
  congrArg s (Shape.idx_ext₂ (show 0 + 1 * r.val = r.val by omega) rfl)

/-- A row's scale from its sum of squares. -/
theorem pay6_apply (s : FVec Ideal S512x128 .f32) (r : Fin 512) (e : EReal) (h : s (ix2 r 0) = e) :
    k0_pay6 (F := Ideal) (lane0 s) (ix2 r 0) = Ideal.rsqrt (Ideal.div e (Ideal.ofBits .f32 0x45800000#32) + Ideal.ofBits .f32 0x358637BD#32) := by
  subst h
  exact congrArg (fun z => Ideal.rsqrt (Ideal.div z (Ideal.ofBits .f32 0x45800000#32) + Ideal.ofBits .f32 0x358637BD#32)) (lane0_apply s r)

/-- A strip, at one element. -/
theorem ptStrip_apply (c : Dev nD) (t : Fin cfg0.N) (r : Fin 512) (q : Fin 1024) :
    ptStrip m c t (ix2 r q) = mix m c (ix2 (row t r) (col t q)) := by
  unfold ptStrip strip k0_pay42
  simp only [shapeCast_self]
  have hs : broadcastTo S512x1024 (k0_pay6 (lane0 (iblk m c 5 t))) broadcasts_S512x1_S512x1024 (ix2 r q) = rstd (flat (argX m c)) (row t r) :=
    (broadcastTo_col _ (by decide) _ r q).trans (pay6_apply _ r _ (blk5 m c t r 0))
  refine add_congr (blk4 m c t r q) (mul_congr (congrArg Ideal.logistic ((mul_congr hs ?_).trans (rstd_mul_dot _ _ _ _ _))) ?_)
  · exact (matmul_zero_apply (φ₁ := .bf16) (φ₂ := .bf16) none (iblk m c 0 t) (iblk m c 2 t) r q).trans
      (Finset.sum_congr rfl fun k _ => mul_congr (blk0 m c t r k) (blk2 m c t k q))
  · exact tile_dot none (truncf .bf16 (iblk m c 1 t) bitsLt_bf16_f32) (iblk m c 3 t) _ _ r q (row t r) (col t q)
      (fun k => blk1 m c t r k) (fun k => blk3 m c t k q)

/-- A strip's sums of squares, at one element. -/
theorem ptSums_apply (c : Dev nD) (t : Fin cfg0.N) (r : Fin 512) (l : Fin 128) :
    ptSums m c t (ix2 r l) = ∑ q : Fin 1024, sqAt (mix m c) (t.val / 4 * 512 + r.val) (t.val % 4 * 1024 + q.val) := by
  unfold ptSums sums k0_pay43
  simp only [shapeCast_self]
  exact tile_squares _ (mix m c) _ _ _ _ _ _ (by decide) r l _ _ fun q =>
    (mul_congr (ptStrip_apply m c t r q) (ptStrip_apply m c t r q)).trans (sqAt_of_lt (mix m c) (row t r) (col t q)).symm

/-- After the last strip the row sums are the rows' sums of squares. -/
theorem rowSums_last (c : Dev nD) (t : Fin cfg0.N) (ht : t.val % 4 = 3) (r : Fin 512) (l : Fin 128) :
    rowSums m c t.val t.isLt (ix2 r l) = ∑ j : Fin 4096, mix m c (ix2 (row t r) j) * mix m c (ix2 (row t r) j) := by
  have h := Pipeline.eq_sum_of_reset_step_divmod (fun n hn => (rowSums m c n hn (ix2 r l) : EReal)) 4 0
    (fun a k => ∑ q : Fin 1024, sqAt (mix m c) (a * 512 + r.val) (k * 1024 + q.val))
    (fun t h => by
      refine (congrFun (rowSums_first m c t h) _).trans (Eq.trans ?_ (zero_add _).symm)
      unfold k0_pay1
      simp only [shapeCast_self]
      exact ptSums_apply m c t r l)
    (fun t h => by
      refine (congrFun (rowSums_later m c t h) _).trans ?_
      unfold k0_pay2
      simp only [shapeCast_self]
      exact add_congr rfl (ptSums_apply m c t r l)) t
  refine h.trans ?_
  rw [ht, zero_add]
  exact sum_blocks (mix m c) (by decide) (row t r)

/-- The whole rows, at one element. -/
theorem rows_apply (c : Dev nD) (t : Fin cfg0.N) (r : Fin 512) (j : Fin 4096) : rows m c t (ix2 r j) = mix m c (ix2 (row t r) j) := by
  unfold rows
  refine (ptStrip_apply m c _ _ _).trans (congrArg (mix m c) (Shape.idx_ext₂ ?_ ?_))
  · show (4 * (t.val / 4) + j.val / 1024) / 4 * 512 + r.val = t.val / 4 * 512 + r.val
    have := j.isLt
    omega
  · show (4 * (t.val / 4) + j.val / 1024) % 4 * 1024 + j.val % 1024 = j.val
    have := j.isLt
    omega

/-- The scaled rows, at one element. -/
theorem finished_apply (c : Dev nD) (t : Fin cfg0.N) (ht : t.val % 4 = 3) (r : Fin 512) (j : Fin 4096) :
    finished (rows m c t) (rowSums m c t.val t.isLt) (iblk m c 6 t) (ix2 r j) = normed (mix m c) (argGf m c) (ix2 (row t r) j) :=
  mul_congr (mul_congr (rows_apply m c t r j) (pay6_apply _ r _ (rowSums_last m c t ht r 0))) (blk6 m c t j)

/-! ## The whole run -/

/-- After the run the result array holds the normalised rows. -/
theorem final {r : PUnit × MemSt nD τ sig (Elt Ideal)} (h : RDat.FramePost cfg0 (rdat m) (V m) r) (c : Dev nD) :
    r.2.mem ((c.tc : Thread nD τ).loc main_v18) = normed (mix m c) (argGf m c) := by
  obtain ⟨after, hL, hA⟩ := RDat.FramePost.exists_exact h c
  refine (hA 7).trans (Dat.arrAt_eq_of_cover _ 7 _ (fun t hf => ?_) (Pipeline.Window.Covers.cover _ (by decide +kernel) (Memref.isWhole_whole _)))
  have ht : t.val % 4 = 3 := (flush0_7 t).mp hf
  have e := leaves_last m c t ht (hL 7 t hf)
  show (cfg0.win 7).cut (grid0.coords t) (after 7 t) = _
  rw [e]
  funext y
  obtain ⟨a, b, rfl⟩ : ∃ (a : Fin 512) (b : Fin 4096), y = ix2 a b := ⟨y 0, y 1, eq_ix2 y⟩
  exact (finished_apply m c t ht a b).trans (congrArg (normed _ _) (emb7 t a b)).symm

/-- The kernel and the reference leave the same result. -/
theorem algebraic : Cert.algebraic_PleIdeal_PleRefIdeal := by
  intro m ρ m' ρ' _ hagree
  refine ⟨fun c => val (argX m c) (argP m c) (argG m c) (argWg m c) (argWp m c) (argGf m c), ?_, ?_⟩
  · exact (θ_run Cert.PleIdeal.defs _ _).mono (fun _ h c => ⟨final m h.1 c, args_eq m h.1 c⟩) (run_quiescent m ρ)
  · refine (θ_run Cert.PleRefIdeal.defs _ _).mono (fun _ h c => ⟨(h c).1.trans ?_, (h c).2⟩) (Cert.PleRefIdeal.Value.run (F := Ideal) m' ρ')
    rw [Cert.PleRefIdeal.Read.val_main_v40_eq, (hagree c).1, (hagree c).2.1, (hagree c).2.2.1, (hagree c).2.2.2.1, (hagree c).2.2.2.2.1, (hagree c).2.2.2.2.2]
    exact ref_eq _ _ _ _ _ _

end Cert.Calls.Ple

end
-- ==== Proof.Calls.PleBits.lean ====
/-
  The last call's frame over bits. The program over bits and the one over extended reals have the same text, so the run
  of the second at any float values is also a run of the first.
-/
module

public import proofs.«01_k».proof.Defs
public import proofs.«01_k».proof.Proof.Calls.PleFrame
public import proofs.«01_k».proof.Proof.Gen.Ple

@[expose] public section

noncomputable section

namespace Cert.Calls.Ple

open Idealize.ShloMosaic Idealize.ShloMosaic.TcCoe Idealize.SL.Sem

variable {F : FTy → Type} [FloatOps F]

/-- The two texts call the same bodies. -/
theorem bodies_eq : Cert.Ple.defs₀ (F := F) = Cert.PleIdeal.defs₀ (F := F) := by
  refine congrArg Defs.onTc ?_
  funext l x
  match l, x with
  | ⟨0, _⟩, (_, _) => rfl

/-- The two texts define the same labels. -/
theorem defs_eq : Cert.Ple.defs (F := F) = Cert.PleIdeal.defs (F := F) :=
  congrArg (Pipeline.defs (Cert.PleIdeal.pcfgs (F := F))) bodies_eq

/-- The frame of the program over bits. -/
theorem frame_bits : Cert.quiescent_Ple := by
  intro m ρ h
  rw [defs_eq]
  exact frame (F := Bits) m ρ

end Cert.Calls.Ple

end
-- ==== Proof.lean ====
/- The claims about the calls of the layer, put together: the frames of all calls but the last come with
   the programs; the last call's frame and what each call computes are proved in modules of their own under `Calls`. -/
module

public import proofs.«01_k».proof.Defs
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.Gelu
public import proofs.«01_k».proof.Proof.Gen.Gelu.Skeleton
public import proofs.«01_k».proof.Proof.Gen.Gelu.Launch
public import proofs.«01_k».proof.Proof.Gen.Gelu.Points
public import proofs.«01_k».proof.Proof.Gen.Gelu.Frame
public import proofs.«01_k».proof.Proof.Gen.GeluIdeal
public import proofs.«01_k».proof.Proof.Gen.GeluIdeal.Skeleton
public import proofs.«01_k».proof.Proof.Gen.GeluIdeal.Launch
public import proofs.«01_k».proof.Proof.Gen.GeluIdeal.Points
public import proofs.«01_k».proof.Proof.Gen.GeluIdeal.Frame
public import proofs.«01_k».proof.Proof.Gen.GeluRefIdeal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesRefIdeal
public import proofs.«01_k».proof.Proof.Gen.Gmlp
public import proofs.«01_k».proof.Proof.Gen.Gmlp.Skeleton
public import proofs.«01_k».proof.Proof.Gen.Gmlp.Launch
public import proofs.«01_k».proof.Proof.Gen.Gmlp.Points
public import proofs.«01_k».proof.Proof.Gen.Gmlp.Frame
public import proofs.«01_k».proof.Proof.Gen.GmlpIdeal
public import proofs.«01_k».proof.Proof.Gen.GmlpIdeal.Skeleton
public import proofs.«01_k».proof.Proof.Gen.GmlpIdeal.Launch
public import proofs.«01_k».proof.Proof.Gen.GmlpIdeal.Points
public import proofs.«01_k».proof.Proof.Gen.GmlpIdeal.Frame
public import proofs.«01_k».proof.Proof.Gen.GmlpRefIdeal
public import proofs.«01_k».proof.Proof.Gen.MergeA
public import proofs.«01_k».proof.Proof.Gen.MergeA.Skeleton
public import proofs.«01_k».proof.Proof.Gen.MergeA.Launch
public import proofs.«01_k».proof.Proof.Gen.MergeA.Points
public import proofs.«01_k».proof.Proof.Gen.MergeA.Frame
public import proofs.«01_k».proof.Proof.Gen.MergeAIdeal
public import proofs.«01_k».proof.Proof.Gen.MergeAIdeal.Skeleton
public import proofs.«01_k».proof.Proof.Gen.MergeAIdeal.Launch
public import proofs.«01_k».proof.Proof.Gen.MergeAIdeal.Points
public import proofs.«01_k».proof.Proof.Gen.MergeAIdeal.Frame
public import proofs.«01_k».proof.Proof.Gen.MergeARefIdeal
public import proofs.«01_k».proof.Proof.Gen.MergeB
public import proofs.«01_k».proof.Proof.Gen.MergeB.Skeleton
public import proofs.«01_k».proof.Proof.Gen.MergeB.Launch
public import proofs.«01_k».proof.Proof.Gen.MergeB.Points
public import proofs.«01_k».proof.Proof.Gen.MergeB.Frame
public import proofs.«01_k».proof.Proof.Gen.MergeBIdeal
public import proofs.«01_k».proof.Proof.Gen.MergeBIdeal.Skeleton
public import proofs.«01_k».proof.Proof.Gen.MergeBIdeal.Launch
public import proofs.«01_k».proof.Proof.Gen.MergeBIdeal.Points
public import proofs.«01_k».proof.Proof.Gen.MergeBIdeal.Frame
public import proofs.«01_k».proof.Proof.Gen.MergeBRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Ple
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleRefIdeal
public import Idealize.ShloMosaic.Adequacy
public import proofs.«01_k».proof.Proof.Gen.NormIdeal.Value
public import proofs.«01_k».proof.Proof.Gen.GeluIdeal.Value
public import proofs.«01_k».proof.Proof.Gen.QkvIdeal.Value
public import proofs.«01_k».proof.Proof.Gen.GatesIdeal.Value
public import proofs.«01_k».proof.Proof.Gen.GmlpIdeal.Value
public import proofs.«01_k».proof.Proof.Gen.MergeAIdeal.Value
public import proofs.«01_k».proof.Proof.Gen.MergeBIdeal.Value
public import proofs.«01_k».proof.Proof.Gen.OutIdeal.Value
public import proofs.«01_k».proof.Proof.Gen.UpIdeal.Value
public import proofs.«01_k».proof.Proof.Gen.DownIdeal.Value
public import proofs.«01_k».proof.Proof.Gen.NormRefIdeal.Run
public import proofs.«01_k».proof.Proof.Gen.NormRefIdeal.Read
public import proofs.«01_k».proof.Proof.Gen.GeluRefIdeal.Run
public import proofs.«01_k».proof.Proof.Gen.GeluRefIdeal.Read
public import proofs.«01_k».proof.Proof.Gen.QkvRefIdeal.Run
public import proofs.«01_k».proof.Proof.Gen.QkvRefIdeal.Read
public import proofs.«01_k».proof.Proof.Gen.GatesRefIdeal.Run
public import proofs.«01_k».proof.Proof.Gen.GatesRefIdeal.Read
public import proofs.«01_k».proof.Proof.Gen.GmlpRefIdeal.Run
public import proofs.«01_k».proof.Proof.Gen.GmlpRefIdeal.Read
public import proofs.«01_k».proof.Proof.Gen.MergeARefIdeal.Run
public import proofs.«01_k».proof.Proof.Gen.MergeARefIdeal.Read
public import proofs.«01_k».proof.Proof.Gen.MergeBRefIdeal.Run
public import proofs.«01_k».proof.Proof.Gen.MergeBRefIdeal.Read
public import proofs.«01_k».proof.Proof.Gen.OutRefIdeal.Run
public import proofs.«01_k».proof.Proof.Gen.OutRefIdeal.Read
public import proofs.«01_k».proof.Proof.Gen.UpRefIdeal.Run
public import proofs.«01_k».proof.Proof.Gen.UpRefIdeal.Read
public import proofs.«01_k».proof.Proof.Gen.DownRefIdeal.Run
public import proofs.«01_k».proof.Proof.Gen.DownRefIdeal.Read
public import proofs.«01_k».proof.Proof.Gen.PleRefIdeal.Run
public import proofs.«01_k».proof.Proof.Gen.PleRefIdeal.Read
public import Idealize.ShloMosaic.Init
public import proofs.«01_k».proof.Proof.Calls.Norm
public import proofs.«01_k».proof.Proof.Calls.Gelu
public import proofs.«01_k».proof.Proof.Calls.Qkv
public import proofs.«01_k».proof.Proof.Calls.Gates
public import proofs.«01_k».proof.Proof.Calls.Gmlp
public import proofs.«01_k».proof.Proof.Calls.MergeA
public import proofs.«01_k».proof.Proof.Calls.MergeB
public import proofs.«01_k».proof.Proof.Calls.Out
public import proofs.«01_k».proof.Proof.Calls.Up
public import proofs.«01_k».proof.Proof.Calls.Down
public import proofs.«01_k».proof.Proof.Calls.PleValue
public import proofs.«01_k».proof.Proof.Calls.PleBits

@[expose] public section

noncomputable section

namespace Cert.Proof

open Idealize.ShloMosaic Idealize.SL.Sem Cert.Norm

/-- Every program runs to its end, leaves its arguments as they were and every counter at zero; the idealised kernels are
    the kernels; and each idealised kernel leaves the results of its reference. -/
theorem claim : Cert.Claim := ⟨
  Cert.Norm.Gen.facts, Cert.NormIdeal.Gen.facts, Cert.NormRefIdeal.Gen.facts,
  Cert.Gelu.Gen.facts, Cert.GeluIdeal.Gen.facts, Cert.GeluRefIdeal.Gen.facts,
  Cert.Qkv.Gen.facts, Cert.QkvIdeal.Gen.facts, Cert.QkvRefIdeal.Gen.facts,
  Cert.Gates.Gen.facts, Cert.GatesIdeal.Gen.facts, Cert.GatesRefIdeal.Gen.facts,
  Cert.Gmlp.Gen.facts, Cert.GmlpIdeal.Gen.facts, Cert.GmlpRefIdeal.Gen.facts,
  Cert.MergeA.Gen.facts, Cert.MergeAIdeal.Gen.facts, Cert.MergeARefIdeal.Gen.facts,
  Cert.MergeB.Gen.facts, Cert.MergeBIdeal.Gen.facts, Cert.MergeBRefIdeal.Gen.facts,
  Cert.Out.Gen.facts, Cert.OutIdeal.Gen.facts, Cert.OutRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Ple.Gen.facts, Cert.PleIdeal.Gen.facts, Cert.PleRefIdeal.Gen.facts,
  fun m ρ _ => Cert.Norm.Gen.frame m ρ,
  fun m ρ _ => Cert.NormIdeal.Gen.frame m ρ,
  fun m ρ _ => (θ_run Cert.NormRefIdeal.defs _ _).mono (fun r h => ⟨fun c => (h c).2, sem_eq_zero_of_no_sems (by decide) r.2⟩)
    (Cert.NormRefIdeal.Value.run (F := Ideal) m ρ),
  fun m ρ _ => Cert.Gelu.Gen.frame m ρ,
  fun m ρ _ => Cert.GeluIdeal.Gen.frame m ρ,
  fun m ρ _ => (θ_run Cert.GeluRefIdeal.defs _ _).mono (fun r h => ⟨fun c => (h c).2, sem_eq_zero_of_no_sems (by decide) r.2⟩)
    (Cert.GeluRefIdeal.Value.run (F := Ideal) m ρ),
  fun m ρ _ => Cert.Qkv.Gen.frame m ρ,
  fun m ρ _ => Cert.QkvIdeal.Gen.frame m ρ,
  fun m ρ _ => (θ_run Cert.QkvRefIdeal.defs _ _).mono (fun r h => ⟨fun c => (h c).2, sem_eq_zero_of_no_sems (by decide) r.2⟩)
    (Cert.QkvRefIdeal.Value.run (F := Ideal) m ρ),
  fun m ρ _ => Cert.Gates.Gen.frame m ρ,
  fun m ρ _ => Cert.GatesIdeal.Gen.frame m ρ,
  fun m ρ _ => (θ_run Cert.GatesRefIdeal.defs _ _).mono (fun r h => ⟨fun c => (h c).2, sem_eq_zero_of_no_sems (by decide) r.2⟩)
    (Cert.GatesRefIdeal.Value.run (F := Ideal) m ρ),
  fun m ρ _ => Cert.Gmlp.Gen.frame m ρ,
  fun m ρ _ => Cert.GmlpIdeal.Gen.frame m ρ,
  fun m ρ _ => (θ_run Cert.GmlpRefIdeal.defs _ _).mono (fun r h => ⟨fun c => (h c).2, sem_eq_zero_of_no_sems (by decide) r.2⟩)
    (Cert.GmlpRefIdeal.Value.run (F := Ideal) m ρ),
  fun m ρ _ => Cert.MergeA.Gen.frame m ρ,
  fun m ρ _ => Cert.MergeAIdeal.Gen.frame m ρ,
  fun m ρ _ => (θ_run Cert.MergeARefIdeal.defs _ _).mono (fun r h => ⟨fun c => (h c).2, sem_eq_zero_of_no_sems (by decide) r.2⟩)
    (Cert.MergeARefIdeal.Value.run (F := Ideal) m ρ),
  fun m ρ _ => Cert.MergeB.Gen.frame m ρ,
  fun m ρ _ => Cert.MergeBIdeal.Gen.frame m ρ,
  fun m ρ _ => (θ_run Cert.MergeBRefIdeal.defs _ _).mono (fun r h => ⟨fun c => (h c).2, sem_eq_zero_of_no_sems (by decide) r.2⟩)
    (Cert.MergeBRefIdeal.Value.run (F := Ideal) m ρ),
  fun m ρ _ => Cert.Out.Gen.frame m ρ,
  fun m ρ _ => Cert.OutIdeal.Gen.frame m ρ,
  fun m ρ _ => (θ_run Cert.OutRefIdeal.defs _ _).mono (fun r h => ⟨fun c => (h c).2.2.2, sem_eq_zero_of_no_sems (by decide) r.2⟩)
    (Cert.OutRefIdeal.Value.run (F := Ideal) m ρ),
  fun m ρ _ => Cert.Up.Gen.frame m ρ,
  fun m ρ _ => Cert.UpIdeal.Gen.frame m ρ,
  fun m ρ _ => (θ_run Cert.UpRefIdeal.defs _ _).mono (fun r h => ⟨fun c => (h c).2, sem_eq_zero_of_no_sems (by decide) r.2⟩)
    (Cert.UpRefIdeal.Value.run (F := Ideal) m ρ),
  fun m ρ _ => Cert.Down.Gen.frame m ρ,
  fun m ρ _ => Cert.DownIdeal.Gen.frame m ρ,
  fun m ρ _ => (θ_run Cert.DownRefIdeal.defs _ _).mono (fun r h => ⟨fun c => (h c).2.2.2, sem_eq_zero_of_no_sems (by decide) r.2⟩)
    (Cert.DownRefIdeal.Value.run (F := Ideal) m ρ),
  Cert.Calls.Ple.frame_bits,
  fun m ρ _ => Cert.Calls.Ple.frame (F := Ideal) m ρ,
  fun m ρ _ => (θ_run Cert.PleRefIdeal.defs _ _).mono (fun r h => ⟨fun c => (h c).2, sem_eq_zero_of_no_sems (by decide) r.2⟩)
    (Cert.PleRefIdeal.Value.run (F := Ideal) m ρ),
  trivial, Cert.Calls.Norm.algebraic, trivial, Cert.Calls.Gelu.algebraic, trivial, Cert.Calls.Qkv.algebraic, trivial, Cert.Calls.Gates.algebraic, trivial, Cert.Calls.Gmlp.algebraic, trivial, Cert.Calls.MergeA.algebraic, trivial,
  Cert.Calls.MergeB.algebraic, trivial, Cert.Calls.Out.algebraic, trivial, Cert.Calls.Up.algebraic, trivial, Cert.Calls.Down.algebraic, trivial, Cert.Calls.Ple.algebraic⟩

end Cert.Proof

end
